-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20x6144x256 : Shape := ⟨3, ![20, 6144, 256]⟩
abbrev S20x6144 : Shape := ⟨2, ![20, 6144]⟩
abbrev S20x1x6144 : Shape := ⟨3, ![20, 1, 6144]⟩
abbrev S_ : Shape := ⟨0, ![]⟩
abbrev S20x256x6144 : Shape := ⟨3, ![20, 256, 6144]⟩
abbrev S20x6144x1 : Shape := ⟨3, ![20, 6144, 1]⟩
abbrev S20x6144x128 : Shape := ⟨3, ![20, 6144, 128]⟩
abbrev S1x1x6144 : Shape := ⟨3, ![1, 1, 6144]⟩
abbrev S1x6144x256 : Shape := ⟨3, ![1, 6144, 256]⟩
abbrev S1x256x6144 : Shape := ⟨3, ![1, 256, 6144]⟩
abbrev S1x6144x128 : Shape := ⟨3, ![1, 6144, 128]⟩
abbrev S1x512x256 : Shape := ⟨3, ![1, 512, 256]⟩
abbrev S6144x128 : Shape := ⟨2, ![6144, 128]⟩
abbrev S512x512 : Shape := ⟨2, ![512, 512]⟩
abbrev S6144x256 : Shape := ⟨2, ![6144, 256]⟩
abbrev S256x512 : Shape := ⟨2, ![256, 512]⟩
abbrev S1x1x128 : Shape := ⟨3, ![1, 1, 128]⟩
abbrev S1x128 : Shape := ⟨2, ![1, 128]⟩
abbrev S128x128 : Shape := ⟨2, ![128, 128]⟩
abbrev S512x256 : Shape := ⟨2, ![512, 256]⟩
abbrev S32x128 : Shape := ⟨2, ![32, 128]⟩
abbrev S1x32x128 : Shape := ⟨3, ![1, 32, 128]⟩
abbrev S128 : Shape := ⟨1, ![128]⟩
abbrev S256x128 : Shape := ⟨2, ![256, 128]⟩
abbrev S1x256x512 : Shape := ⟨3, ![1, 256, 512]⟩

abbrev nBuf : Space → Nat
  | .hbm => 20
  | .vmem => 33
  | .smem => 0
  | _ => 0

abbrev bufTy : (tb : Table) → Fin (tcTables nBuf tb) → BufTy
  | .hbm, ⟨0, _⟩ => ⟨S20x6144x256, .bf16⟩
  | .hbm, ⟨1, _⟩ => ⟨S20x6144x256, .bf16⟩
  | .hbm, ⟨2, _⟩ => ⟨S20x6144x256, .bf16⟩
  | .hbm, ⟨3, _⟩ => ⟨S20x6144x256, .bf16⟩
  | .hbm, ⟨4, _⟩ => ⟨S20x6144x256, .bf16⟩
  | .hbm, ⟨5, _⟩ => ⟨S20x6144x256, .bf16⟩
  | .hbm, ⟨6, _⟩ => ⟨S20x6144x256, .bf16⟩
  | .hbm, ⟨7, _⟩ => ⟨S20x6144, .f32⟩
  | .hbm, ⟨8, _⟩ => ⟨S20x6144, .f32⟩
  | .hbm, ⟨9, _⟩ => ⟨S20x1x6144, .f32⟩
  | .hbm, ⟨10, _⟩ => ⟨S_, .bf16⟩
  | .hbm, ⟨11, _⟩ => ⟨S20x6144x256, .bf16⟩
  | .hbm, ⟨12, _⟩ => ⟨S20x6144x256, .bf16⟩
  | .hbm, ⟨13, _⟩ => ⟨S20x256x6144, .bf16⟩
  | .hbm, ⟨14, _⟩ => ⟨S20x256x6144, .bf16⟩
  | .hbm, ⟨15, _⟩ => ⟨S20x6144x1, .f32⟩
  | .hbm, ⟨16, _⟩ => ⟨S20x6144x128, .f32⟩
  | .hbm, ⟨17, _⟩ => ⟨S20x6144x256, .bf16⟩
  | .hbm, ⟨18, _⟩ => ⟨S20x6144x256, .bf16⟩
  | .hbm, ⟨19, _⟩ => ⟨S20x6144x256, .bf16⟩
  | .local _ .vmem, ⟨0, _⟩ => ⟨S1x1x6144, .f32⟩
  | .local _ .vmem, ⟨1, _⟩ => ⟨S1x1x6144, .f32⟩
  | .local _ .vmem, ⟨2, _⟩ => ⟨S1x6144x256, .bf16⟩
  | .local _ .vmem, ⟨3, _⟩ => ⟨S1x6144x256, .bf16⟩
  | .local _ .vmem, ⟨4, _⟩ => ⟨S1x6144x256, .bf16⟩
  | .local _ .vmem, ⟨5, _⟩ => ⟨S1x6144x256, .bf16⟩
  | .local _ .vmem, ⟨6, _⟩ => ⟨S1x256x6144, .bf16⟩
  | .local _ .vmem, ⟨7, _⟩ => ⟨S1x256x6144, .bf16⟩
  | .local _ .vmem, ⟨8, _⟩ => ⟨S1x256x6144, .bf16⟩
  | .local _ .vmem, ⟨9, _⟩ => ⟨S1x256x6144, .bf16⟩
  | .local _ .vmem, ⟨10, _⟩ => ⟨S1x6144x128, .f32⟩
  | .local _ .vmem, ⟨11, _⟩ => ⟨S1x6144x128, .f32⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S6144x128, .f32⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S6144x256, .f32⟩
  | .local _ .vmem, ⟨31, _⟩ => ⟨S256x512, .f32⟩
  | .local _ .vmem, ⟨32, _⟩ => ⟨S256x512, .f32⟩
  | _, _ => ⟨S20x6144x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![20, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2355 : BitVec 32 := 0#32
  let c48_i32 : BitVec 32 := 48#32
  let v6430 : BitVec 32 := Scalar.addi c0_i32_2355 c48_i32
  let c1_i32_2356 : BitVec 32 := 1#32
  ⟨c0_i32_2355, v6430, c1_i32_2356⟩
def k0_mult1 (k0_t1 : Fin k0_t1_loop.trips) : BitVec 32 :=
  let c0_i32_2355 : BitVec 32 := 0#32
  let c1_i32_2356 : BitVec 32 := 1#32
  let arg23 : BitVec 32 := Scf.iv c0_i32_2355 c1_i32_2356 k0_t1
  let c128_i32_2361 : BitVec 32 := 128#32
  let v6435 : BitVec 32 := Scalar.muli arg23 c128_i32_2361
  v6435
def k0_off1 (k0_t1 : Fin k0_t1_loop.trips) : Fin 3 → Nat :=
  let c0_2362 : Index := 0#32
  let c0_2363 : Index := 0#32
  let c0_i32_2355 : BitVec 32 := 0#32
  let c1_i32_2356 : BitVec 32 := 1#32
  let arg23 : BitVec 32 := Scf.iv c0_i32_2355 c1_i32_2356 k0_t1
  let c128_i32_2361 : BitVec 32 := 128#32
  let v6435 : BitVec 32 := Scalar.muli arg23 c128_i32_2361
  let v6436 : BitVec 32 := v6435
  let v6437 : Index := Scalar.indexCast v6436
  ![0, 0, v6437.toNat]
def k0_mult2 (k0_t1 : Fin k0_t1_loop.trips) : BitVec 32 :=
  let c0_i32_2355 : BitVec 32 := 0#32
  let c1_i32_2356 : BitVec 32 := 1#32
  let arg23 : BitVec 32 := Scf.iv c0_i32_2355 c1_i32_2356 k0_t1
  let c128_i32_2364 : BitVec 32 := 128#32
  let v6443 : BitVec 32 := Scalar.muli arg23 c128_i32_2364
  v6443
def k0_off2 (k0_t1 : Fin k0_t1_loop.trips) : Fin 2 → Nat :=
  let c0_i32_2355 : BitVec 32 := 0#32
  let c1_i32_2356 : BitVec 32 := 1#32
  let arg23 : BitVec 32 := Scf.iv c0_i32_2355 c1_i32_2356 k0_t1
  let c128_i32_2364 : BitVec 32 := 128#32
  let v6443 : BitVec 32 := Scalar.muli arg23 c128_i32_2364
  let v6444 : BitVec 32 := v6443
  let v6445 : Index := Scalar.indexCast v6444
  let c0_2365 : Index := 0#32
  ![v6445.toNat, 0]
def k0_mult3 (i : grid0.Coords) : BitVec 32 :=
  let arg1 : BitVec 32 := BitVec.ofNat 32 (i 1).val
  let c512_i32 : BitVec 32 := 512#32
  let v11 : BitVec 32 := Scalar.muli arg1 c512_i32
  v11
def k0_off3 (i : grid0.Coords) : Fin 3 → Nat :=
  let c0_5 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_6 : Index := 0#32
  ![0, v13.toNat, 0]
def k0_mult4 (i : grid0.Coords) : BitVec 32 :=
  let arg1 : BitVec 32 := BitVec.ofNat 32 (i 1).val
  let c512_i32_21 : BitVec 32 := 512#32
  let v31 : BitVec 32 := Scalar.muli arg1 c512_i32_21
  let c0_i32_22 : BitVec 32 := 0#32
  let v32 : BitVec 32 := Scalar.addi v31 c0_i32_22
  v32
def k0_off4 (i : grid0.Coords) (c0_i32_22 : BitVec 32) : Fin 2 → Nat :=
  let arg1 : BitVec 32 := BitVec.ofNat 32 (i 1).val
  let c512_i32_21 : BitVec 32 := 512#32
  let v31 : BitVec 32 := Scalar.muli arg1 c512_i32_21
  let v32 : BitVec 32 := Scalar.addi v31 c0_i32_22
  let v33 : BitVec 32 := v32
  let v34 : Index := Scalar.indexCast v33
  let c0_23 : Index := 0#32
  ![v34.toNat, 0]
def k0_off5 (i : grid0.Coords) (c0_i32_22 : BitVec 32) : Fin 3 → Nat :=
  let c0_24 : Index := 0#32
  let arg1 : BitVec 32 := BitVec.ofNat 32 (i 1).val
  let c512_i32_21 : BitVec 32 := 512#32
  let v31 : BitVec 32 := Scalar.muli arg1 c512_i32_21
  let v32 : BitVec 32 := Scalar.addi v31 c0_i32_22
  let v33 : BitVec 32 := v32
  let v36 : Index := Scalar.indexCast v33
  let c0_25 : Index := 0#32
  ![0, v36.toNat, 0]
def k0_mult5 (i : grid0.Coords) : BitVec 32 :=
  let arg1 : BitVec 32 := BitVec.ofNat 32 (i 1).val
  let c512_i32_157 : BitVec 32 := 512#32
  let v427 : BitVec 32 := Scalar.muli arg1 c512_i32_157
  let c32_i32 : BitVec 32 := 32#32
  let v428 : BitVec 32 := Scalar.addi v427 c32_i32
  v428
def k0_mult6 (i : grid0.Coords) : BitVec 32 :=
  let arg1 : BitVec 32 := BitVec.ofNat 32 (i 1).val
  let c512_i32_300 : BitVec 32 := 512#32
  let v823 : BitVec 32 := Scalar.muli arg1 c512_i32_300
  let c64_i32 : BitVec 32 := 64#32
  let v824 : BitVec 32 := Scalar.addi v823 c64_i32
  v824
def k0_mult7 (i : grid0.Coords) : BitVec 32 :=
  let arg1 : BitVec 32 := BitVec.ofNat 32 (i 1).val
  let c512_i32_443 : BitVec 32 := 512#32
  let v1219 : BitVec 32 := Scalar.muli arg1 c512_i32_443
  let c96_i32 : BitVec 32 := 96#32
  let v1220 : BitVec 32 := Scalar.addi v1219 c96_i32
  v1220
def k0_mult8 (i : grid0.Coords) : BitVec 32 :=
  let arg1 : BitVec 32 := BitVec.ofNat 32 (i 1).val
  let c512_i32_586 : BitVec 32 := 512#32
  let v1615 : BitVec 32 := Scalar.muli arg1 c512_i32_586
  let c128_i32_587 : BitVec 32 := 128#32
  let v1616 : BitVec 32 := Scalar.addi v1615 c128_i32_587
  v1616
def k0_mult9 (i : grid0.Coords) : BitVec 32 :=
  let arg1 : BitVec 32 := BitVec.ofNat 32 (i 1).val
  let c512_i32_731 : BitVec 32 := 512#32
  let v2011 : BitVec 32 := Scalar.muli arg1 c512_i32_731
  let c160_i32 : BitVec 32 := 160#32
  let v2012 : BitVec 32 := Scalar.addi v2011 c160_i32
  v2012
def k0_mult10 (i : grid0.Coords) : BitVec 32 :=
  let arg1 : BitVec 32 := BitVec.ofNat 32 (i 1).val
  let c512_i32_874 : BitVec 32 := 512#32
  let v2407 : BitVec 32 := Scalar.muli arg1 c512_i32_874
  let c192_i32 : BitVec 32 := 192#32
  let v2408 : BitVec 32 := Scalar.addi v2407 c192_i32
  v2408
def k0_mult11 (i : grid0.Coords) : BitVec 32 :=
  let arg1 : BitVec 32 := BitVec.ofNat 32 (i 1).val
  let c512_i32_1017 : BitVec 32 := 512#32
  let v2803 : BitVec 32 := Scalar.muli arg1 c512_i32_1017
  let c224_i32 : BitVec 32 := 224#32
  let v2804 : BitVec 32 := Scalar.addi v2803 c224_i32
  v2804
def k0_mult12 (i : grid0.Coords) : BitVec 32 :=
  let arg1 : BitVec 32 := BitVec.ofNat 32 (i 1).val
  let c512_i32_1160 : BitVec 32 := 512#32
  let v3199 : BitVec 32 := Scalar.muli arg1 c512_i32_1160
  let c256_i32_1161 : BitVec 32 := 256#32
  let v3200 : BitVec 32 := Scalar.addi v3199 c256_i32_1161
  v3200
def k0_mult13 (i : grid0.Coords) : BitVec 32 :=
  let arg1 : BitVec 32 := BitVec.ofNat 32 (i 1).val
  let c512_i32_1305 : BitVec 32 := 512#32
  let v3595 : BitVec 32 := Scalar.muli arg1 c512_i32_1305
  let c288_i32 : BitVec 32 := 288#32
  let v3596 : BitVec 32 := Scalar.addi v3595 c288_i32
  v3596
def k0_mult14 (i : grid0.Coords) : BitVec 32 :=
  let arg1 : BitVec 32 := BitVec.ofNat 32 (i 1).val
  let c512_i32_1448 : BitVec 32 := 512#32
  let v3991 : BitVec 32 := Scalar.muli arg1 c512_i32_1448
  let c320_i32 : BitVec 32 := 320#32
  let v3992 : BitVec 32 := Scalar.addi v3991 c320_i32
  v3992
def k0_mult15 (i : grid0.Coords) : BitVec 32 :=
  let arg1 : BitVec 32 := BitVec.ofNat 32 (i 1).val
  let c512_i32_1591 : BitVec 32 := 512#32
  let v4387 : BitVec 32 := Scalar.muli arg1 c512_i32_1591
  let c352_i32 : BitVec 32 := 352#32
  let v4388 : BitVec 32 := Scalar.addi v4387 c352_i32
  v4388
def k0_mult16 (i : grid0.Coords) : BitVec 32 :=
  let arg1 : BitVec 32 := BitVec.ofNat 32 (i 1).val
  let c512_i32_1734 : BitVec 32 := 512#32
  let v4783 : BitVec 32 := Scalar.muli arg1 c512_i32_1734
  let c384_i32_1735 : BitVec 32 := 384#32
  let v4784 : BitVec 32 := Scalar.addi v4783 c384_i32_1735
  v4784
def k0_mult17 (i : grid0.Coords) : BitVec 32 :=
  let arg1 : BitVec 32 := BitVec.ofNat 32 (i 1).val
  let c512_i32_1879 : BitVec 32 := 512#32
  let v5179 : BitVec 32 := Scalar.muli arg1 c512_i32_1879
  let c416_i32 : BitVec 32 := 416#32
  let v5180 : BitVec 32 := Scalar.addi v5179 c416_i32
  v5180
def k0_mult18 (i : grid0.Coords) : BitVec 32 :=
  let arg1 : BitVec 32 := BitVec.ofNat 32 (i 1).val
  let c512_i32_2022 : BitVec 32 := 512#32
  let v5575 : BitVec 32 := Scalar.muli arg1 c512_i32_2022
  let c448_i32 : BitVec 32 := 448#32
  let v5576 : BitVec 32 := Scalar.addi v5575 c448_i32
  v5576
def k0_mult19 (i : grid0.Coords) : BitVec 32 :=
  let arg1 : BitVec 32 := BitVec.ofNat 32 (i 1).val
  let c512_i32_2165 : BitVec 32 := 512#32
  let v5971 : BitVec 32 := Scalar.muli arg1 c512_i32_2165
  let c480_i32 : BitVec 32 := 480#32
  let v5972 : BitVec 32 := Scalar.addi v5971 c480_i32
  v5972
def k0_off6 (i : grid0.Coords) : Fin 3 → Nat :=
  let c0_2310 : Index := 0#32
  let c0_2311 : Index := 0#32
  let arg1 : BitVec 32 := BitVec.ofNat 32 (i 1).val
  let c512_i32 : BitVec 32 := 512#32
  let v11 : BitVec 32 := Scalar.muli arg1 c512_i32
  let v12 : BitVec 32 := v11
  let v6368 : Index := Scalar.indexCast v12
  ![0, 0, v6368.toNat]
def k0_off7 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v6387 : Index := Scalar.indexCast v12
  let c0_2326 : Index := 0#32
  ![v6387.toNat, 0]
@[reducible] def k0_t2_loop (i : grid0.Coords) : Scf.Loop 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2336 : BitVec 32 := 1#32
  ⟨v6398, v6403, c1_i32_2336⟩
def k0_mult20 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2355 : BitVec 32 := 512#32
  let v6430 : BitVec 32 := Scalar.muli arg23 c512_i32_2355
  v6430
def k0_off8 (i : grid0.Coords) (k0_t2 : Fin (k0_t2_loop i).trips) : Fin 3 → Nat :=
  let c0_2356 : Index := 0#32
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2355 : BitVec 32 := 512#32
  let v6430 : BitVec 32 := Scalar.muli arg23 c512_i32_2355
  let v6431 : BitVec 32 := v6430
  let v6432 : Index := Scalar.indexCast v6431
  let c0_2357 : Index := 0#32
  ![0, v6432.toNat, 0]
def k0_mult21 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2372 : BitVec 32 := 512#32
  let v6450 : BitVec 32 := Scalar.muli arg23 c512_i32_2372
  let c0_i32_2373 : BitVec 32 := 0#32
  let v6451 : BitVec 32 := Scalar.addi v6450 c0_i32_2373
  v6451
def k0_off9 (i : grid0.Coords) (k0_t2 : Fin (k0_t2_loop i).trips) (c0_i32_2373 : BitVec 32) : Fin 2 → Nat :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2372 : BitVec 32 := 512#32
  let v6450 : BitVec 32 := Scalar.muli arg23 c512_i32_2372
  let v6451 : BitVec 32 := Scalar.addi v6450 c0_i32_2373
  let v6452 : BitVec 32 := v6451
  let v6453 : Index := Scalar.indexCast v6452
  let c0_2374 : Index := 0#32
  ![v6453.toNat, 0]
def k0_off10 (i : grid0.Coords) (k0_t2 : Fin (k0_t2_loop i).trips) (c0_i32_2373 : BitVec 32) : Fin 3 → Nat :=
  let c0_2375 : Index := 0#32
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2372 : BitVec 32 := 512#32
  let v6450 : BitVec 32 := Scalar.muli arg23 c512_i32_2372
  let v6451 : BitVec 32 := Scalar.addi v6450 c0_i32_2373
  let v6452 : BitVec 32 := v6451
  let v6455 : Index := Scalar.indexCast v6452
  let c0_2376 : Index := 0#32
  ![0, v6455.toNat, 0]
def k0_mult22 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2505 : BitVec 32 := 512#32
  let v6810 : BitVec 32 := Scalar.muli arg23 c512_i32_2505
  let c32_i32_2506 : BitVec 32 := 32#32
  let v6811 : BitVec 32 := Scalar.addi v6810 c32_i32_2506
  v6811
def k0_mult23 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2638 : BitVec 32 := 512#32
  let v7170 : BitVec 32 := Scalar.muli arg23 c512_i32_2638
  let c64_i32_2639 : BitVec 32 := 64#32
  let v7171 : BitVec 32 := Scalar.addi v7170 c64_i32_2639
  v7171
def k0_mult24 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2771 : BitVec 32 := 512#32
  let v7530 : BitVec 32 := Scalar.muli arg23 c512_i32_2771
  let c96_i32_2772 : BitVec 32 := 96#32
  let v7531 : BitVec 32 := Scalar.addi v7530 c96_i32_2772
  v7531
def k0_mult25 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2904 : BitVec 32 := 512#32
  let v7890 : BitVec 32 := Scalar.muli arg23 c512_i32_2904
  let c128_i32_2905 : BitVec 32 := 128#32
  let v7891 : BitVec 32 := Scalar.addi v7890 c128_i32_2905
  v7891
def k0_mult26 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3037 : BitVec 32 := 512#32
  let v8250 : BitVec 32 := Scalar.muli arg23 c512_i32_3037
  let c160_i32_3038 : BitVec 32 := 160#32
  let v8251 : BitVec 32 := Scalar.addi v8250 c160_i32_3038
  v8251
def k0_mult27 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3170 : BitVec 32 := 512#32
  let v8610 : BitVec 32 := Scalar.muli arg23 c512_i32_3170
  let c192_i32_3171 : BitVec 32 := 192#32
  let v8611 : BitVec 32 := Scalar.addi v8610 c192_i32_3171
  v8611
def k0_mult28 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3303 : BitVec 32 := 512#32
  let v8970 : BitVec 32 := Scalar.muli arg23 c512_i32_3303
  let c224_i32_3304 : BitVec 32 := 224#32
  let v8971 : BitVec 32 := Scalar.addi v8970 c224_i32_3304
  v8971
def k0_mult29 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3436 : BitVec 32 := 512#32
  let v9330 : BitVec 32 := Scalar.muli arg23 c512_i32_3436
  let c256_i32_3437 : BitVec 32 := 256#32
  let v9331 : BitVec 32 := Scalar.addi v9330 c256_i32_3437
  v9331
def k0_mult30 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3569 : BitVec 32 := 512#32
  let v9690 : BitVec 32 := Scalar.muli arg23 c512_i32_3569
  let c288_i32_3570 : BitVec 32 := 288#32
  let v9691 : BitVec 32 := Scalar.addi v9690 c288_i32_3570
  v9691
def k0_mult31 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3702 : BitVec 32 := 512#32
  let v10050 : BitVec 32 := Scalar.muli arg23 c512_i32_3702
  let c320_i32_3703 : BitVec 32 := 320#32
  let v10051 : BitVec 32 := Scalar.addi v10050 c320_i32_3703
  v10051
def k0_mult32 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3835 : BitVec 32 := 512#32
  let v10410 : BitVec 32 := Scalar.muli arg23 c512_i32_3835
  let c352_i32_3836 : BitVec 32 := 352#32
  let v10411 : BitVec 32 := Scalar.addi v10410 c352_i32_3836
  v10411
def k0_mult33 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_3968 : BitVec 32 := 512#32
  let v10770 : BitVec 32 := Scalar.muli arg23 c512_i32_3968
  let c384_i32_3969 : BitVec 32 := 384#32
  let v10771 : BitVec 32 := Scalar.addi v10770 c384_i32_3969
  v10771
def k0_mult34 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_4101 : BitVec 32 := 512#32
  let v11130 : BitVec 32 := Scalar.muli arg23 c512_i32_4101
  let c416_i32_4102 : BitVec 32 := 416#32
  let v11131 : BitVec 32 := Scalar.addi v11130 c416_i32_4102
  v11131
def k0_mult35 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_4234 : BitVec 32 := 512#32
  let v11490 : BitVec 32 := Scalar.muli arg23 c512_i32_4234
  let c448_i32_4235 : BitVec 32 := 448#32
  let v11491 : BitVec 32 := Scalar.addi v11490 c448_i32_4235
  v11491
def k0_mult36 (i : grid0.Coords) (k0_t2 : Fin (k0_t2_loop i).trips) : BitVec 32 :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_4367 : BitVec 32 := 512#32
  let v11850 : BitVec 32 := Scalar.muli arg23 c512_i32_4367
  let c480_i32_4368 : BitVec 32 := 480#32
  let v11851 : BitVec 32 := Scalar.addi v11850 c480_i32_4368
  v11851
def k0_off11 (i : grid0.Coords) (k0_t2 : Fin (k0_t2_loop i).trips) : Fin 3 → Nat :=
  let c0_4502 : Index := 0#32
  let c0_4503 : Index := 0#32
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2355 : BitVec 32 := 512#32
  let v6430 : BitVec 32 := Scalar.muli arg23 c512_i32_2355
  let v6431 : BitVec 32 := v6430
  let v12211 : Index := Scalar.indexCast v6431
  ![0, 0, v12211.toNat]
def k0_off12 (i : grid0.Coords) (k0_t2 : Fin (k0_t2_loop i).trips) : Fin 2 → Nat :=
  let arg1 : BitVec 32 := BitVec.ofNat 32 (i 1).val
  let c1_i32 : BitVec 32 := 1#32
  let v6398 : BitVec 32 := Scalar.addi arg1 c1_i32
  let c1_i32_2336 : BitVec 32 := 1#32
  let arg23 : BitVec 32 := Scf.iv v6398 c1_i32_2336 k0_t2
  let c512_i32_2355 : BitVec 32 := 512#32
  let v6430 : BitVec 32 := Scalar.muli arg23 c512_i32_2355
  let v6431 : BitVec 32 := v6430
  let v12230 : Index := Scalar.indexCast v6431
  let c0_4518 : Index := 0#32
  ![v12230.toNat, 0]
@[reducible] def k0_t3_loop (i : grid0.Coords) : Scf.Loop 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let v6400 : BitVec 32 := Scalar.addi v6398 v6399
  let c1_i32_2337 : BitVec 32 := 1#32
  ⟨v6403, v6400, c1_i32_2337⟩
def k0_mult37 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2355 : BitVec 32 := 512#32
  let v6430 : BitVec 32 := Scalar.muli arg23 c512_i32_2355
  v6430
def k0_off13 (i : grid0.Coords) (k0_t3 : Fin (k0_t3_loop i).trips) : Fin 3 → Nat :=
  let c0_2356 : Index := 0#32
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2355 : BitVec 32 := 512#32
  let v6430 : BitVec 32 := Scalar.muli arg23 c512_i32_2355
  let v6431 : BitVec 32 := v6430
  let v6432 : Index := Scalar.indexCast v6431
  let c0_2357 : Index := 0#32
  ![0, v6432.toNat, 0]
def k0_mult38 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2372 : BitVec 32 := 512#32
  let v6450 : BitVec 32 := Scalar.muli arg23 c512_i32_2372
  let c0_i32_2373 : BitVec 32 := 0#32
  let v6451 : BitVec 32 := Scalar.addi v6450 c0_i32_2373
  v6451
def k0_off14 (i : grid0.Coords) (k0_t3 : Fin (k0_t3_loop i).trips) (c0_i32_2373 : BitVec 32) : Fin 2 → Nat :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2372 : BitVec 32 := 512#32
  let v6450 : BitVec 32 := Scalar.muli arg23 c512_i32_2372
  let v6451 : BitVec 32 := Scalar.addi v6450 c0_i32_2373
  let v6452 : BitVec 32 := v6451
  let v6453 : Index := Scalar.indexCast v6452
  let c0_2374 : Index := 0#32
  ![v6453.toNat, 0]
def k0_off15 (i : grid0.Coords) (k0_t3 : Fin (k0_t3_loop i).trips) (c0_i32_2373 : BitVec 32) : Fin 3 → Nat :=
  let c0_2375 : Index := 0#32
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2372 : BitVec 32 := 512#32
  let v6450 : BitVec 32 := Scalar.muli arg23 c512_i32_2372
  let v6451 : BitVec 32 := Scalar.addi v6450 c0_i32_2373
  let v6452 : BitVec 32 := v6451
  let v6455 : Index := Scalar.indexCast v6452
  let c0_2376 : Index := 0#32
  ![0, v6455.toNat, 0]
def k0_mult39 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2505 : BitVec 32 := 512#32
  let v6810 : BitVec 32 := Scalar.muli arg23 c512_i32_2505
  let c32_i32_2506 : BitVec 32 := 32#32
  let v6811 : BitVec 32 := Scalar.addi v6810 c32_i32_2506
  v6811
def k0_mult40 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2638 : BitVec 32 := 512#32
  let v7170 : BitVec 32 := Scalar.muli arg23 c512_i32_2638
  let c64_i32_2639 : BitVec 32 := 64#32
  let v7171 : BitVec 32 := Scalar.addi v7170 c64_i32_2639
  v7171
def k0_mult41 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2771 : BitVec 32 := 512#32
  let v7530 : BitVec 32 := Scalar.muli arg23 c512_i32_2771
  let c96_i32_2772 : BitVec 32 := 96#32
  let v7531 : BitVec 32 := Scalar.addi v7530 c96_i32_2772
  v7531
def k0_mult42 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2904 : BitVec 32 := 512#32
  let v7890 : BitVec 32 := Scalar.muli arg23 c512_i32_2904
  let c128_i32_2905 : BitVec 32 := 128#32
  let v7891 : BitVec 32 := Scalar.addi v7890 c128_i32_2905
  v7891
def k0_mult43 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3037 : BitVec 32 := 512#32
  let v8250 : BitVec 32 := Scalar.muli arg23 c512_i32_3037
  let c160_i32_3038 : BitVec 32 := 160#32
  let v8251 : BitVec 32 := Scalar.addi v8250 c160_i32_3038
  v8251
def k0_mult44 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3170 : BitVec 32 := 512#32
  let v8610 : BitVec 32 := Scalar.muli arg23 c512_i32_3170
  let c192_i32_3171 : BitVec 32 := 192#32
  let v8611 : BitVec 32 := Scalar.addi v8610 c192_i32_3171
  v8611
def k0_mult45 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3303 : BitVec 32 := 512#32
  let v8970 : BitVec 32 := Scalar.muli arg23 c512_i32_3303
  let c224_i32_3304 : BitVec 32 := 224#32
  let v8971 : BitVec 32 := Scalar.addi v8970 c224_i32_3304
  v8971
def k0_mult46 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3436 : BitVec 32 := 512#32
  let v9330 : BitVec 32 := Scalar.muli arg23 c512_i32_3436
  let c256_i32_3437 : BitVec 32 := 256#32
  let v9331 : BitVec 32 := Scalar.addi v9330 c256_i32_3437
  v9331
def k0_mult47 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3569 : BitVec 32 := 512#32
  let v9690 : BitVec 32 := Scalar.muli arg23 c512_i32_3569
  let c288_i32_3570 : BitVec 32 := 288#32
  let v9691 : BitVec 32 := Scalar.addi v9690 c288_i32_3570
  v9691
def k0_mult48 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3702 : BitVec 32 := 512#32
  let v10050 : BitVec 32 := Scalar.muli arg23 c512_i32_3702
  let c320_i32_3703 : BitVec 32 := 320#32
  let v10051 : BitVec 32 := Scalar.addi v10050 c320_i32_3703
  v10051
def k0_mult49 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3835 : BitVec 32 := 512#32
  let v10410 : BitVec 32 := Scalar.muli arg23 c512_i32_3835
  let c352_i32_3836 : BitVec 32 := 352#32
  let v10411 : BitVec 32 := Scalar.addi v10410 c352_i32_3836
  v10411
def k0_mult50 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_3968 : BitVec 32 := 512#32
  let v10770 : BitVec 32 := Scalar.muli arg23 c512_i32_3968
  let c384_i32_3969 : BitVec 32 := 384#32
  let v10771 : BitVec 32 := Scalar.addi v10770 c384_i32_3969
  v10771
def k0_mult51 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_4101 : BitVec 32 := 512#32
  let v11130 : BitVec 32 := Scalar.muli arg23 c512_i32_4101
  let c416_i32_4102 : BitVec 32 := 416#32
  let v11131 : BitVec 32 := Scalar.addi v11130 c416_i32_4102
  v11131
def k0_mult52 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_4234 : BitVec 32 := 512#32
  let v11490 : BitVec 32 := Scalar.muli arg23 c512_i32_4234
  let c448_i32_4235 : BitVec 32 := 448#32
  let v11491 : BitVec 32 := Scalar.addi v11490 c448_i32_4235
  v11491
def k0_mult53 (i : grid0.Coords) (k0_t3 : Fin (k0_t3_loop i).trips) : BitVec 32 :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_4367 : BitVec 32 := 512#32
  let v11850 : BitVec 32 := Scalar.muli arg23 c512_i32_4367
  let c480_i32_4368 : BitVec 32 := 480#32
  let v11851 : BitVec 32 := Scalar.addi v11850 c480_i32_4368
  v11851
def k0_off16 (i : grid0.Coords) (k0_t3 : Fin (k0_t3_loop i).trips) : Fin 3 → Nat :=
  let c0_4502 : Index := 0#32
  let c0_4503 : Index := 0#32
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2355 : BitVec 32 := 512#32
  let v6430 : BitVec 32 := Scalar.muli arg23 c512_i32_2355
  let v6431 : BitVec 32 := v6430
  let v12211 : Index := Scalar.indexCast v6431
  ![0, 0, v12211.toNat]
def k0_off17 (i : grid0.Coords) (k0_t3 : Fin (k0_t3_loop i).trips) : Fin 2 → Nat :=
  let arg1 : BitVec 32 := BitVec.ofNat 32 (i 1).val
  let c1_i32 : BitVec 32 := 1#32
  let v6398 : BitVec 32 := Scalar.addi arg1 c1_i32
  let c12_i32 : BitVec 32 := 12#32
  let v6399 : BitVec 32 := Scalar.subi c12_i32 v6398
  let c1_i32_2335 : BitVec 32 := 1#32
  let v6401 : BitVec 32 := Scalar.divsi v6399 c1_i32_2335
  let v6402 : BitVec 32 := Scalar.muli v6401 c1_i32_2335
  let v6403 : BitVec 32 := Scalar.addi v6398 v6402
  let c1_i32_2337 : BitVec 32 := 1#32
  let arg23 : BitVec 32 := Scf.iv v6403 c1_i32_2337 k0_t3
  let c512_i32_2355 : BitVec 32 := 512#32
  let v6430 : BitVec 32 := Scalar.muli arg23 c512_i32_2355
  let v6431 : BitVec 32 := v6430
  let v12230 : Index := Scalar.indexCast v6431
  let c0_4518 : Index := 0#32
  ![v12230.toNat, 0]
def k0_mult54 (i : grid0.Coords) : BitVec 32 :=
  let arg1 : BitVec 32 := BitVec.ofNat 32 (i 1).val
  let c512_i32_2338 : BitVec 32 := 512#32
  let v6406 : BitVec 32 := Scalar.muli arg1 c512_i32_2338
  v6406
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6144x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S20x6144x256 : Shape := ⟨3, ![20, 6144, 256]⟩
abbrev S20x6144 : Shape := ⟨2, ![20, 6144]⟩
abbrev S20x6144x6144 : Shape := ⟨3, ![20, 6144, 6144]⟩
abbrev S20x6144x1 : Shape := ⟨3, ![20, 6144, 1]⟩
abbrev S20x192x32x6144 : Shape := ⟨4, ![20, 192, 32, 6144]⟩
abbrev S20x192x6144 : Shape := ⟨3, ![20, 192, 6144]⟩
abbrev S20x192x1x6144 : Shape := ⟨4, ![20, 192, 1, 6144]⟩

abbrev nBuf : Space → Nat
  | .hbm => 12
  | .vmem => 12
  | .smem => 0
  | _ => 0

abbrev bufTy : (tb : Table) → Fin (tcTables nBuf tb) → BufTy
  | .hbm, ⟨0, _⟩ => ⟨S20x6144x256, .bf16⟩
  | .hbm, ⟨1, _⟩ => ⟨S20x6144x256, .bf16⟩
  | .hbm, ⟨2, _⟩ => ⟨S20x6144x256, .bf16⟩
  | .hbm, ⟨3, _⟩ => ⟨S20x6144x256, .bf16⟩
  | .hbm, ⟨4, _⟩ => ⟨S20x6144x256, .bf16⟩
  | .hbm, ⟨5, _⟩ => ⟨S20x6144x256, .bf16⟩
  | .hbm, ⟨6, _⟩ => ⟨S20x6144x256, .bf16⟩
  | .hbm, ⟨7, _⟩ => ⟨S20x6144, .f32⟩
  | .hbm, ⟨8, _⟩ => ⟨S20x6144, .f32⟩
  | .hbm, ⟨9, _⟩ => ⟨S20x6144x256, .bf16⟩
  | .hbm, ⟨10, _⟩ => ⟨S20x6144x256, .bf16⟩
  | .hbm, ⟨11, _⟩ => ⟨S20x6144x256, .bf16⟩
  | .local _ .vmem, ⟨0, _⟩ => ⟨S20x6144x256, .bf16⟩
  | .local _ .vmem, ⟨1, _⟩ => ⟨S20x6144x256, .bf16⟩
  | .local _ .vmem, ⟨2, _⟩ => ⟨S20x6144x256, .bf16⟩
  | .local _ .vmem, ⟨3, _⟩ => ⟨S20x6144x256, .bf16⟩
  | .local _ .vmem, ⟨4, _⟩ => ⟨S20x6144x256, .bf16⟩
  | .local _ .vmem, ⟨5, _⟩ => ⟨S20x6144x256, .bf16⟩
  | .local _ .vmem, ⟨6, _⟩ => ⟨S20x6144x256, .bf16⟩
  | .local _ .vmem, ⟨7, _⟩ => ⟨S20x6144, .f32⟩
  | .local _ .vmem, ⟨8, _⟩ => ⟨S20x6144, .f32⟩
  | .local _ .vmem, ⟨9, _⟩ => ⟨S20x6144x256, .bf16⟩
  | .local _ .vmem, ⟨10, _⟩ => ⟨S20x6144x256, .bf16⟩
  | .local _ .vmem, ⟨11, _⟩ => ⟨S20x6144x256, .bf16⟩
  | _, _ => ⟨S20x6144x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S20x6144x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x6144x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x6144x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x6144x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x6144x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x6144x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x6144x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x6144x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x6144x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x6144x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.Model.lean ====
/- The kernel function's text, rolled up again: the sixteen strips of 32 rows and the four chunks of
   128 columns that one step writes out one after another, as one function of the strip and the chunk,
   and one step as a function of where it reads and of its mask. -/
module

public import proofs.«01_k».proof.Proof.Gen.Kernel.Skeleton

@[expose] public section

set_option synthInstance.maxSize 4096
set_option maxRecDepth 65536

noncomputable section

namespace Cert.Kernel.Rolled

open Idealize.ShloMosaic Idealize.SL.Sem
open Cert.Kernel.Gen

variable {F : FTy → Type} [FloatOps F]

/-- The biased exponent, in place, of a row of nonnegative numbers: the largest step of the table whose
    power of two is not above it. -/
def exponentBits (x : FVec F S1x128 .f32) : IVec S1x128 32 :=
  let steps : IVec S256x128 32 := muli (iota .tc S256x128 32 [0] iota_S256x128_d0_w32) (broadcast S256x128 8388608#32)
  let powers : FVec F S256x128 .f32 := bitcastToFloat .f32 steps
  let kept : IVec S256x128 32 := select (cmpf .olt (broadcastTo S256x128 x broadcasts_S1x128_S256x128) powers) (broadcast S256x128 0#32) steps
  shapeCast S1x128 (multiReductionI .maxsi [0] S128 kept 2147483648#32 reduces_S256x128_S128 rfl) shapeCasts_S128_S1x128

/-- The largest magnitude of each column, scaled down by the greatest number of the 8-bit format. -/
def columnMax (y : FVec F S32x128 .f32) : FVec F S1x128 .f32 :=
  mulf (shapeCast S1x128 (multiReduction .maximumf [0] S128 (absf y) 0xFF800000#32 reduces_S32x128_S128 (.inl rfl) rfl) shapeCasts_S128_S1x128)
    (broadcast S1x128 (Scalar.ofBits .f32 0x3B124925#32))

/-- The exponent bits a column's scale is made from. -/
def scaleBits (y : FVec F S32x128 .f32) : IVec S1x128 32 :=
  let bits := exponentBits (columnMax y)
  select (cmpi .eq bits (broadcast S1x128 0#32)) (broadcast S1x128 1056964608#32) bits

/-- A tile's columns of 32, quantised to 8 bits under their scales and scaled back. -/
def quant (y : FVec F S32x128 .f32) : FVec F S32x128 .bf16 :=
  let bits := scaleBits y
  let scale : FVec F S1x128 .f32 := bitcastToFloat .f32 (addi bits (broadcast S1x128 8388608#32))
  let inv : FVec F S1x128 .f32 := bitcastToFloat .f32 (subi (broadcast S1x128 2122317824#32) bits)
  let codes : FVec F S32x128 .fp8e4m3 := truncf .fp8e4m3
    (minimumf (broadcast S32x128 (Scalar.ofBits .f32 0x43E00000#32))
      (maximumf (broadcast S32x128 (Scalar.ofBits .f32 0xC3E00000#32))
        (mulf y (broadcastTo S32x128 inv broadcasts_S1x128_S32x128)))) bitsLt_fp8e4m3_f32
  mulf (extf .bf16 codes bitsLt_fp8e4m3_bf16)
    (broadcastTo S32x128 (truncf .bf16 scale bitsLt_bf16_f32) broadcasts_S1x128_S32x128)

/-- The causal mask of strip `g` and chunk `c` of a step on the diagonal. -/
def causal (g : Fin 16) (c : Fin 4) (x : FVec F S32x128 .f32) : FVec F S32x128 .f32 :=
  select (cmpi .sle
      (addi (iota .tc S32x128 32 [1] iota_S32x128_d1_w32) (broadcast S32x128 (BitVec.ofNat 32 (128 * c.val))))
      (addi (iota .tc S32x128 32 [0] iota_S32x128_d0_w32) (broadcast S32x128 (BitVec.ofNat 32 (32 * g.val)))))
    x (broadcast S32x128 (Scalar.ofBits .f32 0xFF800000#32))

/-- No mask. -/
def unmasked (g : Fin 16) (c : Fin 4) (x : FVec F S32x128 .f32) : FVec F S32x128 .f32 := x

theorem tile_inb (g : Fin 16) (c : Fin 4) :
    ∀ a, (![32 * g.val, 128 * c.val] : Fin 2 → Nat) a + S32x128.size a ≤ S512x512.size a := by
  revert g c; decide

theorem tile_packed (g : Fin 16) (c : Fin 4) :
    (Rect.unit (s := S512x512) ![32 * g.val, 128 * c.val] S32x128.size (tile_inb g c)).PackedRows (EltTy.packing .bf16) := by
  revert g c; decide

/-- Where one step reads and writes: rows of the queries, of the row statistics, columns of the
    transposed operands, rows of the accumulator. -/
structure At where
  rows : Fin 3 → Nat
  rows_inb : ∀ a, rows a + S1x512x256.size a ≤ S1x6144x256.size a
  stat : Fin 16 → Fin 2 → Nat
  stat_inb : ∀ g a, stat g a + S32x128.size a ≤ S6144x128.size a
  delta : Fin 16 → Fin 3 → Nat
  delta_inb : ∀ g a, delta g a + S1x32x128.size a ≤ S1x6144x128.size a
  cols : Fin 3 → Nat
  cols_inb : ∀ a, cols a + S1x256x512.size a ≤ S1x256x6144.size a
  acc : Fin 2 → Nat
  acc_inb : ∀ a, acc a + S512x256.size a ≤ S6144x256.size a

/-- Where trip `t` of the main loop works. -/
def at2 (i : grid0.Coords) (t : Fin (k0_t2_loop i).trips) : At where
  rows := k0_off8 i t
  rows_inb := k0_off8_inb i t
  stat g := k0_off9 i t (BitVec.ofNat 32 (32 * g.val))
  stat_inb := k0_off9_inb i t
  delta g := k0_off10 i t (BitVec.ofNat 32 (32 * g.val))
  delta_inb := k0_off10_inb i t
  cols := k0_off11 i t
  cols_inb := k0_off11_inb i t
  acc := k0_off12 i t
  acc_inb := k0_off12_inb i t

/-- Where trip `t` of the loop's rest works. -/
def at3 (i : grid0.Coords) (t : Fin (k0_t3_loop i).trips) : At where
  rows := k0_off13 i t
  rows_inb := k0_off13_inb i t
  stat g := k0_off14 i t (BitVec.ofNat 32 (32 * g.val))
  stat_inb := k0_off14_inb i t
  delta g := k0_off15 i t (BitVec.ofNat 32 (32 * g.val))
  delta_inb := k0_off15_inb i t
  cols := k0_off16 i t
  cols_inb := k0_off16_inb i t
  acc := k0_off17 i t
  acc_inb := k0_off17_inb i t

/-- Where the step on the diagonal works. -/
def at1 (i : grid0.Coords) : At where
  rows := k0_off3 i
  rows_inb := k0_off3_inb i
  stat g := k0_off4 i (BitVec.ofNat 32 (32 * g.val))
  stat_inb := k0_off4_inb i
  delta g := k0_off5 i (BitVec.ofNat 32 (32 * g.val))
  delta_inb := k0_off5_inb i
  cols := k0_off6 i
  cols_inb := k0_off6_inb i
  acc := k0_off7 i
  acc_inb := k0_off7_inb i

variable (arg3 : Memref sig .tc .vmem S1x6144x256 .bf16) (arg4 : Memref sig .tc .vmem S1x6144x256 .bf16)
  (arg5 : Memref sig .tc .vmem S1x256x6144 .bf16) (arg6 : Memref sig .tc .vmem S1x256x6144 .bf16)
  (arg7 : Memref sig .tc .vmem S1x6144x128 .f32)
  (arg8 : Memref sig .tc .vmem S1x512x256 .bf16) (arg9 : Memref sig .tc .vmem S1x512x256 .bf16) (arg10 : Memref sig .tc .vmem S1x512x256 .bf16)
  (arg14 : Memref sig .tc .vmem S6144x128 .f32)
  (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S6144x256 .f32) (arg21 : Memref sig .tc .vmem S256x512 .f32) (arg22 : Memref sig .tc .vmem S256x512 .f32)

/-- Strip `g`, chunk `c`: the probabilities and the score gradients of one tile, quantised and kept. -/
def tile (mask : Fin 16 → Fin 4 → FVec F S32x128 .f32 → FVec F S32x128 .f32) (g : Fin 16) (lse dlt : FVec F S32x128 .f32) (c : Fin 4) :
    Prog (TpuEff nD τ sig (Elt F) Λ₀ .tc) PUnit := do
  let s : Vec F S32x128 .f32 ← Prog.lift (.load arg15 (Rect.unit (s := S512x512) ![32 * g.val, 128 * c.val] S32x128.size (tile_inb g c)).toLoadRect (View.loadsAt_vmem h_S32x128))
  let dp : Vec F S32x128 .f32 ← Prog.lift (.load arg16 (Rect.unit (s := S512x512) ![32 * g.val, 128 * c.val] S32x128.size (tile_inb g c)).toLoadRect (View.loadsAt_vmem h_S32x128))
  let _ : Vec F S32x128 .bf16 ← Prog.lift (.load arg17 (Rect.unit (s := S512x512) ![32 * g.val, 128 * c.val] S32x128.size (tile_inb g c)).toLoadRect (View.loadsAt_vmem h_S32x128))
  Prog.lift (.store arg17 (Rect.unit (s := S512x512) ![32 * g.val, 128 * c.val] S32x128.size (tile_inb g c)) (shapeCast S32x128 (quant (exp (mask g c (subf s lse)))) shapeCasts_S32x128_S32x128) Finset.univ (View.stores_vmem h_S32x128 (harg17.storeExact_slice rfl _ (tile_packed g c)) (fun _ => rfl)) (.inl rfl))
  let _ : Vec F S32x128 .bf16 ← Prog.lift (.load arg18 (Rect.unit (s := S512x512) ![32 * g.val, 128 * c.val] S32x128.size (tile_inb g c)).toLoadRect (View.loadsAt_vmem h_S32x128))
  Prog.lift (.store arg18 (Rect.unit (s := S512x512) ![32 * g.val, 128 * c.val] S32x128.size (tile_inb g c)) (shapeCast S32x128 (quant (mulf (exp (mask g c (subf s lse))) (subf dp dlt))) shapeCasts_S32x128_S32x128) Finset.univ (View.stores_vmem h_S32x128 (harg18.storeExact_slice rfl _ (tile_packed g c)) (fun _ => rfl)) (.inl rfl))
  let _ : Vec F S32x128 .bf16 ← Prog.lift (.load arg19 (Rect.unit (s := S512x512) ![32 * g.val, 128 * c.val] S32x128.size (tile_inb g c)).toLoadRect (View.loadsAt_vmem h_S32x128))
  Prog.lift (.store arg19 (Rect.unit (s := S512x512) ![32 * g.val, 128 * c.val] S32x128.size (tile_inb g c)) (shapeCast S32x128 (truncf .bf16 (mulf (exp (mask g c (subf s lse))) (subf dp dlt)) bitsLt_bf16_f32) shapeCasts_S32x128_S32x128) Finset.univ (View.stores_vmem h_S32x128 (harg19.storeExact_slice rfl _ (tile_packed g c)) (fun _ => rfl)) (.inl rfl))

/-- Strip `g`: its row statistics, then its four chunks. -/
def strip (at_ : At) (mask : Fin 16 → Fin 4 → FVec F S32x128 .f32 → FVec F S32x128 .f32) (g : Fin 16) :
    Prog (TpuEff nD τ sig (Elt F) Λ₀ .tc) PUnit := do
  let lse : Vec F S32x128 .f32 ← Prog.lift (.load arg14 (Rect.unit (s := S6144x128) (at_.stat g) S32x128.size (at_.stat_inb g)).toLoadRect (View.loadsAt_vmem h_S32x128))
  let d : Vec F S1x32x128 .f32 ← Prog.lift (.load arg7 (Rect.unit (s := S1x6144x128) (at_.delta g) S1x32x128.size (at_.delta_inb g)).toLoadRect (View.loadsAt_vmem h_S1x32x128))
  tile arg15 arg16 arg17 harg17 arg18 harg18 arg19 harg19 mask g lse (shapeCast S32x128 d shapeCasts_S1x32x128_S32x128) 0
  tile arg15 arg16 arg17 harg17 arg18 harg18 arg19 harg19 mask g lse (shapeCast S32x128 d shapeCasts_S1x32x128_S32x128) 1
  tile arg15 arg16 arg17 harg17 arg18 harg18 arg19 harg19 mask g lse (shapeCast S32x128 d shapeCasts_S1x32x128_S32x128) 2
  tile arg15 arg16 arg17 harg17 arg18 harg18 arg19 harg19 mask g lse (shapeCast S32x128 d shapeCasts_S1x32x128_S32x128) 3

/-- The strips of a list, one after another. -/
def strips (at_ : At) (mask : Fin 16 → Fin 4 → FVec F S32x128 .f32 → FVec F S32x128 .f32) : List (Fin 16) → Prog (TpuEff nD τ sig (Elt F) Λ₀ .tc) PUnit
  | [] => pure ⟨⟩
  | g :: gs => do
    strip arg7 arg14 arg15 arg16 arg17 harg17 arg18 harg18 arg19 harg19 at_ mask g
    strips at_ mask gs

/-- The scores of the step's block and their upstream gradients. -/
def scores (at_ : At) : Prog (TpuEff nD τ sig (Elt F) Λ₀ .tc) PUnit := do
  let q : Vec F S1x512x256 .bf16 ← Prog.lift (.load arg3 (Rect.unit (s := S1x6144x256) at_.rows S1x512x256.size at_.rows_inb).toLoadRect (View.loadsAt_vmem h_S1x512x256))
  let k : Vec F S1x512x256 .bf16 ← Prog.lift (.load arg8 (Rect.unit (s := S1x512x256) ![0, 0, 0] S1x512x256.size inb_S1x512x256_S1x512x256_0_0_0).toLoadRect (View.loadsAt_vmem h_S1x512x256))
  let _ : Vec F S512x512 .f32 ← Prog.lift (.load arg15 (Rect.unit (s := S512x512) ![0, 0] S512x512.size inb_S512x512_S512x512_0_0).toLoadRect (View.loadsAt_vmem h_S512x512))
  Prog.lift (.store arg15 (Rect.unit (s := S512x512) ![0, 0] S512x512.size inb_S512x512_S512x512_0_0) (k0_pay1 q k) Finset.univ (View.stores_vmem_bits_univ h_S512x512 rfl) (.inl rfl))
  let d : Vec F S1x512x256 .bf16 ← Prog.lift (.load arg4 (Rect.unit (s := S1x6144x256) at_.rows S1x512x256.size at_.rows_inb).toLoadRect (View.loadsAt_vmem h_S1x512x256))
  let v : Vec F S1x512x256 .bf16 ← Prog.lift (.load arg9 (Rect.unit (s := S1x512x256) ![0, 0, 0] S1x512x256.size inb_S1x512x256_S1x512x256_0_0_0).toLoadRect (View.loadsAt_vmem h_S1x512x256))
  let _ : Vec F S512x512 .f32 ← Prog.lift (.load arg16 (Rect.unit (s := S512x512) ![0, 0] S512x512.size inb_S512x512_S512x512_0_0).toLoadRect (View.loadsAt_vmem h_S512x512))
  Prog.lift (.store arg16 (Rect.unit (s := S512x512) ![0, 0] S512x512.size inb_S512x512_S512x512_0_0) (k0_pay1 d v) Finset.univ (View.stores_vmem_bits_univ h_S512x512 rfl) (.inl rfl))

/-- A transposed operand times the kept tiles, added to an accumulator. -/
def accumulated (old : Vec F S256x512 .f32) (x : Vec F S1x256x512 .bf16) (p : Vec F S512x512 .bf16) : FVec F S256x512 .f32 :=
  shapeCast S256x512 (addf old (matmul dot_S256x512_S512x512_S256x512_1_0_0_1_n_n none (shapeCast S256x512 x shapeCasts_S1x256x512_S256x512) p
    (constant S256x512 .f32 0x00000000#32))) shapeCasts_S256x512_S256x512

/-- The score gradients times the block's keys, added to the accumulator's rows. -/
def accumulatedQ (old : Vec F S512x256 .f32) (ds : Vec F S512x512 .bf16) (k : Vec F S1x512x256 .bf16) : FVec F S512x256 .f32 :=
  shapeCast S512x256 (addf old (matmul dot_S512x512_S512x256_S512x256_1_0_0_1_n_n none ds (shapeCast S512x256 k shapeCasts_S1x512x256_S512x256)
    (constant S512x256 .f32 0x00000000#32))) shapeCasts_S512x256_S512x256

/-- The step's three contributions. -/
def gradients (at_ : At) : Prog (TpuEff nD τ sig (Elt F) Λ₀ .tc) PUnit := do
  let dv : Vec F S256x512 .f32 ← Prog.lift (.load arg22 (Rect.unit (s := S256x512) ![0, 0] S256x512.size inb_S256x512_S256x512_0_0).toLoadRect (View.loadsAt_vmem h_S256x512))
  let d : Vec F S1x256x512 .bf16 ← Prog.lift (.load arg5 (Rect.unit (s := S1x256x6144) at_.cols S1x256x512.size at_.cols_inb).toLoadRect (View.loadsAt_vmem h_S1x256x512))
  let p : Vec F S512x512 .bf16 ← Prog.lift (.load arg17 (Rect.unit (s := S512x512) ![0, 0] S512x512.size inb_S512x512_S512x512_0_0).toLoadRect (View.loadsAt_vmem h_S512x512))
  let _ : Vec F S256x512 .f32 ← Prog.lift (.load arg22 (Rect.unit (s := S256x512) ![0, 0] S256x512.size inb_S256x512_S256x512_0_0).toLoadRect (View.loadsAt_vmem h_S256x512))
  Prog.lift (.store arg22 (Rect.unit (s := S256x512) ![0, 0] S256x512.size inb_S256x512_S256x512_0_0) (accumulated dv d p) Finset.univ (View.stores_vmem_bits_univ h_S256x512 rfl) (.inl rfl))
  let dk : Vec F S256x512 .f32 ← Prog.lift (.load arg21 (Rect.unit (s := S256x512) ![0, 0] S256x512.size inb_S256x512_S256x512_0_0).toLoadRect (View.loadsAt_vmem h_S256x512))
  let q : Vec F S1x256x512 .bf16 ← Prog.lift (.load arg6 (Rect.unit (s := S1x256x6144) at_.cols S1x256x512.size at_.cols_inb).toLoadRect (View.loadsAt_vmem h_S1x256x512))
  let s : Vec F S512x512 .bf16 ← Prog.lift (.load arg18 (Rect.unit (s := S512x512) ![0, 0] S512x512.size inb_S512x512_S512x512_0_0).toLoadRect (View.loadsAt_vmem h_S512x512))
  let _ : Vec F S256x512 .f32 ← Prog.lift (.load arg21 (Rect.unit (s := S256x512) ![0, 0] S256x512.size inb_S256x512_S256x512_0_0).toLoadRect (View.loadsAt_vmem h_S256x512))
  Prog.lift (.store arg21 (Rect.unit (s := S256x512) ![0, 0] S256x512.size inb_S256x512_S256x512_0_0) (accumulated dk q s) Finset.univ (View.stores_vmem_bits_univ h_S256x512 rfl) (.inl rfl))
  let dq : Vec F S512x256 .f32 ← Prog.lift (.load arg20 (Rect.unit (s := S6144x256) at_.acc S512x256.size at_.acc_inb).toLoadRect (View.loadsAt_vmem h_S512x256))
  let t : Vec F S512x512 .bf16 ← Prog.lift (.load arg19 (Rect.unit (s := S512x512) ![0, 0] S512x512.size inb_S512x512_S512x512_0_0).toLoadRect (View.loadsAt_vmem h_S512x512))
  let k : Vec F S1x512x256 .bf16 ← Prog.lift (.load arg10 (Rect.unit (s := S1x512x256) ![0, 0, 0] S1x512x256.size inb_S1x512x256_S1x512x256_0_0_0).toLoadRect (View.loadsAt_vmem h_S1x512x256))
  let _ : Vec F S512x256 .f32 ← Prog.lift (.load arg20 (Rect.unit (s := S6144x256) at_.acc S512x256.size at_.acc_inb).toLoadRect (View.loadsAt_vmem h_S512x256))
  Prog.lift (.store arg20 (Rect.unit (s := S6144x256) at_.acc S512x256.size at_.acc_inb) (accumulatedQ dq t k) Finset.univ (View.stores_vmem_bits_univ h_S512x256 rfl) (.inl rfl))

/-- One step. -/
def step (at_ : At) (mask : Fin 16 → Fin 4 → FVec F S32x128 .f32 → FVec F S32x128 .f32) : Prog (TpuEff nD τ sig (Elt F) Λ₀ .tc) PUnit := do
  scores arg3 arg4 arg8 arg9 arg15 arg16 at_
  strips arg7 arg14 arg15 arg16 arg17 harg17 arg18 harg18 arg19 harg19 at_ mask [0, 1, 2, 3, 4, 5, 6, 7, 8, 9, 10, 11, 12, 13, 14, 15]
  gradients arg5 arg6 arg10 arg17 arg18 arg19 arg20 arg21 arg22 at_

end Cert.Kernel.Rolled
-- ==== Proof.Kernel.Pieces.lean ====
/- The pieces of the kernel function around its steps. -/
module

public import proofs.«01_k».proof.Proof.Kernel.Model

@[expose] public section

set_option synthInstance.maxSize 4096
set_option maxRecDepth 65536

noncomputable section

namespace Cert.Kernel.Rolled

open Idealize.ShloMosaic Idealize.SL.Sem
open Cert.Kernel.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- At a pair's first block: the row statistics spread out, the query accumulator cleared. -/
def opening (h : k0_cond1 i = 1#1) : Prog (TpuEff nD τ sig (Elt F) Λ₀ .tc) PUnit := do
  Scf.Loop.for k0_t1_loop (k0_t1_ok i h) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
  let _ : Vec F S6144x256 .f32 ← Prog.lift (.load arg20 (Rect.unit (s := S6144x256) ![0, 0] S6144x256.size inb_S6144x256_S6144x256_0_0).toLoadRect (View.loadsAt_vmem h_S6144x256))
  Prog.lift (.store arg20 (Rect.unit (s := S6144x256) ![0, 0] S6144x256.size inb_S6144x256_S6144x256_0_0) (shapeCast S6144x256 (broadcast S6144x256 (Scalar.ofBits .f32 0x00000000#32)) shapeCasts_S6144x256_S6144x256) Finset.univ (View.stores_vmem_bits_univ h_S6144x256 rfl) (.inl rfl))
  pure ⟨⟩

/-- At every block: the two transposed accumulators cleared. -/
def clearing : Prog (TpuEff nD τ sig (Elt F) Λ₀ .tc) PUnit := do
  let _ : Vec F S256x512 .f32 ← Prog.lift (.load arg21 (Rect.unit (s := S256x512) ![0, 0] S256x512.size inb_S256x512_S256x512_0_0).toLoadRect (View.loadsAt_vmem h_S256x512))
  Prog.lift (.store arg21 (Rect.unit (s := S256x512) ![0, 0] S256x512.size inb_S256x512_S256x512_0_0) (shapeCast S256x512 (broadcast S256x512 (Scalar.ofBits .f32 0x00000000#32)) shapeCasts_S256x512_S256x512) Finset.univ (View.stores_vmem_bits_univ h_S256x512 rfl) (.inl rfl))
  let _ : Vec F S256x512 .f32 ← Prog.lift (.load arg22 (Rect.unit (s := S256x512) ![0, 0] S256x512.size inb_S256x512_S256x512_0_0).toLoadRect (View.loadsAt_vmem h_S256x512))
  Prog.lift (.store arg22 (Rect.unit (s := S256x512) ![0, 0] S256x512.size inb_S256x512_S256x512_0_0) (shapeCast S256x512 (broadcast S256x512 (Scalar.ofBits .f32 0x00000000#32)) shapeCasts_S256x512_S256x512) Finset.univ (View.stores_vmem_bits_univ h_S256x512 rfl) (.inl rfl))

/-- A block of the query gradient, as it is handed out. -/
def outQ (v : Vec F S512x256 .f32) : FVec F S1x512x256 .bf16 :=
  shapeCast S1x512x256 (truncf .bf16 (mulf (broadcast S512x256 (Scalar.ofBits .f32 0x3D800000#32)) v) bitsLt_bf16_f32) shapeCasts_S512x256_S1x512x256

/-- A block of the key gradient, as it is handed out. -/
def outK (v : Vec F S256x512 .f32) : FVec F S1x512x256 .bf16 :=
  shapeCast S1x512x256 (transpose S512x256 [1, 0] (truncf .bf16 (mulf (broadcast S256x512 (Scalar.ofBits .f32 0x3D800000#32)) v) bitsLt_bf16_f32) transposes_S256x512_p1_0_S512x256) shapeCasts_S512x256_S1x512x256

/-- A block of the value gradient, as it is handed out. -/
def outV (v : Vec F S256x512 .f32) : FVec F S1x512x256 .bf16 :=
  shapeCast S1x512x256 (transpose S512x256 [1, 0] (truncf .bf16 v bitsLt_bf16_f32) transposes_S256x512_p1_0_S512x256) shapeCasts_S512x256_S1x512x256

/-- The three blocks handed out. -/
def closing : Prog (TpuEff nD τ sig (Elt F) Λ₀ .tc) PUnit := do
  let dq : Vec F S512x256 .f32 ← Prog.lift (.load arg20 (Rect.unit (s := S6144x256) (k0_off7 i) S512x256.size (k0_off7_inb i)).toLoadRect (View.loadsAt_vmem h_S512x256))
  let _ : Vec F S1x512x256 .bf16 ← Prog.lift (.load arg11 (Rect.unit (s := S1x512x256) ![0, 0, 0] S1x512x256.size inb_S1x512x256_S1x512x256_0_0_0).toLoadRect (View.loadsAt_vmem h_S1x512x256))
  Prog.lift (.store arg11 (Rect.unit (s := S1x512x256) ![0, 0, 0] S1x512x256.size inb_S1x512x256_S1x512x256_0_0_0) (outQ dq) Finset.univ (View.stores_vmem h_S1x512x256 (harg11.storeExact_slice rfl _ packedbf16_S1x512x256_S1x512x256_0_0_0) (fun _ => rfl)) (.inl rfl))
  let dk : Vec F S256x512 .f32 ← Prog.lift (.load arg21 (Rect.unit (s := S256x512) ![0, 0] S256x512.size inb_S256x512_S256x512_0_0).toLoadRect (View.loadsAt_vmem h_S256x512))
  let _ : Vec F S1x512x256 .bf16 ← Prog.lift (.load arg12 (Rect.unit (s := S1x512x256) ![0, 0, 0] S1x512x256.size inb_S1x512x256_S1x512x256_0_0_0).toLoadRect (View.loadsAt_vmem h_S1x512x256))
  Prog.lift (.store arg12 (Rect.unit (s := S1x512x256) ![0, 0, 0] S1x512x256.size inb_S1x512x256_S1x512x256_0_0_0) (outK dk) Finset.univ (View.stores_vmem h_S1x512x256 (harg12.storeExact_slice rfl _ packedbf16_S1x512x256_S1x512x256_0_0_0) (fun _ => rfl)) (.inl rfl))
  let dv : Vec F S256x512 .f32 ← Prog.lift (.load arg22 (Rect.unit (s := S256x512) ![0, 0] S256x512.size inb_S256x512_S256x512_0_0).toLoadRect (View.loadsAt_vmem h_S256x512))
  let _ : Vec F S1x512x256 .bf16 ← Prog.lift (.load arg13 (Rect.unit (s := S1x512x256) ![0, 0, 0] S1x512x256.size inb_S1x512x256_S1x512x256_0_0_0).toLoadRect (View.loadsAt_vmem h_S1x512x256))
  Prog.lift (.store arg13 (Rect.unit (s := S1x512x256) ![0, 0, 0] S1x512x256.size inb_S1x512x256_S1x512x256_0_0_0) (outV dv) Finset.univ (View.stores_vmem h_S1x512x256 (harg13.storeExact_slice rfl _ packedbf16_S1x512x256_S1x512x256_0_0_0) (fun _ => rfl)) (.inl rfl))

/-- A trip of the main loop. -/
def body2 (t : Fin (k0_t2_loop i).trips) (a : BitVec 32) : Prog (TpuEff nD τ sig (Elt F) Λ₀ .tc) (BitVec 32) := do
  step arg3 arg4 arg5 arg6 arg7 arg8 arg9 arg10 arg14 arg15 arg16 arg17 harg17 arg18 harg18 arg19 harg19 arg20 arg21 arg22 (at2 i t) unmasked
  pure 0#32

/-- A trip of the loop's rest. -/
def body3 (t : Fin (k0_t3_loop i).trips) (a : BitVec 32) : Prog (TpuEff nD τ sig (Elt F) Λ₀ .tc) (BitVec 32) := do
  step arg3 arg4 arg5 arg6 arg7 arg8 arg9 arg10 arg14 arg15 arg16 arg17 harg17 arg18 harg18 arg19 harg19 arg20 arg21 arg22 (at3 i t) unmasked
  pure 0#32

end Cert.Kernel.Rolled
-- ==== Proof.Kernel.Tile.lean ====
/- What one tile of a step does to the buffers it works on. -/
module

public import proofs.«01_k».proof.Proof.Kernel.Pieces
public import proofs.«01_k».proof.Proof.Gen.Kernel.Frame
public import Idealize.ShloMosaic.Lib.VecWindow
public import Idealize.ShloMosaic.Lib.Pipeline.TableIdle

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.VecWindow (window put)

variable {F : FTy → Type} [FloatOps F]

local notation "𝕄" => MT nD τ sig Unit (Elt F) ℕ (UR sig nD τ) ℕ

/-- What a step keeps of its tiles: the quantised probabilities, the quantised score gradients, the score gradients. -/
structure Kept (F : FTy → Type) [FloatOps F] where
  p : Vec F S512x512 .bf16
  d : Vec F S512x512 .bf16
  b : Vec F S512x512 .bf16

/-- The probabilities of strip `g`, chunk `c`. -/
def probs (mask : Fin 16 → Fin 4 → FVec F S32x128 .f32 → FVec F S32x128 .f32) (g : Fin 16) (c : Fin 4) (s : Vec F S512x512 .f32)
    (lse : FVec F S32x128 .f32) : FVec F S32x128 .f32 :=
  exp (mask g c (subf (window s ![32 * g.val, 128 * c.val] S32x128.size (tile_inb g c)) lse))

/-- The score gradients of strip `g`, chunk `c`. -/
def grads (mask : Fin 16 → Fin 4 → FVec F S32x128 .f32 → FVec F S32x128 .f32) (g : Fin 16) (c : Fin 4) (s dp : Vec F S512x512 .f32)
    (lse dlt : FVec F S32x128 .f32) : FVec F S32x128 .f32 :=
  mulf (probs mask g c s lse) (subf (window dp ![32 * g.val, 128 * c.val] S32x128.size (tile_inb g c)) dlt)

/-- What is kept after the tile of strip `g`, chunk `c`. -/
def Kept.tile (T : Kept F) (mask : Fin 16 → Fin 4 → FVec F S32x128 .f32 → FVec F S32x128 .f32) (g : Fin 16) (s dp : Vec F S512x512 .f32)
    (lse dlt : FVec F S32x128 .f32) (c : Fin 4) : Kept F where
  p := put T.p ![32 * g.val, 128 * c.val] S32x128.size (shapeCast S32x128 (quant (probs mask g c s lse)) shapeCasts_S32x128_S32x128)
  d := put T.d ![32 * g.val, 128 * c.val] S32x128.size (shapeCast S32x128 (quant (grads mask g c s dp lse dlt)) shapeCasts_S32x128_S32x128)
  b := put T.b ![32 * g.val, 128 * c.val] S32x128.size (shapeCast S32x128 (truncf .bf16 (grads mask g c s dp lse dlt) bitsLt_bf16_f32) shapeCasts_S32x128_S32x128)

variable (𝒱 : Variants) (c : Dev nD) (bd : Option 𝒱.V) (E : Set ℕ)

/-- A buffer held at what it reads stays held when what it reads is stated otherwise. -/
theorem owns_of_read {sp : Space} {sh : Shape} {e : EltTy} (M : Memref sig .tc sp sh e) (f : M.view.ty.Contents (Elt F)) {X : sh.Idx → Elt F e}
    (h : M.view.read (Elt F) f = X) :
    (M.view.loc (c : Thread nD τ) ↦[M.view.set]{fullShare} f : sProp 𝕄) ⊢ owns (c : Thread nD τ) M fullShare X := by
  unfold owns
  iintro H
  iexists f
  isplitr
  · ipureintro; exact h
  iexact H

variable (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)

/-- The three buffers that keep a step's tiles. -/
def keeps (T : Kept F) : sProp 𝕄 :=
  iprop(owns (c : Thread nD τ) arg17 fullShare T.p ∗ owns (c : Thread nD τ) arg18 fullShare T.d ∗ owns (c : Thread nD τ) arg19 fullShare T.b)

theorem tile_wp (mask : Fin 16 → Fin 4 → FVec F S32x128 .f32 → FVec F S32x128 .f32) (g : Fin 16) (lse dlt : FVec F S32x128 .f32) (k : Fin 4)
    (s dp : Vec F S512x512 .f32) (T : Kept F) :
    iprop(owns (c : Thread nD τ) arg15 fullShare s ∗ owns (c : Thread nD τ) arg16 fullShare dp ∗ keeps c arg17 arg18 arg19 T)
      ⊢ wp frame (wpE (defs₀ (F := F)) 𝒱 (c : Thread nD τ) bd) E (tile arg15 arg16 arg17 harg17 arg18 harg18 arg19 harg19 mask g lse dlt k)
        (fun _ => (iprop(owns (c : Thread nD τ) arg15 fullShare s ∗ owns (c : Thread nD τ) arg16 fullShare dp
          ∗ keeps c arg17 arg18 arg19 (T.tile mask g s dp lse dlt k)) : sProp 𝕄)) := by
  unfold keeps tile
  simp only [owns_eq_rep (Val := Elt F)]
  iintro ⟨H15, H16, H17, H18, H19⟩
  sl_exec
  sl_step
  have e15 : arg15.view.readAt (Elt F) (Rect.unit (s := S512x512) ![32 * g.val, 128 * k.val] S32x128.size (tile_inb g k)).toLoadRect (arg15.view.rep s)
      = window s ![32 * g.val, 128 * k.val] S32x128.size (tile_inb g k) := View.readAt_rep_unit _ _ _ rfl _
  have e16 : arg16.view.readAt (Elt F) (Rect.unit (s := S512x512) ![32 * g.val, 128 * k.val] S32x128.size (tile_inb g k)).toLoadRect (arg16.view.rep dp)
      = window dp ![32 * g.val, 128 * k.val] S32x128.size (tile_inb g k) := View.readAt_rep_unit _ _ _ rfl _
  isplitl [H15]; · iexact H15
  isplitl [H16]; · iexact H16
  isplitl [H17]
  · iapply (pointsTo_rep_of_read (c : Thread nD τ) arg17 _ _ _ ?_) $$ H17
    refine (View.read_writes_rep_unit _ _ _ _ rfl).trans ?_
    unfold tile_wp.sl.s
    rw [e15]
    rfl
  isplitl [H18]
  · iapply (pointsTo_rep_of_read (c : Thread nD τ) arg18 _ _ _ ?_) $$ H18
    refine (View.read_writes_rep_unit _ _ _ _ rfl).trans ?_
    unfold tile_wp.sl.s tile_wp.sl.dp
    rw [e15, e16]
    rfl
  · iapply (pointsTo_rep_of_read (c : Thread nD τ) arg19 _ _ _ ?_) $$ H19
    refine (View.read_writes_rep_unit _ _ _ _ rfl).trans ?_
    unfold tile_wp.sl.s tile_wp.sl.dp
    rw [e15, e16]
    rfl

/-- Two pieces of a program, one after the other. -/
theorem seq_wp {α : Type} {p : Prog (TpuEff nD τ sig (Elt F) Λ₀ .tc) PUnit} {k : PUnit → Prog (TpuEff nD τ sig (Elt F) Λ₀ .tc) α} {P P' : sProp 𝕄} {Q : α → sProp 𝕄}
    (hp : P ⊢ wp frame (wpE (defs₀ (F := F)) 𝒱 (c : Thread nD τ) bd) E p (fun _ => P'))
    (hk : P' ⊢ wp frame (wpE (defs₀ (F := F)) 𝒱 (c : Thread nD τ) bd) E (k ⟨⟩) Q) :
    P ⊢ wp frame (wpE (defs₀ (F := F)) 𝒱 (c : Thread nD τ) bd) E (p >>= k) Q := by
  rw [wp_bind]
  exact hp.trans (wp_mono _ _ _ fun _ => hk)

/-- A load, and then the rest of a program. -/
theorem load_wp {α : Type} {sh : Shape} {e : EltTy} (M : Memref sig .tc .vmem sh e) {x : sh.Idx → Elt F e} {off size : Fin sh.rank → ℕ}
    (inb : ∀ a, off a + size a ≤ sh.size a) {hl} {k : Vec F (Rect.unit off size inb).shape e → Prog (TpuEff nD τ sig (Elt F) Λ₀ .tc) α} {R : sProp 𝕄} {Q : α → sProp 𝕄}
    (h : iprop(owns (c : Thread nD τ) M fullShare x ∗ R) ⊢ wp frame (wpE (defs₀ (F := F)) 𝒱 (c : Thread nD τ) bd) E (k (window x off size inb)) Q) :
    iprop(owns (c : Thread nD τ) M fullShare x ∗ R)
      ⊢ wp frame (wpE (defs₀ (F := F)) 𝒱 (c : Thread nD τ) bd) E (Prog.lift (.load M (Rect.unit off size inb).toLoadRect hl) >>= k) Q := by
  rw [owns_eq_rep] at h ⊢
  rw [← View.readAt_rep_unit M.view x inb rfl inb] at h
  show _ ⊢ wp frame (wpE (defs₀ (F := F)) 𝒱 (c : Thread nD τ) bd) E (Prog.op _ k) Q
  iintro ⟨H, HR⟩
  sl_step
  iapply h
  isplitl [H]; · iexact H
  iexact HR

/-- What is kept after strip `g`. -/
def Kept.strip (T : Kept F) (mask : Fin 16 → Fin 4 → FVec F S32x128 .f32 → FVec F S32x128 .f32) (g : Fin 16) (s dp : Vec F S512x512 .f32)
    (lse dlt : FVec F S32x128 .f32) : Kept F :=
  (((T.tile mask g s dp lse dlt 0).tile mask g s dp lse dlt 1).tile mask g s dp lse dlt 2).tile mask g s dp lse dlt 3

theorem tiles_wp (mask : Fin 16 → Fin 4 → FVec F S32x128 .f32 → FVec F S32x128 .f32) (g : Fin 16) (lse dlt : FVec F S32x128 .f32)
    (s dp : Vec F S512x512 .f32) (T : Kept F) :
    iprop(owns (c : Thread nD τ) arg15 fullShare s ∗ owns (c : Thread nD τ) arg16 fullShare dp ∗ keeps c arg17 arg18 arg19 T)
      ⊢ wp frame (wpE (defs₀ (F := F)) 𝒱 (c : Thread nD τ) bd) E
        (do
          tile arg15 arg16 arg17 harg17 arg18 harg18 arg19 harg19 mask g lse dlt 0
          tile arg15 arg16 arg17 harg17 arg18 harg18 arg19 harg19 mask g lse dlt 1
          tile arg15 arg16 arg17 harg17 arg18 harg18 arg19 harg19 mask g lse dlt 2
          tile arg15 arg16 arg17 harg17 arg18 harg18 arg19 harg19 mask g lse dlt 3)
        (fun _ => (iprop(owns (c : Thread nD τ) arg15 fullShare s ∗ owns (c : Thread nD τ) arg16 fullShare dp
          ∗ keeps c arg17 arg18 arg19 (T.strip mask g s dp lse dlt)) : sProp 𝕄)) :=
  seq_wp _ _ _ _ (tile_wp _ _ _ _ _ _ _ _ _ _ _ _ _ _ _ _ _ _ _ _) (seq_wp _ _ _ _ (tile_wp _ _ _ _ _ _ _ _ _ _ _ _ _ _ _ _ _ _ _ _)
    (seq_wp _ _ _ _ (tile_wp _ _ _ _ _ _ _ _ _ _ _ _ _ _ _ _ _ _ _ _) (tile_wp _ _ _ _ _ _ _ _ _ _ _ _ _ _ _ _ _ _ _ _)))

variable (arg7 : Memref sig .tc .vmem S1x6144x128 .f32) (arg14 : Memref sig .tc .vmem S6144x128 .f32)

/-- The strip's rows of the row statistics. -/
def At.statOf (at_ : At) (lse : Vec F S6144x128 .f32) (g : Fin 16) : FVec F S32x128 .f32 :=
  window lse (at_.stat g) S32x128.size (at_.stat_inb g)

/-- The strip's rows of the row corrections. -/
def At.deltaOf (at_ : At) (dlt : Vec F S1x6144x128 .f32) (g : Fin 16) : FVec F S32x128 .f32 :=
  shapeCast S32x128 (window dlt (at_.delta g) S1x32x128.size (at_.delta_inb g) : Vec F S1x32x128 .f32) shapeCasts_S1x32x128_S32x128

/-- What the strips read and what they keep. -/
def stripHeld (lse : Vec F S6144x128 .f32) (dlt : Vec F S1x6144x128 .f32) (s dp : Vec F S512x512 .f32) (T : Kept F) : sProp 𝕄 :=
  iprop(owns (c : Thread nD τ) arg14 fullShare lse ∗ owns (c : Thread nD τ) arg7 fullShare dlt
    ∗ owns (c : Thread nD τ) arg15 fullShare s ∗ owns (c : Thread nD τ) arg16 fullShare dp ∗ keeps c arg17 arg18 arg19 T)

theorem strip_wp (at_ : At) (mask : Fin 16 → Fin 4 → FVec F S32x128 .f32 → FVec F S32x128 .f32) (g : Fin 16)
    (lse : Vec F S6144x128 .f32) (dlt : Vec F S1x6144x128 .f32) (s dp : Vec F S512x512 .f32) (T : Kept F) :
    stripHeld c arg15 arg16 arg17 arg18 arg19 arg7 arg14 lse dlt s dp T
      ⊢ wp frame (wpE (defs₀ (F := F)) 𝒱 (c : Thread nD τ) bd) E (strip arg7 arg14 arg15 arg16 arg17 harg17 arg18 harg18 arg19 harg19 at_ mask g)
        (fun _ => stripHeld c arg15 arg16 arg17 arg18 arg19 arg7 arg14 lse dlt s dp
          (T.strip mask g s dp (at_.statOf lse g) (at_.deltaOf dlt g))) := by
  unfold stripHeld strip
  refine load_wp (hl := View.loadsAt_vmem h_S32x128) _ _ _ _ arg14 (at_.stat_inb g) ?_
  refine sep_left_comm.1.trans (load_wp (hl := View.loadsAt_vmem h_S1x32x128) _ _ _ _ arg7 (at_.delta_inb g) ?_)
  refine sep_left_comm.1.trans ?_
  iintro ⟨H14, H7, H⟩
  iapply (wp_wand_r Idealize.ShloMosaic.frame (wpE (defs₀ (F := F)) 𝒱 (c : Thread nD τ) bd) E)
  isplitl [H]
  · iapply (tiles_wp 𝒱 c bd E arg15 arg16 arg17 harg17 arg18 harg18 arg19 harg19 mask g (at_.statOf lse g) (at_.deltaOf dlt g) s dp T) $$ H
  · iintro %_ H
    isplitl [H14]; · iexact H14
    isplitl [H7]; · iexact H7
    iexact H

/-- What is kept after the strips of a list. -/
def Kept.strips (T : Kept F) (at_ : At) (mask : Fin 16 → Fin 4 → FVec F S32x128 .f32 → FVec F S32x128 .f32)
    (lse : Vec F S6144x128 .f32) (dlt : Vec F S1x6144x128 .f32) (s dp : Vec F S512x512 .f32) (gs : List (Fin 16)) : Kept F :=
  gs.foldl (fun T g => T.strip mask g s dp (at_.statOf lse g) (at_.deltaOf dlt g)) T

theorem strips_wp (at_ : At) (mask : Fin 16 → Fin 4 → FVec F S32x128 .f32 → FVec F S32x128 .f32)
    (lse : Vec F S6144x128 .f32) (dlt : Vec F S1x6144x128 .f32) (s dp : Vec F S512x512 .f32) (gs : List (Fin 16)) : ∀ T : Kept F,
    stripHeld c arg15 arg16 arg17 arg18 arg19 arg7 arg14 lse dlt s dp T
      ⊢ wp frame (wpE (defs₀ (F := F)) 𝒱 (c : Thread nD τ) bd) E (strips arg7 arg14 arg15 arg16 arg17 harg17 arg18 harg18 arg19 harg19 at_ mask gs)
        (fun _ => stripHeld c arg15 arg16 arg17 arg18 arg19 arg7 arg14 lse dlt s dp (T.strips at_ mask lse dlt s dp gs)) := by
  induction gs with
  | nil =>
    intro T
    unfold strips
    iintro H
    sl_step
    iexact H
  | cons g gs ih =>
    intro T
    unfold strips
    exact seq_wp _ _ _ _ (strip_wp _ _ _ _ _ _ _ _ _ _ _ _ _ _ _ _ _ _ _ _ _ _) (ih _)

end Cert.Kernel.Rolled
-- ==== Proof.Kernel.Step.lean ====
/- What one step does to the buffers it works on. -/
module

public import proofs.«01_k».proof.Proof.Kernel.Tile

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.VecWindow (window put)

variable {F : FTy → Type} [FloatOps F]

local notation "𝕄" => MT nD τ sig Unit (Elt F) ℕ (UR sig nD τ) ℕ

/-- The blocks a grid point is given: queries and upstream gradients by rows and transposed, the row
    corrections, the quantised keys and values, the keys. -/
structure Ins (F : FTy → Type) [FloatOps F] where
  q : Vec F S1x6144x256 .bf16
  d : Vec F S1x6144x256 .bf16
  dt : Vec F S1x256x6144 .bf16
  qt : Vec F S1x256x6144 .bf16
  dlt : Vec F S1x6144x128 .f32
  ka : Vec F S1x512x256 .bf16
  va : Vec F S1x512x256 .bf16
  k : Vec F S1x512x256 .bf16

/-- What a grid point works in: the row statistics, the scores and their upstream gradients, the kept tiles,
    the query accumulator, the transposed key and value accumulators. -/
structure State (F : FTy → Type) [FloatOps F] where
  lse : Vec F S6144x128 .f32
  s : Vec F S512x512 .f32
  dp : Vec F S512x512 .f32
  T : Kept F
  acc : Vec F S6144x256 .f32
  dk : Vec F S256x512 .f32
  dv : Vec F S256x512 .f32

/-- The queries', or the upstream gradients', rows of a step. -/
def At.rowsOf (at_ : At) (x : Vec F S1x6144x256 .bf16) : Vec F S1x512x256 .bf16 := window x at_.rows S1x512x256.size at_.rows_inb

/-- The columns of a transposed operand. -/
def At.colsOf (at_ : At) (x : Vec F S1x256x6144 .bf16) : Vec F S1x256x512 .bf16 := window x at_.cols S1x256x512.size at_.cols_inb

/-- The query accumulator's rows of a step. -/
def At.accOf (at_ : At) (x : Vec F S6144x256 .f32) : Vec F S512x256 .f32 := window x at_.acc S512x256.size at_.acc_inb

/-- The tiles a step keeps. -/
def State.kept (I : Ins F) (S : State F) (at_ : At) (mask : Fin 16 → Fin 4 → FVec F S32x128 .f32 → FVec F S32x128 .f32) : Kept F :=
  S.T.strips at_ mask S.lse I.dlt (k0_pay1 (at_.rowsOf I.q) I.ka) (k0_pay1 (at_.rowsOf I.d) I.va) [0, 1, 2, 3, 4, 5, 6, 7, 8, 9, 10, 11, 12, 13, 14, 15]

/-- What a step leaves. -/
def State.step (I : Ins F) (S : State F) (at_ : At) (mask : Fin 16 → Fin 4 → FVec F S32x128 .f32 → FVec F S32x128 .f32) : State F where
  lse := S.lse
  s := k0_pay1 (at_.rowsOf I.q) I.ka
  dp := k0_pay1 (at_.rowsOf I.d) I.va
  T := S.kept I at_ mask
  acc := put S.acc at_.acc S512x256.size (accumulatedQ (at_.accOf S.acc) (S.kept I at_ mask).b I.k)
  dk := accumulated S.dk (at_.colsOf I.qt) (S.kept I at_ mask).d
  dv := accumulated S.dv (at_.colsOf I.dt) (S.kept I at_ mask).p

variable (𝒱 : Variants) (c : Dev nD) (bd : Option 𝒱.V) (E : Set ℕ)
variable (arg3 : Memref sig .tc .vmem S1x6144x256 .bf16) (arg4 : Memref sig .tc .vmem S1x6144x256 .bf16)
  (arg5 : Memref sig .tc .vmem S1x256x6144 .bf16) (arg6 : Memref sig .tc .vmem S1x256x6144 .bf16)
  (arg7 : Memref sig .tc .vmem S1x6144x128 .f32)
  (arg8 : Memref sig .tc .vmem S1x512x256 .bf16) (arg9 : Memref sig .tc .vmem S1x512x256 .bf16) (arg10 : Memref sig .tc .vmem S1x512x256 .bf16)
  (arg14 : Memref sig .tc .vmem S6144x128 .f32)
  (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S6144x256 .f32) (arg21 : Memref sig .tc .vmem S256x512 .f32) (arg22 : Memref sig .tc .vmem S256x512 .f32)

theorem scores_wp (at_ : At) (q d : Vec F S1x6144x256 .bf16) (ka va : Vec F S1x512x256 .bf16) (s dp : Vec F S512x512 .f32) :
    iprop(owns (c : Thread nD τ) arg3 fullShare q ∗ owns (c : Thread nD τ) arg4 fullShare d ∗ owns (c : Thread nD τ) arg8 fullShare ka
        ∗ owns (c : Thread nD τ) arg9 fullShare va ∗ owns (c : Thread nD τ) arg15 fullShare s ∗ owns (c : Thread nD τ) arg16 fullShare dp)
      ⊢ wp frame (wpE (defs₀ (F := F)) 𝒱 (c : Thread nD τ) bd) E (scores arg3 arg4 arg8 arg9 arg15 arg16 at_)
        (fun _ => (iprop(owns (c : Thread nD τ) arg3 fullShare q ∗ owns (c : Thread nD τ) arg4 fullShare d ∗ owns (c : Thread nD τ) arg8 fullShare ka
        ∗ owns (c : Thread nD τ) arg9 fullShare va ∗ owns (c : Thread nD τ) arg15 fullShare (k0_pay1 (at_.rowsOf q) ka)
        ∗ owns (c : Thread nD τ) arg16 fullShare (k0_pay1 (at_.rowsOf d) va)) : sProp 𝕄)) := by
  have e3 : arg3.view.readAt (Elt F) (Rect.unit (s := S1x6144x256) at_.rows S1x512x256.size at_.rows_inb).toLoadRect (arg3.view.rep q)
      = at_.rowsOf q := View.readAt_rep_unit _ _ _ rfl _
  have e4 : arg4.view.readAt (Elt F) (Rect.unit (s := S1x6144x256) at_.rows S1x512x256.size at_.rows_inb).toLoadRect (arg4.view.rep d)
      = at_.rowsOf d := View.readAt_rep_unit _ _ _ rfl _
  have e8 : arg8.view.readAt (Elt F) (Rect.unit (s := S1x512x256) ![0, 0, 0] S1x512x256.size inb_S1x512x256_S1x512x256_0_0_0).toLoadRect (arg8.view.rep ka)
      = ka := View.readAt_rep_full _ _ _
  have e9 : arg9.view.readAt (Elt F) (Rect.unit (s := S1x512x256) ![0, 0, 0] S1x512x256.size inb_S1x512x256_S1x512x256_0_0_0).toLoadRect (arg9.view.rep va)
      = va := View.readAt_rep_full _ _ _
  unfold scores
  simp only [owns_eq_rep (Val := Elt F)]
  iintro ⟨H3, H4, H8, H9, H15, H16⟩
  sl_exec
  sl_step
  isplitl [H3]; · iexact H3
  isplitl [H4]; · iexact H4
  isplitl [H8]; · iexact H8
  isplitl [H9]; · iexact H9
  isplitl [H15]
  · iapply (pointsTo_rep_of_read (c : Thread nD τ) arg15 _ _ _ ?_) $$ H15
    refine (View.read_writes_full _ _ _ _ _).trans ?_
    sl_unfold_words
    simp only [e3, e8]
  · iapply (pointsTo_rep_of_read (c : Thread nD τ) arg16 _ _ _ ?_) $$ H16
    refine (View.read_writes_full _ _ _ _ _).trans ?_
    sl_unfold_words
    simp only [e4, e9]

theorem gradients_wp (at_ : At) (I : Ins F) (T : Kept F) (acc : Vec F S6144x256 .f32) (dk dv : Vec F S256x512 .f32) :
    iprop(owns (c : Thread nD τ) arg5 fullShare I.dt ∗ owns (c : Thread nD τ) arg6 fullShare I.qt ∗ owns (c : Thread nD τ) arg10 fullShare I.k
        ∗ keeps c arg17 arg18 arg19 T ∗ owns (c : Thread nD τ) arg20 fullShare acc
        ∗ owns (c : Thread nD τ) arg21 fullShare dk ∗ owns (c : Thread nD τ) arg22 fullShare dv)
      ⊢ wp frame (wpE (defs₀ (F := F)) 𝒱 (c : Thread nD τ) bd) E (gradients arg5 arg6 arg10 arg17 arg18 arg19 arg20 arg21 arg22 at_)
        (fun _ => (iprop(owns (c : Thread nD τ) arg5 fullShare I.dt ∗ owns (c : Thread nD τ) arg6 fullShare I.qt ∗ owns (c : Thread nD τ) arg10 fullShare I.k
        ∗ keeps c arg17 arg18 arg19 T
        ∗ owns (c : Thread nD τ) arg20 fullShare (put acc at_.acc S512x256.size (accumulatedQ (at_.accOf acc) T.b I.k))
        ∗ owns (c : Thread nD τ) arg21 fullShare (accumulated dk (at_.colsOf I.qt) T.d)
        ∗ owns (c : Thread nD τ) arg22 fullShare (accumulated dv (at_.colsOf I.dt) T.p)) : sProp 𝕄)) := by
  have e5 : arg5.view.readAt (Elt F) (Rect.unit (s := S1x256x6144) at_.cols S1x256x512.size at_.cols_inb).toLoadRect (arg5.view.rep I.dt)
      = at_.colsOf I.dt := View.readAt_rep_unit _ _ _ rfl _
  have e6 : arg6.view.readAt (Elt F) (Rect.unit (s := S1x256x6144) at_.cols S1x256x512.size at_.cols_inb).toLoadRect (arg6.view.rep I.qt)
      = at_.colsOf I.qt := View.readAt_rep_unit _ _ _ rfl _
  have e10 : arg10.view.readAt (Elt F) (Rect.unit (s := S1x512x256) ![0, 0, 0] S1x512x256.size inb_S1x512x256_S1x512x256_0_0_0).toLoadRect (arg10.view.rep I.k)
      = I.k := View.readAt_rep_full _ _ _
  have e17 : arg17.view.readAt (Elt F) (Rect.unit (s := S512x512) ![0, 0] S512x512.size inb_S512x512_S512x512_0_0).toLoadRect (arg17.view.rep T.p) = T.p :=
    View.readAt_rep_full _ _ _
  have e18 : arg18.view.readAt (Elt F) (Rect.unit (s := S512x512) ![0, 0] S512x512.size inb_S512x512_S512x512_0_0).toLoadRect (arg18.view.rep T.d) = T.d :=
    View.readAt_rep_full _ _ _
  have e19 : arg19.view.readAt (Elt F) (Rect.unit (s := S512x512) ![0, 0] S512x512.size inb_S512x512_S512x512_0_0).toLoadRect (arg19.view.rep T.b) = T.b :=
    View.readAt_rep_full _ _ _
  have e20 : arg20.view.readAt (Elt F) (Rect.unit (s := S6144x256) at_.acc S512x256.size at_.acc_inb).toLoadRect (arg20.view.rep acc)
      = at_.accOf acc := View.readAt_rep_unit _ _ _ rfl _
  have e21 : arg21.view.readAt (Elt F) (Rect.unit (s := S256x512) ![0, 0] S256x512.size inb_S256x512_S256x512_0_0).toLoadRect (arg21.view.rep dk) = dk :=
    View.readAt_rep_full _ _ _
  have e22 : arg22.view.readAt (Elt F) (Rect.unit (s := S256x512) ![0, 0] S256x512.size inb_S256x512_S256x512_0_0).toLoadRect (arg22.view.rep dv) = dv :=
    View.readAt_rep_full _ _ _
  unfold gradients keeps
  simp only [owns_eq_rep (Val := Elt F)]
  iintro ⟨H5, H6, H10, ⟨H17, H18, H19⟩, H20, H21, H22⟩
  sl_exec
  sl_step
  isplitl [H5]; · iexact H5
  isplitl [H6]; · iexact H6
  isplitl [H10]; · iexact H10
  isplitl [H17 H18 H19]
  · isplitl [H17]; · iexact H17
    isplitl [H18]; · iexact H18
    iexact H19
  isplitl [H20]
  · iapply (pointsTo_rep_of_read (c : Thread nD τ) arg20 _ _ _ ?_) $$ H20
    refine (View.read_writes_rep_unit _ _ _ _ rfl).trans ?_
    sl_unfold_words
    simp only [e20, e19, e10]
  isplitl [H21]
  · iapply (pointsTo_rep_of_read (c : Thread nD τ) arg21 _ _ _ ?_) $$ H21
    refine (View.read_writes_full _ _ _ _ _).trans ?_
    sl_unfold_words
    simp only [e21, e6, e18]
  · iapply (pointsTo_rep_of_read (c : Thread nD τ) arg22 _ _ _ ?_) $$ H22
    refine (View.read_writes_full _ _ _ _ _).trans ?_
    sl_unfold_words
    simp only [e22, e5, e17]

/-- Everything a step reads or writes. -/
def held (I : Ins F) (S : State F) : sProp 𝕄 :=
  iprop(owns (c : Thread nD τ) arg3 fullShare I.q ∗ owns (c : Thread nD τ) arg4 fullShare I.d
    ∗ owns (c : Thread nD τ) arg5 fullShare I.dt ∗ owns (c : Thread nD τ) arg6 fullShare I.qt ∗ owns (c : Thread nD τ) arg7 fullShare I.dlt
    ∗ owns (c : Thread nD τ) arg8 fullShare I.ka ∗ owns (c : Thread nD τ) arg9 fullShare I.va ∗ owns (c : Thread nD τ) arg10 fullShare I.k
    ∗ owns (c : Thread nD τ) arg14 fullShare S.lse ∗ owns (c : Thread nD τ) arg15 fullShare S.s ∗ owns (c : Thread nD τ) arg16 fullShare S.dp
    ∗ keeps c arg17 arg18 arg19 S.T ∗ owns (c : Thread nD τ) arg20 fullShare S.acc
    ∗ owns (c : Thread nD τ) arg21 fullShare S.dk ∗ owns (c : Thread nD τ) arg22 fullShare S.dv)

theorem step_wp (at_ : At) (mask : Fin 16 → Fin 4 → FVec F S32x128 .f32 → FVec F S32x128 .f32) (I : Ins F) (S : State F) :
    held c arg3 arg4 arg5 arg6 arg7 arg8 arg9 arg10 arg14 arg15 arg16 arg17 arg18 arg19 arg20 arg21 arg22 I S
      ⊢ wp frame (wpE (defs₀ (F := F)) 𝒱 (c : Thread nD τ) bd) E
        (step arg3 arg4 arg5 arg6 arg7 arg8 arg9 arg10 arg14 arg15 arg16 arg17 harg17 arg18 harg18 arg19 harg19 arg20 arg21 arg22 at_ mask)
        (fun _ => held c arg3 arg4 arg5 arg6 arg7 arg8 arg9 arg10 arg14 arg15 arg16 arg17 arg18 arg19 arg20 arg21 arg22 I (S.step I at_ mask)) := by
  unfold held step
  rw [wp_bind]
  iintro ⟨H3, H4, H5, H6, H7, H8, H9, H10, H14, H15, H16, HT, H20, H21, H22⟩
  iapply (wp_wand_r Idealize.ShloMosaic.frame (wpE (defs₀ (F := F)) 𝒱 (c : Thread nD τ) bd) E)
  isplitl [H3 H4 H8 H9 H15 H16]
  · iapply (scores_wp 𝒱 c bd E arg3 arg4 arg8 arg9 arg15 arg16 at_ I.q I.d I.ka I.va S.s S.dp)
    isplitl [H3]; · iexact H3
    isplitl [H4]; · iexact H4
    isplitl [H8]; · iexact H8
    isplitl [H9]; · iexact H9
    isplitl [H15]; · iexact H15
    iexact H16
  iintro %_ ⟨H3, H4, H8, H9, H15, H16⟩
  rw [wp_bind]
  iapply (wp_wand_r Idealize.ShloMosaic.frame (wpE (defs₀ (F := F)) 𝒱 (c : Thread nD τ) bd) E)
  isplitl [H14 H7 H15 H16 HT]
  · iapply (strips_wp 𝒱 c bd E arg15 arg16 arg17 harg17 arg18 harg18 arg19 harg19 arg7 arg14 at_ mask S.lse I.dlt
      (k0_pay1 (at_.rowsOf I.q) I.ka) (k0_pay1 (at_.rowsOf I.d) I.va) [0, 1, 2, 3, 4, 5, 6, 7, 8, 9, 10, 11, 12, 13, 14, 15] S.T)
    unfold stripHeld
    isplitl [H14]; · iexact H14
    isplitl [H7]; · iexact H7
    isplitl [H15]; · iexact H15
    isplitl [H16]; · iexact H16
    iexact HT
  unfold stripHeld
  iintro %_ ⟨H14, H7, H15, H16, HT⟩
  iapply (wp_wand_r Idealize.ShloMosaic.frame (wpE (defs₀ (F := F)) 𝒱 (c : Thread nD τ) bd) E)
  isplitl [H5 H6 H10 HT H20 H21 H22]
  · iapply (gradients_wp 𝒱 c bd E arg5 arg6 arg10 arg17 arg18 arg19 arg20 arg21 arg22 at_ I (S.kept I at_ mask) S.acc S.dk S.dv)
    isplitl [H5]; · iexact H5
    isplitl [H6]; · iexact H6
    isplitl [H10]; · iexact H10
    isplitl [HT]; · iexact HT
    isplitl [H20]; · iexact H20
    isplitl [H21]; · iexact H21
    iexact H22
  iintro %_ ⟨H5, H6, H10, HT, H20, H21, H22⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

end Cert.Kernel.Rolled
-- ==== Proof.Kernel.Diagonal.lean ====
/- The step on the diagonal, printed, is one step under the causal mask. -/
module

public import proofs.«01_k».proof.Proof.Kernel.Pieces

@[expose] public section

set_option synthInstance.maxSize 4096
set_option maxRecDepth 65536

noncomputable section

namespace Cert.Kernel.Rolled

open Idealize.ShloMosaic Idealize.SL.Sem
open Cert.Kernel.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- The printed text from the clearing to the first strip. -/
def lead : Prog (TpuEff nD τ sig (Elt F) Λ₀ .tc) (Σ' (arg1 : BitVec 32) (v12 : BitVec 32) (v27 : FVec F S512x512 .f32), Vec F S512x512 .f32) := do
  let arg1 : BitVec 32 := BitVec.ofNat 32 (i 1).val
  let c512_i32 : BitVec 32 := 512#32
  have cst : F .f32 := Scalar.ofBits .f32 0x00000000#32
  have v3 : FVec F S256x512 .f32 := broadcast S256x512 cst
  let c0 : Index := 0#32
  let c0_1 : Index := 0#32
  let v4 : Vec F S256x512 .f32 ← Prog.lift (.load arg21 (Rect.unit (s := S256x512) ![0, 0] S256x512.size inb_S256x512_S256x512_0_0).toLoadRect (View.loadsAt_vmem h_S256x512))
  have v5 : FVec F S256x512 .f32 := shapeCast S256x512 v4 shapeCasts_S256x512_S256x512
  have v6 : FVec F S256x512 .f32 := shapeCast S256x512 v3 shapeCasts_S256x512_S256x512
  Prog.lift (.store arg21 (Rect.unit (s := S256x512) ![0, 0] S256x512.size inb_S256x512_S256x512_0_0) v6 Finset.univ (View.stores_vmem_bits_univ h_S256x512 rfl) (.inl rfl))
  have cst_2 : F .f32 := Scalar.ofBits .f32 0x00000000#32
  have v7 : FVec F S256x512 .f32 := broadcast S256x512 cst_2
  let c0_3 : Index := 0#32
  let c0_4 : Index := 0#32
  let v8 : Vec F S256x512 .f32 ← Prog.lift (.load arg22 (Rect.unit (s := S256x512) ![0, 0] S256x512.size inb_S256x512_S256x512_0_0).toLoadRect (View.loadsAt_vmem h_S256x512))
  have v9 : FVec F S256x512 .f32 := shapeCast S256x512 v8 shapeCasts_S256x512_S256x512
  have v10 : FVec F S256x512 .f32 := shapeCast S256x512 v7 shapeCasts_S256x512_S256x512
  Prog.lift (.store arg22 (Rect.unit (s := S256x512) ![0, 0] S256x512.size inb_S256x512_S256x512_0_0) v10 Finset.univ (View.stores_vmem_bits_univ h_S256x512 rfl) (.inl rfl))
  let c512_i32 : BitVec 32 := 512#32
  let v11 : BitVec 32 := Scalar.muli arg1 c512_i32
  let v12 : BitVec 32 := v11
  let c0_5 : Index := 0#32
  let v13 : Index := Scalar.indexCast v12
  let c0_6 : Index := 0#32
  let v14 : Vec F S1x512x256 .bf16 ← Prog.lift (.load arg3 (Rect.unit (s := S1x6144x256) (k0_off3 i) S1x512x256.size (k0_off3_inb i)).toLoadRect (View.loadsAt_vmem h_S1x512x256))
  have v15 : FVec F S512x256 .bf16 := shapeCast S512x256 v14 shapeCasts_S1x512x256_S512x256
  let c0_7 : Index := 0#32
  let c0_8 : Index := 0#32
  let c0_9 : Index := 0#32
  let v16 : Vec F S1x512x256 .bf16 ← Prog.lift (.load arg8 (Rect.unit (s := S1x512x256) ![0, 0, 0] S1x512x256.size inb_S1x512x256_S1x512x256_0_0_0).toLoadRect (View.loadsAt_vmem h_S1x512x256))
  have v17 : FVec F S512x256 .bf16 := shapeCast S512x256 v16 shapeCasts_S1x512x256_S512x256
  have cst_10 : FVec F S512x512 .f32 := constant S512x512 .f32 0x00000000#32
  have v18 : FVec F S512x512 .f32 := matmul dot_S512x256_S512x256_S512x512_1_1_0_0_n_n none v15 v17 cst_10
  let c0_11 : Index := 0#32
  let c0_12 : Index := 0#32
  let v19 : Vec F S512x512 .f32 ← Prog.lift (.load arg15 (Rect.unit (s := S512x512) ![0, 0] S512x512.size inb_S512x512_S512x512_0_0).toLoadRect (View.loadsAt_vmem h_S512x512))
  have v20 : FVec F S512x512 .f32 := shapeCast S512x512 v19 shapeCasts_S512x512_S512x512
  have v21 : FVec F S512x512 .f32 := shapeCast S512x512 v18 shapeCasts_S512x512_S512x512
  Prog.lift (.store arg15 (Rect.unit (s := S512x512) ![0, 0] S512x512.size inb_S512x512_S512x512_0_0) v21 Finset.univ (View.stores_vmem_bits_univ h_S512x512 rfl) (.inl rfl))
  let c0_13 : Index := 0#32
  let v22 : Index := Scalar.indexCast v12
  let c0_14 : Index := 0#32
  let v23 : Vec F S1x512x256 .bf16 ← Prog.lift (.load arg4 (Rect.unit (s := S1x6144x256) (k0_off3 i) S1x512x256.size (k0_off3_inb i)).toLoadRect (View.loadsAt_vmem h_S1x512x256))
  have v24 : FVec F S512x256 .bf16 := shapeCast S512x256 v23 shapeCasts_S1x512x256_S512x256
  let c0_15 : Index := 0#32
  let c0_16 : Index := 0#32
  let c0_17 : Index := 0#32
  let v25 : Vec F S1x512x256 .bf16 ← Prog.lift (.load arg9 (Rect.unit (s := S1x512x256) ![0, 0, 0] S1x512x256.size inb_S1x512x256_S1x512x256_0_0_0).toLoadRect (View.loadsAt_vmem h_S1x512x256))
  have v26 : FVec F S512x256 .bf16 := shapeCast S512x256 v25 shapeCasts_S1x512x256_S512x256
  have cst_18 : FVec F S512x512 .f32 := constant S512x512 .f32 0x00000000#32
  have v27 : FVec F S512x512 .f32 := matmul dot_S512x256_S512x256_S512x512_1_1_0_0_n_n none v24 v26 cst_18
  let c0_19 : Index := 0#32
  let c0_20 : Index := 0#32
  let v28 : Vec F S512x512 .f32 ← Prog.lift (.load arg16 (Rect.unit (s := S512x512) ![0, 0] S512x512.size inb_S512x512_S512x512_0_0).toLoadRect (View.loadsAt_vmem h_S512x512))
  pure ⟨arg1, v12, v27, v28⟩

/-- The printed text of the diagonal step up to its sixth strip. -/
def middle (x : Σ' (arg1 : BitVec 32) (v12 : BitVec 32) (v27 : FVec F S512x512 .f32), Vec F S512x512 .f32) :
    Prog (TpuEff nD τ sig (Elt F) Λ₀ .tc) (Σ' (arg1 : BitVec 32) (v12 : BitVec 32) (v2411 : Vec F S32x128 .f32) (v2414 : FVec F S32x128 .f32) (v2526 : FVec F S32x128 .f32), FVec F S32x128 .bf16) := do
  let ⟨arg1, v12, v27, v28⟩ := x
  let ⟨v35, v38, v50, v53, v68, v69⟩ : Σ' (v35 : Vec F S32x128 .f32) (v38 : FVec F S32x128 .f32) (v50 : FVec F S32x128 .f32) (v53 : FVec F S32x128 .f32) (v68 : IVec S1x128 32), IVec S1x128 32 ← k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v27 v28
  let ⟨v111, v113⟩ : Σ' (v111 : IVec S1x128 32), IVec S1x128 32 ← k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v53 v68 v69
  let ⟨v147, v150, v155⟩ : Σ' (v147 : FVec F S32x128 .f32) (v150 : FVec F S32x128 .f32), FVec F S1x128 .f32 ← k0_part280 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v38 v53 v111 v113
  let ⟨v197, v200⟩ : Σ' (v197 : IVec S256x128 32), IVec S256x128 1 ← k0_part281 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v147 v150 v155
  let ⟨v234, v241, cst_93⟩ : Σ' (v234 : FVec F S32x128 .f32) (v241 : IVec S32x128 1), F .f32 ← k0_part282 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v150 v197 v200
  let ⟨v247, v286⟩ : Σ' (v247 : FVec F S32x128 .f32), FVec F S32x128 .bf16 ← k0_part283 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v38 v234 v241 cst_93
  let v329 : FVec F S32x128 .bf16 ← k0_part284 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v247 v286
  let ⟨v344, v366, v371, cst_138⟩ : Σ' (v344 : FVec F S32x128 .f32) (v366 : FVec F S1x128 .f32) (v371 : FVec F S32x128 .f32), F .f32 ← k0_part285 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v38 v329
  let ⟨v405, v416⟩ : Σ' (v405 : FVec F S1x128 .f32), FVec F S32x128 .bf16 ← k0_part286 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v344 v366 v371 cst_138
  let ⟨v431, v434, v446, v449, v454, v455, c8388608_i32_169⟩ : Σ' (v431 : Vec F S32x128 .f32) (v434 : FVec F S32x128 .f32) (v446 : FVec F S32x128 .f32) (v449 : FVec F S32x128 .f32) (v454 : FVec F S1x128 .f32) (v455 : IVec S256x128 32), BitVec 32 ← k0_part287 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v344 v405 v416
  let ⟨v496, v499, v500⟩ : Σ' (v496 : IVec S256x128 32) (v499 : IVec S256x128 1), IVec S256x128 32 ← k0_part288 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v446 v449 v454 v455 c8388608_i32_169
  let v542 : FVec F S32x128 .f32 ← k0_part289 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v449 v496 v499 v500
  let ⟨v546, v586⟩ : Σ' (v546 : FVec F S32x128 .f32), FVec F S32x128 .f32 ← k0_part290 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v434 v542
  k0_part291 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v546 v586
  let ⟨v643, v665, v670, cst_247, v671⟩ : Σ' (v643 : FVec F S32x128 .f32) (v665 : FVec F S1x128 .f32) (v670 : FVec F S32x128 .f32) (cst_247 : F .f32), FVec F S32x128 .f32 ← k0_part292 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v434
  let ⟨v715, v717⟩ : Σ' (v715 : FVec F S32x128 .bf16), FVec F S32x128 .bf16 ← k0_part293 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v643 v665 v670 cst_247 v671
  let ⟨v737, v740, v755, v757, c1056964608_i32_278⟩ : Σ' (v737 : FVec F S32x128 .f32) (v740 : FVec F S32x128 .f32) (v755 : IVec S1x128 32) (v757 : IVec S1x128 1), BitVec 32 ← k0_part294 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v434 v643 v715 v717
  let ⟨v798, v801, c2122317824_i32_293⟩ : Σ' (v798 : IVec S1x128 32) (v801 : FVec F S1x128 .f32), BitVec 32 ← k0_part295 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v737 v740 v755 v757 c1056964608_i32_278
  let ⟨v827, v830, v842⟩ : Σ' (v827 : Vec F S32x128 .f32) (v830 : FVec F S32x128 .f32), FVec F S32x128 .f32 ← k0_part296 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v740 v798 v801 c2122317824_i32_293
  let ⟨v845, v886⟩ : Σ' (v845 : FVec F S32x128 .f32), FVec F S128 .f32 ← k0_part297 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v830 v842
  let v928 : Vec F S32x128 .f32 ← k0_part298 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v845 v886
  let ⟨v942, v964, v971, v972⟩ : Σ' (v942 : FVec F S32x128 .f32) (v964 : FVec F S1x128 .f32) (v971 : FVec F S32x128 .f32), FVec F S32x128 .f32 ← k0_part299 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v928
  let v1017 : FVec F S32x128 .bf16 ← k0_part300 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v942 v964 v971 v972
  let ⟨v1036, v1039, v1058⟩ : Σ' (v1036 : FVec F S32x128 .f32) (v1039 : FVec F S32x128 .f32), IVec S1x128 32 ← k0_part301 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v942 v1017
  let ⟨v1100, v1102⟩ : Σ' (v1100 : FVec F S1x128 .f32), IVec S1x128 32 ← k0_part302 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1036 v1039 v1058
  let ⟨v1133, v1136, v1141, v1144⟩ : Σ' (v1133 : FVec F S32x128 .f32) (v1136 : FVec F S32x128 .f32) (v1141 : FVec F S1x128 .f32), IVec S256x128 32 ← k0_part303 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v1039 v1100 v1102
  let v1188 : IVec S256x128 32 ← k0_part304 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1133 v1136 v1141 v1144
  let ⟨v1223, v1226, v1228, v1229⟩ : Σ' (v1223 : Vec F S32x128 .f32) (v1226 : FVec F S32x128 .f32) (v1228 : FVec F S32x128 .f32), IVec S32x128 32 ← k0_part305 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1136 v1188
  let ⟨v1241, v1263, v1273⟩ : Σ' (v1241 : FVec F S32x128 .f32) (v1263 : FVec F S1x128 .f32), FVec F S32x128 .fp8e4m3 ← k0_part306 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1226 v1228 v1229
  let ⟨v1316, v1317⟩ : Σ' (v1316 : FVec F S32x128 .bf16), Vec F S32x128 .bf16 ← k0_part307 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1241 v1263 v1273
  let ⟨v1335, v1338, v1357, v1358⟩ : Σ' (v1335 : FVec F S32x128 .f32) (v1338 : FVec F S32x128 .f32) (v1357 : IVec S1x128 32), IVec S1x128 32 ← k0_part308 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1226 v1241 v1316 v1317
  let ⟨v1399, v1403⟩ : Σ' (v1399 : FVec F S1x128 .f32), FVec F S32x128 .f32 ← k0_part309 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1335 v1338 v1357 v1358
  let ⟨v1432, v1435, v1443, v1444, v1445⟩ : Σ' (v1432 : FVec F S32x128 .f32) (v1435 : FVec F S32x128 .f32) (v1443 : IVec S256x128 32) (v1444 : FVec F S256x128 .f32), FVec F S256x128 .f32 ← k0_part310 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1226 v1338 v1399 v1403
  let v1489 : IVec S1x128 32 ← k0_part311 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1432 v1435 v1443 v1444 v1445
  let ⟨v1529, v1530⟩ : Σ' (v1529 : FVec F S32x128 .f32), Vec F S32x128 .f32 ← k0_part312 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1435 v1489
  let ⟨v1532, v1574, cst_572⟩ : Σ' (v1532 : FVec F S32x128 .f32) (v1574 : FVec F S1x128 .f32), F .f32 ← k0_part313 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1226 v1529 v1530
  let v1617 : BitVec 32 ← k0_part314 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1532 v1574 cst_572
  let ⟨v1619, v1622, v1634, v1637, v1656, v1659⟩ : Σ' (v1619 : Vec F S32x128 .f32) (v1622 : FVec F S32x128 .f32) (v1634 : FVec F S32x128 .f32) (v1637 : FVec F S32x128 .f32) (v1656 : IVec S1x128 32), FVec F S1x128 .f32 ← k0_part315 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1617
  let ⟨v1698, v1703, cst_620⟩ : Σ' (v1698 : FVec F S1x128 .f32) (v1703 : FVec F S32x128 .f32), F .f32 ← k0_part316 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1634 v1637 v1656 v1659
  let ⟨v1731, v1734, v1742, v1745, c0_i32_636⟩ : Σ' (v1731 : FVec F S32x128 .f32) (v1734 : FVec F S32x128 .f32) (v1742 : IVec S256x128 32) (v1745 : IVec S256x128 1), BitVec 32 ← k0_part317 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1622 v1637 v1698 v1703 cst_620
  let ⟨v1788, v1789⟩ : Σ' (v1788 : IVec S1x128 32), IVec S1x128 32 ← k0_part318 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1731 v1734 v1742 v1745 c0_i32_636
  let ⟨v1828, v1831⟩ : Σ' (v1828 : FVec F S32x128 .f32), FVec F S32x128 .f32 ← k0_part319 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1622 v1734 v1788 v1789
  let v1875 : FVec F S1x128 .f32 ← k0_part320 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1828 v1831
  let ⟨v1915, v1916, v1917⟩ : Σ' (v1915 : FVec F S32x128 .f32) (v1916 : IVec S32x128 32), IVec S32x128 32 ← k0_part321 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1831 v1875
  let ⟨v1928, v1961, v1962⟩ : Σ' (v1928 : FVec F S32x128 .f32) (v1961 : FVec F S32x128 .bf16), FVec F S1x128 .bf16 ← k0_part322 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1622 v1915 v1916 v1917
  let v2006 : FVec F S32x128 .bf16 ← k0_part323 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1928 v1961 v1962
  let ⟨v2015, v2018, v2030, v2033, v2046⟩ : Σ' (v2015 : Vec F S32x128 .f32) (v2018 : FVec F S32x128 .f32) (v2030 : FVec F S32x128 .f32) (v2033 : FVec F S32x128 .f32), IVec S256x128 32 ← k0_part324 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1928 v2006
  let ⟨v2087, v2089, c1056964608_i32_760⟩ : Σ' (v2087 : IVec S1x128 32) (v2089 : IVec S1x128 1), BitVec 32 ← k0_part325 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2030 v2033 v2046
  let ⟨v2127, v2130, v2131⟩ : Σ' (v2127 : FVec F S32x128 .f32) (v2130 : FVec F S32x128 .f32), FVec F S32x128 .f32 ← k0_part326 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2018 v2033 v2087 v2089 c1056964608_i32_760
  let ⟨v2174, v2175, c8388608_i32_791⟩ : Σ' (v2174 : FVec F S1x128 .f32) (v2175 : IVec S256x128 32), BitVec 32 ← k0_part327 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2127 v2130 v2131
  let ⟨v2214, v2217, v2218⟩ : Σ' (v2214 : FVec F S32x128 .f32) (v2217 : IVec S32x128 32), IVec S32x128 32 ← k0_part328 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2130 v2174 v2175 c8388608_i32_791
  let ⟨v2227, v2263⟩ : Σ' (v2227 : FVec F S32x128 .f32), FVec F S32x128 .bf16 ← k0_part329 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2018 v2214 v2217 v2218
  let v2306 : FVec F S32x128 .bf16 ← k0_part330 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2227 v2263
  let ⟨v2321, v2324, v2343, v2346, v2347⟩ : Σ' (v2321 : FVec F S32x128 .f32) (v2324 : FVec F S32x128 .f32) (v2343 : IVec S1x128 32) (v2346 : FVec F S1x128 .f32), IVec S1x128 32 ← k0_part331 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2018 v2306
  let ⟨v2385, v2390, cst_869, v2391⟩ : Σ' (v2385 : FVec F S1x128 .f32) (v2390 : FVec F S32x128 .f32) (cst_869 : F .f32), FVec F S32x128 .f32 ← k0_part332 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2321 v2324 v2343 v2346 v2347
  let ⟨v2411, v2414, v2426, v2429, v2432⟩ : Σ' (v2411 : Vec F S32x128 .f32) (v2414 : FVec F S32x128 .f32) (v2426 : FVec F S32x128 .f32) (v2429 : FVec F S32x128 .f32), FVec F S1x128 .f32 ← k0_part333 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2324 v2385 v2390 cst_869 v2391
  let ⟨v2473, v2476⟩ : Σ' (v2473 : FVec F S1x128 .f32), IVec S256x128 32 ← k0_part334 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2426 v2429 v2432
  let ⟨v2513, v2516, v2517, v2518⟩ : Σ' (v2513 : FVec F S32x128 .f32) (v2516 : IVec S32x128 32) (v2517 : IVec S32x128 32), IVec S32x128 32 ← k0_part335 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2411 v2429 v2473 v2476
  let ⟨v2526, v2562⟩ : Σ' (v2526 : FVec F S32x128 .f32), FVec F S32x128 .bf16 ← k0_part336 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2414 v2513 v2516 v2517 v2518
  pure ⟨arg1, v12, v2411, v2414, v2526, v2562⟩

/-- The printed text of the diagonal step's last three products. -/
def rear (v6377 : Vec F S256x512 .f32) (v6380 : FVec F S256x512 .bf16) :
    Prog (TpuEff nD τ sig (Elt F) Λ₀ .tc) PUnit := do
  let c0_2322 : Index := 0#32
  let v6381 : Vec F S512x512 .bf16 ← Prog.lift (.load arg18 (Rect.unit (s := S512x512) ![0, 0] S512x512.size inb_S512x512_S512x512_0_0).toLoadRect (View.loadsAt_vmem h_S512x512))
  have cst_2323 : FVec F S256x512 .f32 := constant S256x512 .f32 0x00000000#32
  have v6382 : FVec F S256x512 .f32 := matmul dot_S256x512_S512x512_S256x512_1_0_0_1_n_n none v6380 v6381 cst_2323
  have v6383 : FVec F S256x512 .f32 := addf v6377 v6382
  let c0_2324 : Index := 0#32
  let c0_2325 : Index := 0#32
  let v6384 : Vec F S256x512 .f32 ← Prog.lift (.load arg21 (Rect.unit (s := S256x512) ![0, 0] S256x512.size inb_S256x512_S256x512_0_0).toLoadRect (View.loadsAt_vmem h_S256x512))
  have v6385 : FVec F S256x512 .f32 := shapeCast S256x512 v6384 shapeCasts_S256x512_S256x512
  have v6386 : FVec F S256x512 .f32 := shapeCast S256x512 v6383 shapeCasts_S256x512_S256x512
  Prog.lift (.store arg21 (Rect.unit (s := S256x512) ![0, 0] S256x512.size inb_S256x512_S256x512_0_0) v6386 Finset.univ (View.stores_vmem_bits_univ h_S256x512 rfl) (.inl rfl))
  let c0_2326 : Index := 0#32
  let v6388 : Vec F S512x256 .f32 ← Prog.lift (.load arg20 (Rect.unit (s := S6144x256) (k0_off7 i) S512x256.size (k0_off7_inb i)).toLoadRect (View.loadsAt_vmem h_S512x256))
  let c0_2327 : Index := 0#32
  let c0_2328 : Index := 0#32
  let v6389 : Vec F S512x512 .bf16 ← Prog.lift (.load arg19 (Rect.unit (s := S512x512) ![0, 0] S512x512.size inb_S512x512_S512x512_0_0).toLoadRect (View.loadsAt_vmem h_S512x512))
  let c0_2329 : Index := 0#32
  let c0_2330 : Index := 0#32
  let c0_2331 : Index := 0#32
  let v6390 : Vec F S1x512x256 .bf16 ← Prog.lift (.load arg10 (Rect.unit (s := S1x512x256) ![0, 0, 0] S1x512x256.size inb_S1x512x256_S1x512x256_0_0_0).toLoadRect (View.loadsAt_vmem h_S1x512x256))
  have v6391 : FVec F S512x256 .bf16 := shapeCast S512x256 v6390 shapeCasts_S1x512x256_S512x256
  have cst_2332 : FVec F S512x256 .f32 := constant S512x256 .f32 0x00000000#32
  have v6392 : FVec F S512x256 .f32 := matmul dot_S512x512_S512x256_S512x256_1_0_0_1_n_n none v6389 v6391 cst_2332
  have v6393 : FVec F S512x256 .f32 := addf v6388 v6392
  let c0_2333 : Index := 0#32
  let v6395 : Vec F S512x256 .f32 ← Prog.lift (.load arg20 (Rect.unit (s := S6144x256) (k0_off7 i) S512x256.size (k0_off7_inb i)).toLoadRect (View.loadsAt_vmem h_S512x256))
  have v6396 : FVec F S512x256 .f32 := shapeCast S512x256 v6395 shapeCasts_S512x256_S512x256
  have v6397 : FVec F S512x256 .f32 := shapeCast S512x256 v6393 shapeCasts_S512x256_S512x256
  Prog.lift (.store arg20 (Rect.unit (s := S6144x256) (k0_off7 i) S512x256.size (k0_off7_inb i)) v6397 Finset.univ (View.stores_vmem_bits_univ h_S512x256 rfl) (.inl rfl))

/-- The printed text of the diagonal step from its sixth strip on. -/
def trail (x : Σ' (arg1 : BitVec 32) (v12 : BitVec 32) (v2411 : Vec F S32x128 .f32) (v2414 : FVec F S32x128 .f32) (v2526 : FVec F S32x128 .f32), FVec F S32x128 .bf16) :
    Prog (TpuEff nD τ sig (Elt F) Λ₀ .tc) PUnit := do
  let ⟨arg1, v12, v2411, v2414, v2526, v2562⟩ := x
  let ⟨v5096, v5140, v5141⟩ : Σ' (v5096 : FVec F S32x128 .f32) (v5140 : FVec F S1x128 .f32), IVec S256x128 32 ← k0_part428 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2411 v2414 v2526 v2562
  let ⟨v5181, v5183⟩ : Σ' (v5181 : BitVec 32), Vec F S32x128 .f32 ← k0_part397 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5096 v5140 v5141
  let ⟨v5186, v5198, v5201, v5223, v5225⟩ : Σ' (v5186 : FVec F S32x128 .f32) (v5198 : FVec F S32x128 .f32) (v5201 : FVec F S32x128 .f32) (v5223 : FVec F S1x128 .f32), IVec S1x128 32 ← k0_part398 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5181 v5183
  let ⟨v5262, cst_1912, v5269⟩ : Σ' (v5262 : FVec F S1x128 .f32) (cst_1912 : F .f32), FVec F S32x128 .f32 ← k0_part399 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5198 v5201 v5223 v5225
  let ⟨v5295, v5298, v5311⟩ : Σ' (v5295 : FVec F S32x128 .f32) (v5298 : FVec F S32x128 .f32), IVec S256x128 32 ← k0_part400 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5186 v5201 v5262 cst_1912 v5269
  let ⟨v5352, v5354, v5355⟩ : Σ' (v5352 : IVec S1x128 32) (v5354 : IVec S1x128 1), IVec S1x128 32 ← k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5295 v5298 v5311
  let ⟨v5392, v5395, v5397⟩ : Σ' (v5392 : FVec F S32x128 .f32) (v5395 : FVec F S32x128 .f32), FVec F S128 .f32 ← k0_part402 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5186 v5298 v5352 v5354 v5355
  let ⟨v5439, v5440, v5441⟩ : Σ' (v5439 : FVec F S1x128 .f32) (v5440 : IVec S256x128 32), IVec S256x128 32 ← k0_part403 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5392 v5395 v5397
  let ⟨v5479, v5482, v5483, c384_i32_1990⟩ : Σ' (v5479 : FVec F S32x128 .f32) (v5482 : IVec S32x128 32) (v5483 : IVec S32x128 32), BitVec 32 ← k0_part404 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5395 v5439 v5440 v5441
  let ⟨v5492, v5528⟩ : Σ' (v5492 : FVec F S32x128 .f32), FVec F S32x128 .bf16 ← k0_part405 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5186 v5479 v5482 v5483 c384_i32_1990
  let v5571 : FVec F S32x128 .bf16 ← k0_part406 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5492 v5528
  let ⟨v5579, v5582, v5594, v5597, v5612⟩ : Σ' (v5579 : Vec F S32x128 .f32) (v5582 : FVec F S32x128 .f32) (v5594 : FVec F S32x128 .f32) (v5597 : FVec F S32x128 .f32), IVec S1x128 32 ← k0_part407 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5571
  let ⟨v5655, c8388608_i32_2052⟩ : Σ' (v5655 : IVec S1x128 32), BitVec 32 ← k0_part408 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5594 v5597 v5612
  let ⟨v5691, v5694, v5697, cst_2068⟩ : Σ' (v5691 : FVec F S32x128 .f32) (v5694 : FVec F S32x128 .f32) (v5697 : FVec F S1x128 .f32), F .f32 ← k0_part409 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5582 v5597 v5655 c8388608_i32_2052
  let ⟨v5738, v5741, v5742⟩ : Σ' (v5738 : FVec F S1x128 .f32) (v5741 : IVec S256x128 32), FVec F S256x128 .f32 ← k0_part410 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5691 v5694 v5697 cst_2068
  let ⟨v5778, v5781, v5784⟩ : Σ' (v5778 : FVec F S32x128 .f32) (v5781 : IVec S32x128 32), IVec S32x128 32 ← k0_part411 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5694 v5738 v5741 v5742
  let ⟨v5791, v5827, v5828⟩ : Σ' (v5791 : FVec F S32x128 .f32) (v5827 : FVec F S32x128 .bf16), Vec F S32x128 .bf16 ← k0_part412 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5582 v5778 v5781 v5784
  let ⟨v5870, v5871⟩ : Σ' (v5870 : FVec F S32x128 .bf16), Vec F S32x128 .bf16 ← k0_part413 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5791 v5827 v5828
  let ⟨v5885, v5888, v5910, v5914⟩ : Σ' (v5885 : FVec F S32x128 .f32) (v5888 : FVec F S32x128 .f32) (v5910 : FVec F S1x128 .f32), FVec F S32x128 .f32 ← k0_part414 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5582 v5870 v5871
  let ⟨v5949, v5958⟩ : Σ' (v5949 : FVec F S1x128 .f32), FVec F S32x128 .f32 ← k0_part415 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5885 v5888 v5910 v5914
  let ⟨v5975, v5978, v5990, v5993, v5998⟩ : Σ' (v5975 : Vec F S32x128 .f32) (v5978 : FVec F S32x128 .f32) (v5990 : FVec F S32x128 .f32) (v5993 : FVec F S32x128 .f32), FVec F S1x128 .f32 ← k0_part416 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5888 v5949 v5958
  let ⟨v6040, v6043⟩ : Σ' (v6040 : IVec S256x128 32), IVec S256x128 1 ← k0_part417 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5990 v5993 v5998
  let ⟨v6077, v6084, cst_2207⟩ : Σ' (v6077 : FVec F S32x128 .f32) (v6084 : IVec S32x128 1), F .f32 ← k0_part418 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5993 v6040 v6043
  let ⟨v6090, v6129⟩ : Σ' (v6090 : FVec F S32x128 .f32), FVec F S32x128 .bf16 ← k0_part419 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5978 v6077 v6084 cst_2207
  let v6172 : FVec F S32x128 .bf16 ← k0_part420 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6090 v6129
  let ⟨v6187, v6209, v6214, cst_2254⟩ : Σ' (v6187 : FVec F S32x128 .f32) (v6209 : FVec F S1x128 .f32) (v6214 : FVec F S32x128 .f32), F .f32 ← k0_part421 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5978 v6172
  let ⟨v6248, v6259⟩ : Σ' (v6248 : FVec F S1x128 .f32), FVec F S32x128 .bf16 ← k0_part422 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6187 v6209 v6214 cst_2254
  let ⟨v6281, v6284, v6299, v6300⟩ : Σ' (v6281 : FVec F S32x128 .f32) (v6284 : FVec F S32x128 .f32) (v6299 : IVec S1x128 32), IVec S1x128 32 ← k0_part423 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5978 v6187 v6248 v6259
  let ⟨v6342, v6344⟩ : Σ' (v6342 : IVec S1x128 32), IVec S1x128 32 ← k0_part424 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6281 v6284 v6299 v6300
  let ⟨v6377, v6380⟩ : Σ' (v6377 : Vec F S256x512 .f32), FVec F S256x512 .bf16 ← k0_part425 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v12 v6284 v6342 v6344
  rear i arg10 arg18 arg19 arg20 arg21 v6377 v6380

set_option maxHeartbeats 0 in
theorem diagonal_eq :
    ((lead (F := F) i arg3 arg4 arg8 arg9 arg15 arg16 arg21 arg22 >>= middle i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) >>= trail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      = (clearing arg21 arg22 >>= fun _ => step arg3 arg4 arg5 arg6 arg7 arg8 arg9 arg10 arg14 arg15 arg16 arg17 harg17 arg18 harg18 arg19 harg19 arg20 arg21 arg22 (at1 i) causal) := by
  rfl

end Cert.Kernel.Rolled
-- ==== Proof.Kernel.MainTrip.lean ====
/- A trip of the main loop, printed, is one step. -/
module

public import proofs.«01_k».proof.Proof.Kernel.Pieces

@[expose] public section

set_option synthInstance.maxSize 4096
set_option maxRecDepth 65536

noncomputable section

namespace Cert.Kernel.Rolled

open Idealize.ShloMosaic Idealize.SL.Sem
open Cert.Kernel.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

set_option maxHeartbeats 0 in
theorem body2_eq (arg1 : BitVec 32) (v12 : BitVec 32) (v6377 : Vec F S256x512 .f32) (v6380 : FVec F S256x512 .bf16) (w : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 w = body2 i arg3 arg4 arg5 arg6 arg7 arg8 arg9 arg10 arg14 arg15 arg16 arg17 harg17 arg18 harg18 arg19 harg19 arg20 arg21 arg22 := by
  funext t a
  rfl

end Cert.Kernel.Rolled
-- ==== Proof.Kernel.RestTrip.lean ====
/- A trip of the loop's rest, printed, is one step. -/
module

public import proofs.«01_k».proof.Proof.Kernel.Pieces

@[expose] public section

set_option synthInstance.maxSize 4096
set_option maxRecDepth 65536

noncomputable section

namespace Cert.Kernel.Rolled

open Idealize.ShloMosaic Idealize.SL.Sem
open Cert.Kernel.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

set_option maxHeartbeats 0 in
theorem body3_eq (arg1 : BitVec 32) (v12 : BitVec 32) (v6377 : Vec F S256x512 .f32) (v6380 : FVec F S256x512 .bf16) (w : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 w = body3 i arg3 arg4 arg5 arg6 arg7 arg8 arg9 arg10 arg14 arg15 arg16 arg17 harg17 arg18 harg18 arg19 harg19 arg20 arg21 arg22 := by
  funext t a
  rfl

end Cert.Kernel.Rolled
-- ==== Proof.Kernel.Rolled.lean ====
/- The kernel function, rolled up, is the printed one. -/
module

public import proofs.«01_k».proof.Proof.Kernel.Diagonal
public import proofs.«01_k».proof.Proof.Kernel.MainTrip
public import proofs.«01_k».proof.Proof.Kernel.RestTrip

@[expose] public section

set_option synthInstance.maxSize 4096
set_option maxRecDepth 65536

noncomputable section

namespace Cert.Kernel.Rolled

open Idealize.ShloMosaic Idealize.SL.Sem
open Cert.Kernel.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- The kernel function, rolled up. -/
def kernel : Prog (TpuEff nD τ sig (Elt F) Λ₀ .tc) PUnit := do
  if h : k0_cond1 i = 1#1 then opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h else pure ⟨⟩
  clearing arg21 arg22
  step arg3 arg4 arg5 arg6 arg7 arg8 arg9 arg10 arg14 arg15 arg16 arg17 harg17 arg18 harg18 arg19 harg19 arg20 arg21 arg22 (at1 i) causal
  let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
  let _ ← Scf.Loop.for (k0_t3_loop i) (k0_t3_ok i) r (body3 i arg3 arg4 arg5 arg6 arg7 arg8 arg9 arg10 arg14 arg15 arg16 arg17 harg17 arg18 harg18 arg19 harg19 arg20 arg21 arg22)
  closing i arg11 harg11 arg12 harg12 arg13 harg13 arg20 arg21 arg22

/-- The two loops and what follows, within the printed part they stand in. -/
def loops : Prog (TpuEff nD τ sig (Elt F) Λ₀ .tc) (FVec F S512x256 .bf16) := do
  let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
  let _ ← Scf.Loop.for (k0_t3_loop i) (k0_t3_ok i) r (body3 i arg3 arg4 arg5 arg6 arg7 arg8 arg9 arg10 arg14 arg15 arg16 arg17 harg17 arg18 harg18 arg19 harg19 arg20 arg21 arg22)
  let dq : Vec F S512x256 .f32 ← Prog.lift (.load arg20 (Rect.unit (s := S6144x256) (k0_off7 i) S512x256.size (k0_off7_inb i)).toLoadRect (View.loadsAt_vmem h_S512x256))
  let _ : Vec F S1x512x256 .bf16 ← Prog.lift (.load arg11 (Rect.unit (s := S1x512x256) ![0, 0, 0] S1x512x256.size inb_S1x512x256_S1x512x256_0_0_0).toLoadRect (View.loadsAt_vmem h_S1x512x256))
  pure (truncf .bf16 (mulf (broadcast S512x256 (Scalar.ofBits .f32 0x3D800000#32)) dq) bitsLt_bf16_f32)

theorem part277_eq : k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    = ((if h : k0_cond1 i = 1#1 then opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h else pure ⟨⟩) >>= fun _ => lead i arg3 arg4 arg8 arg9 arg15 arg16 arg21 arg22) := by
  unfold k0_part277
  by_cases h : k0_cond1 i = 1#1
  · simp only [dif_pos h, opening, bind_assoc]
    rfl
  · simp only [dif_neg h]
    rfl

theorem part426_eq (arg1 : BitVec 32) (v12 : BitVec 32) (v6377 : Vec F S256x512 .f32) (v6380 : FVec F S256x512 .bf16) :
    k0_part426 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380
      = (rear i arg10 arg18 arg19 arg20 arg21 v6377 v6380 >>= fun _ => loops i arg3 arg4 arg5 arg6 arg7 arg8 arg9 arg10 arg11 arg14 arg15 arg16 arg17 harg17 arg18 harg18 arg19 harg19 arg20 arg21 arg22) := by
  have e : k0_part426 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380
      = (rear i arg10 arg18 arg19 arg20 arg21 v6377 v6380 >>= fun _ => do
        let r ← Scf.Loop.for (k0_t2_loop i) (k0_t2_ok i) 0#32 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 (Scalar.addi arg1 1#32))
        let _ ← Scf.Loop.for (k0_t3_loop i) (k0_t3_ok i) r (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 (Scalar.addi (Scalar.addi arg1 1#32) (Scalar.muli (Scalar.divsi (Scalar.subi 12#32 (Scalar.addi arg1 1#32)) 1#32) 1#32)))
        let dq : Vec F S512x256 .f32 ← Prog.lift (.load arg20 (Rect.unit (s := S6144x256) (k0_off7 i) S512x256.size (k0_off7_inb i)).toLoadRect (View.loadsAt_vmem h_S512x256))
        let _ : Vec F S1x512x256 .bf16 ← Prog.lift (.load arg11 (Rect.unit (s := S1x512x256) ![0, 0, 0] S1x512x256.size inb_S1x512x256_S1x512x256_0_0_0).toLoadRect (View.loadsAt_vmem h_S1x512x256))
        pure (truncf .bf16 (mulf (broadcast S512x256 (Scalar.ofBits .f32 0x3D800000#32)) dq) bitsLt_bf16_f32)) := rfl
  rw [e, body2_eq, body3_eq]
  rfl

/-- Two programs with the same first part. -/
theorem same_first {α β γ δ : Type} (p : Prog (TpuEff nD τ sig (Elt F) Λ₀ .tc) α) (f : α → Prog (TpuEff nD τ sig (Elt F) Λ₀ .tc) β)
    (g : β → Prog (TpuEff nD τ sig (Elt F) Λ₀ .tc) δ) (f' : α → Prog (TpuEff nD τ sig (Elt F) Λ₀ .tc) γ) (g' : γ → Prog (TpuEff nD τ sig (Elt F) Λ₀ .tc) δ)
    (h : ∀ a, (f a >>= g) = (f' a >>= g')) : ((p >>= f) >>= g) = ((p >>= f') >>= g') := by
  rw [bind_assoc, bind_assoc]
  exact congrArg _ (funext h)

/-- What the printed function does with the query gradient's block, up to its last store. -/
def handing (v6412 : FVec F S512x256 .bf16) : Prog (TpuEff nD τ sig (Elt F) Λ₀ .tc) (FVec F S1x512x256 .bf16) := do
  Prog.lift (.store arg11 (Rect.unit (s := S1x512x256) ![0, 0, 0] S1x512x256.size inb_S1x512x256_S1x512x256_0_0_0) (shapeCast S1x512x256 v6412 shapeCasts_S512x256_S1x512x256) Finset.univ (View.stores_vmem h_S1x512x256 (harg11.storeExact_slice rfl _ packedbf16_S1x512x256_S1x512x256_0_0_0) (fun _ => rfl)) (.inl rfl))
  let dk : Vec F S256x512 .f32 ← Prog.lift (.load arg21 (Rect.unit (s := S256x512) ![0, 0] S256x512.size inb_S256x512_S256x512_0_0).toLoadRect (View.loadsAt_vmem h_S256x512))
  let _ : Vec F S1x512x256 .bf16 ← Prog.lift (.load arg12 (Rect.unit (s := S1x512x256) ![0, 0, 0] S1x512x256.size inb_S1x512x256_S1x512x256_0_0_0).toLoadRect (View.loadsAt_vmem h_S1x512x256))
  Prog.lift (.store arg12 (Rect.unit (s := S1x512x256) ![0, 0, 0] S1x512x256.size inb_S1x512x256_S1x512x256_0_0_0) (outK dk) Finset.univ (View.stores_vmem h_S1x512x256 (harg12.storeExact_slice rfl _ packedbf16_S1x512x256_S1x512x256_0_0_0) (fun _ => rfl)) (.inl rfl))
  let dv : Vec F S256x512 .f32 ← Prog.lift (.load arg22 (Rect.unit (s := S256x512) ![0, 0] S256x512.size inb_S256x512_S256x512_0_0).toLoadRect (View.loadsAt_vmem h_S256x512))
  let _ : Vec F S1x512x256 .bf16 ← Prog.lift (.load arg13 (Rect.unit (s := S1x512x256) ![0, 0, 0] S1x512x256.size inb_S1x512x256_S1x512x256_0_0_0).toLoadRect (View.loadsAt_vmem h_S1x512x256))
  pure (outV dv)

/-- The last store. -/
def last (v6429 : FVec F S1x512x256 .bf16) : Prog (TpuEff nD τ sig (Elt F) Λ₀ .tc) PUnit :=
  Prog.lift (.store arg13 (Rect.unit (s := S1x512x256) ![0, 0, 0] S1x512x256.size inb_S1x512x256_S1x512x256_0_0_0) v6429 Finset.univ (View.stores_vmem h_S1x512x256 (harg13.storeExact_slice rfl _ packedbf16_S1x512x256_S1x512x256_0_0_0) (fun _ => rfl)) (.inl rfl))

theorem trail_eq : (k0_part429 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= last arg13 harg13)
    = ((k0_part427 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= trail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) >>= fun _ =>
        (loops i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13) := by
  unfold k0_part429
  refine same_first _ _ _ _ _ (fun x => ?_)
  unfold trail
  iterate 29 (refine same_first _ _ _ _ _ (fun _ => ?_))
  refine same_first _ _ _ _ _ (fun ⟨a, b⟩ => ?_)
  refine Eq.trans (congrArg (fun p => (p >>= handing arg11 harg11 arg12 harg12 arg13 arg21 arg22) >>= last arg13 harg13)
    (part426_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ a b)) ?_
  dsimp only
  rw [bind_assoc, bind_assoc, bind_assoc]

theorem kernel_eq : cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
  have e : cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (k0_part429 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= last arg13 harg13) := rfl
  have e' : k0_part427 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (k0_part277 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= middle i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := rfl
  have d := diagonal_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  have l : ((loops (F := F) i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13)
      = (do
        let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
        let _ ← Scf.Loop.for (k0_t3_loop i) (k0_t3_ok i) r (body3 i arg3 arg4 arg5 arg6 arg7 arg8 arg9 arg10 arg14 arg15 arg16 arg17 harg17 arg18 harg18 arg19 harg19 arg20 arg21 arg22)
        closing i arg11 harg11 arg12 harg12 arg13 harg13 arg20 arg21 arg22) := by
    simp only [loops, bind_assoc]
    rfl
  have d' := congrArg (fun p => p >>= fun _ => ((loops (F := F) i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13)) d
  simp only [l, bind_assoc] at d'
  rw [e, trail_eq, e', part277_eq, l]
  simp only [bind_assoc]
  rw [d']
  unfold kernel
  by_cases h : k0_cond1 i = 1#1
  · simp only [dif_pos h, bind_assoc]
  · simp only [dif_neg h, bind_assoc]
    rfl

end Cert.Kernel.Rolled
-- ==== Proof.Kernel.Point.lean ====
/- What one grid point does: the kernel function's triple. -/
module

public import proofs.«01_k».proof.Proof.Kernel.Step
public import proofs.«01_k».proof.Proof.Kernel.Rolled

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.VecWindow (window put)

variable {F : FTy → Type} [FloatOps F]

local notation "𝕄" => MT nD τ sig Unit (Elt F) ℕ (UR sig nD τ) ℕ

/-- The row statistics after `n` trips of the loop that spreads them over 128 columns. -/
def spread (i : grid0.Coords) (h : k0_cond1 i = 1#1) (x : Vec F S1x1x6144 .f32) (lse : Vec F S6144x128 .f32) : ℕ → Vec F S6144x128 .f32
  | 0 => lse
  | n + 1 => if hn : n < k0_t1_loop.trips then
      put (spread i h x lse n) (k0_off2 ⟨n, hn⟩) S128x128.size (k0_pay1143 (window x (k0_off1 ⟨n, hn⟩) S1x1x128.size (k0_off1_inb i ⟨n, hn⟩ h)))
    else spread i h x lse n

/-- At a pair's first block: the row statistics spread out, the query accumulator cleared. -/
def State.opened (S : State F) (i : grid0.Coords) (h : k0_cond1 i = 1#1) (x : Vec F S1x1x6144 .f32) : State F :=
  { S with
    lse := spread i h x S.lse k0_t1_loop.trips
    acc := shapeCast S6144x256 (broadcast S6144x256 (Scalar.ofBits .f32 0x00000000#32)) shapeCasts_S6144x256_S6144x256 }

/-- At every block: the key and value accumulators cleared. -/
def State.cleared (S : State F) : State F :=
  { S with
    dk := shapeCast S256x512 (broadcast S256x512 (Scalar.ofBits .f32 0x00000000#32)) shapeCasts_S256x512_S256x512
    dv := shapeCast S256x512 (broadcast S256x512 (Scalar.ofBits .f32 0x00000000#32)) shapeCasts_S256x512_S256x512 }

/-- After `n` trips of the main loop. -/
def State.trips (I : Ins F) (S : State F) (i : grid0.Coords) : ℕ → State F
  | 0 => S
  | n + 1 => if hn : n < (k0_t2_loop i).trips then (State.trips I S i n).step I (at2 i ⟨n, hn⟩) unmasked else State.trips I S i n

/-- What a grid point's own part of the computation leaves, from a state already opened. -/
def State.rest (I : Ins F) (S : State F) (i : grid0.Coords) : State F :=
  State.trips I (S.cleared.step I (at1 i) causal) i (k0_t2_loop i).trips

/-- What a grid point leaves. -/
def State.point (x : Vec F S1x1x6144 .f32) (I : Ins F) (S : State F) (i : grid0.Coords) : State F :=
  if h : k0_cond1 i = 1#1 then (S.opened i h x).rest I i else S.rest I i

/-- The rows of the query accumulator that a grid point hands out. -/
def accOut (i : grid0.Coords) (acc : Vec F S6144x256 .f32) : Vec F S512x256 .f32 := window acc (k0_off7 i) S512x256.size (k0_off7_inb i)

variable (𝒱 : Variants) (c : Dev nD) (bd : Option 𝒱.V) (E : Set ℕ)
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

theorem spread_trip_wp (h : k0_cond1 i = 1#1) (x : Vec F S1x1x6144 .f32) (lse : Vec F S6144x128 .f32) (t : Fin k0_t1_loop.trips) (a : Unit) :
    iprop(owns (c : Thread nD τ) arg2 fullShare x ∗ owns (c : Thread nD τ) arg14 fullShare (spread i h x lse t.val))
      ⊢ wp frame (wpE (defs₀ (F := F)) 𝒱 (c : Thread nD τ) bd) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h t a)
        (fun _ => (iprop(owns (c : Thread nD τ) arg2 fullShare x ∗ owns (c : Thread nD τ) arg14 fullShare (spread i h x lse (t.val + 1))) : sProp 𝕄)) := by
  have e2 : arg2.view.readAt (Elt F) (Rect.unit (s := S1x1x6144) (k0_off1 t) S1x1x128.size (k0_off1_inb i t h)).toLoadRect (arg2.view.rep x)
      = window x (k0_off1 t) S1x1x128.size (k0_off1_inb i t h) := View.readAt_rep_unit _ _ _ rfl _
  have es : spread i h x lse (t.val + 1)
      = put (spread i h x lse t.val) (k0_off2 t) S128x128.size (k0_pay1143 (window x (k0_off1 t) S1x1x128.size (k0_off1_inb i t h))) := by
    rw [spread, dif_pos t.isLt]
  rw [es]
  generalize spread i h x lse t.val = X
  unfold k0_t1_body
  simp only [owns_eq_rep (Val := Elt F)]
  iintro ⟨H2, H14⟩
  sl_exec
  sl_step
  isplitl [H2]; · iexact H2
  iapply (pointsTo_rep_of_read (c : Thread nD τ) arg14 _ _ _ ?_) $$ H14
  refine (View.read_writes_rep_unit _ _ _ _ rfl).trans ?_
  sl_unfold_words
  simp only [e2]

theorem clear_wp (acc : Vec F S6144x256 .f32) :
    owns (c : Thread nD τ) arg20 fullShare acc
      ⊢ wp frame (wpE (defs₀ (F := F)) 𝒱 (c : Thread nD τ) bd) E (do
        let _ : Vec F S6144x256 .f32 ← Prog.lift (.load arg20 (Rect.unit (s := S6144x256) ![0, 0] S6144x256.size inb_S6144x256_S6144x256_0_0).toLoadRect (View.loadsAt_vmem h_S6144x256))
        Prog.lift (.store arg20 (Rect.unit (s := S6144x256) ![0, 0] S6144x256.size inb_S6144x256_S6144x256_0_0) (shapeCast S6144x256 (broadcast S6144x256 (Scalar.ofBits .f32 0x00000000#32)) shapeCasts_S6144x256_S6144x256) Finset.univ (View.stores_vmem_bits_univ h_S6144x256 rfl) (.inl rfl))
        pure PUnit.unit)
        (fun _ => (owns (c : Thread nD τ) arg20 fullShare
          (shapeCast S6144x256 (broadcast S6144x256 (Scalar.ofBits .f32 0x00000000#32)) shapeCasts_S6144x256_S6144x256) : sProp 𝕄)) := by
  simp only [owns_eq_rep (Val := Elt F)]
  iintro H20
  sl_exec
  sl_step
  iapply (pointsTo_rep_of_read (c : Thread nD τ) arg20 _ _ _ ?_) $$ H20
  exact View.read_writes_full _ _ _ _ _

theorem opening_wp (h : k0_cond1 i = 1#1) (x : Vec F S1x1x6144 .f32) (lse : Vec F S6144x128 .f32) (acc : Vec F S6144x256 .f32) :
    iprop(owns (c : Thread nD τ) arg2 fullShare x ∗ owns (c : Thread nD τ) arg14 fullShare lse ∗ owns (c : Thread nD τ) arg20 fullShare acc)
      ⊢ wp frame (wpE (defs₀ (F := F)) 𝒱 (c : Thread nD τ) bd) E (opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
        (fun _ => (iprop(owns (c : Thread nD τ) arg2 fullShare x ∗ owns (c : Thread nD τ) arg14 fullShare (spread i h x lse k0_t1_loop.trips)
          ∗ owns (c : Thread nD τ) arg20 fullShare
          (shapeCast S6144x256 (broadcast S6144x256 (Scalar.ofBits .f32 0x00000000#32)) shapeCasts_S6144x256_S6144x256)) : sProp 𝕄)) := by
  unfold opening
  rw [wp_bind]
  iintro ⟨H2, H14, H20⟩
  iapply (Scf.wp_for Idealize.ShloMosaic.frame (wpE (defs₀ (F := F)) 𝒱 (c : Thread nD τ) bd) E k0_t1_loop.lb k0_t1_loop.ub k0_t1_loop.st (k0_t1_ok i h) ⟨⟩ _
    (fun n _ => iprop(owns (c : Thread nD τ) arg2 fullShare x ∗ owns (c : Thread nD τ) arg14 fullShare (spread i h x lse n)))
    (fun t a => spread_trip_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x lse t a))
  isplitl [H2 H14]
  · isplitl [H2]; · iexact H2
    iexact H14
  iintro %_ ⟨H2, H14⟩
  iapply (wp_wand_r Idealize.ShloMosaic.frame (wpE (defs₀ (F := F)) 𝒱 (c : Thread nD τ) bd) E)
  isplitl [H20]
  · iapply (clear_wp 𝒱 c bd E arg20 acc) $$ H20
  iintro %_ H20
  isplitl [H2]; · iexact H2
  isplitl [H14]; · iexact H14
  iexact H20

theorem clearing_wp (dk dv : Vec F S256x512 .f32) :
    iprop(owns (c : Thread nD τ) arg21 fullShare dk ∗ owns (c : Thread nD τ) arg22 fullShare dv)
      ⊢ wp frame (wpE (defs₀ (F := F)) 𝒱 (c : Thread nD τ) bd) E (clearing arg21 arg22)
        (fun _ => (iprop(owns (c : Thread nD τ) arg21 fullShare (shapeCast S256x512 (broadcast S256x512 (Scalar.ofBits .f32 0x00000000#32)) shapeCasts_S256x512_S256x512)
          ∗ owns (c : Thread nD τ) arg22 fullShare (shapeCast S256x512 (broadcast S256x512 (Scalar.ofBits .f32 0x00000000#32)) shapeCasts_S256x512_S256x512)) : sProp 𝕄)) := by
  unfold clearing
  simp only [owns_eq_rep (Val := Elt F)]
  iintro ⟨H21, H22⟩
  sl_exec
  sl_step
  isplitl [H21]
  · iapply (pointsTo_rep_of_read (c : Thread nD τ) arg21 _ _ _ ?_) $$ H21
    exact View.read_writes_full _ _ _ _ _
  · iapply (pointsTo_rep_of_read (c : Thread nD τ) arg22 _ _ _ ?_) $$ H22
    exact View.read_writes_full _ _ _ _ _

theorem closing_wp (acc : Vec F S6144x256 .f32) (dk dv : Vec F S256x512 .f32) (o1 o2 o3 : Vec F S1x512x256 .bf16) :
    iprop(owns (c : Thread nD τ) arg11 fullShare o1 ∗ owns (c : Thread nD τ) arg12 fullShare o2 ∗ owns (c : Thread nD τ) arg13 fullShare o3
        ∗ owns (c : Thread nD τ) arg20 fullShare acc ∗ owns (c : Thread nD τ) arg21 fullShare dk ∗ owns (c : Thread nD τ) arg22 fullShare dv)
      ⊢ wp frame (wpE (defs₀ (F := F)) 𝒱 (c : Thread nD τ) bd) E (closing i arg11 harg11 arg12 harg12 arg13 harg13 arg20 arg21 arg22)
        (fun _ => (iprop(owns (c : Thread nD τ) arg11 fullShare (outQ (accOut i acc)) ∗ owns (c : Thread nD τ) arg12 fullShare (outK dk)
        ∗ owns (c : Thread nD τ) arg13 fullShare (outV dv)
        ∗ owns (c : Thread nD τ) arg20 fullShare acc ∗ owns (c : Thread nD τ) arg21 fullShare dk ∗ owns (c : Thread nD τ) arg22 fullShare dv) : sProp 𝕄)) := by
  have e20 : arg20.view.readAt (Elt F) (Rect.unit (s := S6144x256) (k0_off7 i) S512x256.size (k0_off7_inb i)).toLoadRect (arg20.view.rep acc)
      = accOut i acc := View.readAt_rep_unit _ _ _ rfl _
  have e21 : arg21.view.readAt (Elt F) (Rect.unit (s := S256x512) ![0, 0] S256x512.size inb_S256x512_S256x512_0_0).toLoadRect (arg21.view.rep dk) = dk :=
    View.readAt_rep_full _ _ _
  have e22 : arg22.view.readAt (Elt F) (Rect.unit (s := S256x512) ![0, 0] S256x512.size inb_S256x512_S256x512_0_0).toLoadRect (arg22.view.rep dv) = dv :=
    View.readAt_rep_full _ _ _
  unfold closing
  simp only [owns_eq_rep (Val := Elt F)]
  iintro ⟨H11, H12, H13, H20, H21, H22⟩
  sl_exec
  sl_step
  isplitl [H11]
  · iapply (pointsTo_rep_of_read (c : Thread nD τ) arg11 _ _ _ ?_) $$ H11
    refine (View.read_writes_full _ _ _ _ _).trans ?_
    sl_unfold_words
    simp only [e20]
  isplitl [H12]
  · iapply (pointsTo_rep_of_read (c : Thread nD τ) arg12 _ _ _ ?_) $$ H12
    refine (View.read_writes_full _ _ _ _ _).trans ?_
    sl_unfold_words
    simp only [e21]
  isplitl [H13]
  · iapply (pointsTo_rep_of_read (c : Thread nD τ) arg13 _ _ _ ?_) $$ H13
    refine (View.read_writes_full _ _ _ _ _).trans ?_
    sl_unfold_words
    simp only [e22]
  isplitl [H20]; · iexact H20
  isplitl [H21]; · iexact H21
  iexact H22

theorem body2_wp (I : Ins F) (S : State F) (t : Fin (k0_t2_loop i).trips) (a : BitVec 32) :
    held c arg3 arg4 arg5 arg6 arg7 arg8 arg9 arg10 arg14 arg15 arg16 arg17 arg18 arg19 arg20 arg21 arg22 I (State.trips I S i t.val)
      ⊢ wp frame (wpE (defs₀ (F := F)) 𝒱 (c : Thread nD τ) bd) E (body2 i arg3 arg4 arg5 arg6 arg7 arg8 arg9 arg10 arg14 arg15 arg16 arg17 harg17 arg18 harg18 arg19 harg19 arg20 arg21 arg22 t a)
        (fun _ => held c arg3 arg4 arg5 arg6 arg7 arg8 arg9 arg10 arg14 arg15 arg16 arg17 arg18 arg19 arg20 arg21 arg22 I (State.trips I S i (t.val + 1))) := by
  have es : State.trips I S i (t.val + 1) = (State.trips I S i t.val).step I (at2 i t) unmasked := by
    rw [State.trips, dif_pos t.isLt]
  rw [es]
  unfold body2
  refine seq_wp _ _ _ _ (step_wp 𝒱 c bd E arg3 arg4 arg5 arg6 arg7 arg8 arg9 arg10 arg14 arg15 arg16 arg17 harg17 arg18 harg18 arg19 harg19 arg20 arg21 arg22 (at2 i t) unmasked I (State.trips I S i t.val)) ?_
  iintro H
  sl_step
  iexact H

/-- Everything a grid point reads or writes. -/
def pointHeld (x : Vec F S1x1x6144 .f32) (I : Ins F) (S : State F) (o1 o2 o3 : Vec F S1x512x256 .bf16) : sProp 𝕄 :=
  iprop(owns (c : Thread nD τ) arg2 fullShare x
    ∗ owns (c : Thread nD τ) arg11 fullShare o1 ∗ owns (c : Thread nD τ) arg12 fullShare o2 ∗ owns (c : Thread nD τ) arg13 fullShare o3
    ∗ held c arg3 arg4 arg5 arg6 arg7 arg8 arg9 arg10 arg14 arg15 arg16 arg17 arg18 arg19 arg20 arg21 arg22 I S)

theorem rest_wp (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (do
          clearing arg21 arg22
          step arg3 arg4 arg5 arg6 arg7 arg8 arg9 arg10 arg14 arg15 arg16 arg17 harg17 arg18 harg18 arg19 harg19 arg20 arg21 arg22 (at1 i) causal
          let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
          let _ ← Scf.Loop.for (k0_t3_loop i) (k0_t3_ok i) r (body3 i arg3 arg4 arg5 arg6 arg7 arg8 arg9 arg10 arg14 arg15 arg16 arg17 harg17 arg18 harg18 arg19 harg19 arg20 arg21 arg22)
          closing i arg11 harg11 arg12 harg12 arg13 harg13 arg20 arg21 arg22)
        (fun _ => pointHeld c arg2 arg3 arg4 arg5 arg6 arg7 arg8 arg9 arg10 arg11 arg12 arg13 arg14 arg15 arg16 arg17 arg18 arg19 arg20 arg21 arg22 x I (S.rest I i) (outQ (accOut i (S.rest I i).acc)) (outK (S.rest I i).dk) (outV (S.rest I i).dv)) := by
  have hh : held c arg3 arg4 arg5 arg6 arg7 arg8 arg9 arg10 arg14 arg15 arg16 arg17 arg18 arg19 arg20 arg21 arg22 I S ⊢ wp frame (wpE (defs₀ (F := F)) 𝒱 (c : Thread nD τ) bd) E (clearing arg21 arg22) (fun _ => held c arg3 arg4 arg5 arg6 arg7 arg8 arg9 arg10 arg14 arg15 arg16 arg17 arg18 arg19 arg20 arg21 arg22 I S.cleared) := by
    unfold held
    iintro ⟨H3, H4, H5, H6, H7, H8, H9, H10, H14, H15, H16, HT, H20, H21, H22⟩
    iapply (wp_wand_r Idealize.ShloMosaic.frame (wpE (defs₀ (F := F)) 𝒱 (c : Thread nD τ) bd) E)
    isplitl [H21 H22]
    · iapply (clearing_wp 𝒱 c bd E arg21 arg22 S.dk S.dv)
      isplitl [H21]; · iexact H21
      iexact H22
    iintro %_ ⟨H21, H22⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H14]; · iexact H14
    isplitl [H15]; · iexact H15
    isplitl [H16]; · iexact H16
    isplitl [HT]; · iexact HT
    isplitl [H20]; · iexact H20
    isplitl [H21]; · iexact H21
    iexact H22
  have h1 := seq_wp (k := fun _ => step arg3 arg4 arg5 arg6 arg7 arg8 arg9 arg10 arg14 arg15 arg16 arg17 harg17 arg18 harg18 arg19 harg19 arg20 arg21 arg22 (at1 i) causal) 𝒱 c bd E hh (step_wp 𝒱 c bd E arg3 arg4 arg5 arg6 arg7 arg8 arg9 arg10 arg14 arg15 arg16 arg17 harg17 arg18 harg18 arg19 harg19 arg20 arg21 arg22 (at1 i) causal I S.cleared)
  have h2 : held c arg3 arg4 arg5 arg6 arg7 arg8 arg9 arg10 arg14 arg15 arg16 arg17 arg18 arg19 arg20 arg21 arg22 I (S.cleared.step I (at1 i) causal)
      ⊢ wp frame (wpE (defs₀ (F := F)) 𝒱 (c : Thread nD τ) bd) E (Scf.Loop.for (k0_t2_loop i) (k0_t2_ok i) 0#32 (body2 i arg3 arg4 arg5 arg6 arg7 arg8 arg9 arg10 arg14 arg15 arg16 arg17 harg17 arg18 harg18 arg19 harg19 arg20 arg21 arg22))
        (fun _ => held c arg3 arg4 arg5 arg6 arg7 arg8 arg9 arg10 arg14 arg15 arg16 arg17 arg18 arg19 arg20 arg21 arg22 I (S.rest I i)) := by
    iintro H
    iapply (Scf.wp_for Idealize.ShloMosaic.frame (wpE (defs₀ (F := F)) 𝒱 (c : Thread nD τ) bd) E (k0_t2_loop i).lb (k0_t2_loop i).ub (k0_t2_loop i).st (k0_t2_ok i) 0#32 _
      (fun n _ => held c arg3 arg4 arg5 arg6 arg7 arg8 arg9 arg10 arg14 arg15 arg16 arg17 arg18 arg19 arg20 arg21 arg22 I (State.trips I (S.cleared.step I (at1 i) causal) i n))
      (fun t a => body2_wp 𝒱 c bd E i arg3 arg4 arg5 arg6 arg7 arg8 arg9 arg10 arg14 arg15 arg16 arg17 harg17 arg18 harg18 arg19 harg19 arg20 arg21 arg22 I (S.cleared.step I (at1 i) causal) t a))
    isplitl [H]; · iexact H
    iintro %_ H
    iexact H
  have h3 : ∀ r : BitVec 32, held c arg3 arg4 arg5 arg6 arg7 arg8 arg9 arg10 arg14 arg15 arg16 arg17 arg18 arg19 arg20 arg21 arg22 I (S.rest I i)
      ⊢ wp frame (wpE (defs₀ (F := F)) 𝒱 (c : Thread nD τ) bd) E (Scf.Loop.for (k0_t3_loop i) (k0_t3_ok i) r (body3 i arg3 arg4 arg5 arg6 arg7 arg8 arg9 arg10 arg14 arg15 arg16 arg17 harg17 arg18 harg18 arg19 harg19 arg20 arg21 arg22))
        (fun _ => held c arg3 arg4 arg5 arg6 arg7 arg8 arg9 arg10 arg14 arg15 arg16 arg17 arg18 arg19 arg20 arg21 arg22 I (S.rest I i)) := by
    intro r
    iintro H
    iapply (Scf.wp_for Idealize.ShloMosaic.frame (wpE (defs₀ (F := F)) 𝒱 (c : Thread nD τ) bd) E (k0_t3_loop i).lb (k0_t3_loop i).ub (k0_t3_loop i).st (k0_t3_ok i) r _
      (fun _ _ => held c arg3 arg4 arg5 arg6 arg7 arg8 arg9 arg10 arg14 arg15 arg16 arg17 arg18 arg19 arg20 arg21 arg22 I (S.rest I i))
      (fun t a => absurd t.isLt (Nat.not_lt.2 (Nat.le_trans (k0_t3_abs i).2.1 (Nat.zero_le _)))))
    isplitl [H]; · iexact H
    iintro %_ H
    iexact H
  generalize S.rest I i = S' at h2 h3 ⊢
  unfold pointHeld
  iintro ⟨H2, H11, H12, H13, H⟩
  rw [← bind_assoc, wp_bind]
  iapply (wp_wand_r Idealize.ShloMosaic.frame (wpE (defs₀ (F := F)) 𝒱 (c : Thread nD τ) bd) E)
  isplitl [H]
  · iapply h1 $$ H
  iintro %_ H
  rw [wp_bind]
  iapply (wp_wand_r Idealize.ShloMosaic.frame (wpE (defs₀ (F := F)) 𝒱 (c : Thread nD τ) bd) E)
  isplitl [H]
  · iapply h2 $$ H
  iintro %r H
  rw [wp_bind]
  iapply (wp_wand_r Idealize.ShloMosaic.frame (wpE (defs₀ (F := F)) 𝒱 (c : Thread nD τ) bd) E)
  isplitl [H]
  · iapply (h3 r) $$ H
  iintro %_ H
  unfold held
  icases H with ⟨H3, H4, H5, H6, H7, H8, H9, H10, H14, H15, H16, HT, H20, H21, H22⟩
  iapply (wp_wand_r Idealize.ShloMosaic.frame (wpE (defs₀ (F := F)) 𝒱 (c : Thread nD τ) bd) E)
  isplitl [H11 H12 H13 H20 H21 H22]
  · iapply (closing_wp 𝒱 c bd E i arg11 harg11 arg12 harg12 arg13 harg13 arg20 arg21 arg22 S'.acc S'.dk S'.dv o1 o2 o3)
    isplitl [H11]; · iexact H11
    isplitl [H12]; · iexact H12
    isplitl [H13]; · iexact H13
    isplitl [H20]; · iexact H20
    isplitl [H21]; · iexact H21
    iexact H22
  iintro %_ ⟨H11, H12, H13, H20, H21, H22⟩
  isplitl [H2]; · iexact H2
  isplitl [H11]; · iexact H11
  isplitl [H12]; · iexact H12
  isplitl [H13]; · iexact H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

theorem opened_wp (h : k0_cond1 i = 1#1) (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
        (fun _ => pointHeld c arg2 arg3 arg4 arg5 arg6 arg7 arg8 arg9 arg10 arg11 arg12 arg13 arg14 arg15 arg16 arg17 arg18 arg19 arg20 arg21 arg22 x I (S.opened i h x) o1 o2 o3) := by
  unfold pointHeld held
  iintro ⟨H2, H11, H12, H13, ⟨H3, H4, H5, H6, H7, H8, H9, H10, H14, H15, H16, HT, H20, H21, H22⟩⟩
  iapply (wp_wand_r Idealize.ShloMosaic.frame (wpE (defs₀ (F := F)) 𝒱 (c : Thread nD τ) bd) E)
  isplitl [H2 H14 H20]
  · iapply (opening_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x S.lse S.acc)
    isplitl [H2]; · iexact H2
    isplitl [H14]; · iexact H14
    iexact H20
  iintro %_ ⟨H2, H14, H20⟩
  isplitl [H2]; · iexact H2
  isplitl [H11]; · iexact H11
  isplitl [H12]; · iexact H12
  isplitl [H13]; · iexact H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

set_option maxHeartbeats 1600000 in
theorem kernel_wp (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => pointHeld c arg2 arg3 arg4 arg5 arg6 arg7 arg8 arg9 arg10 arg11 arg12 arg13 arg14 arg15 arg16 arg17 arg18 arg19 arg20 arg21 arg22 x I (S.point x I i) (outQ (accOut i (S.point x I i).acc)) (outK (S.point x I i).dk) (outV (S.point x I i).dv)) := by
  rw [kernel_eq]
  unfold kernel State.point
  by_cases h : k0_cond1 i = 1#1
  · simp only [dif_pos h]
    exact seq_wp 𝒱 c bd E (opened_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x I S o1 o2 o3) (rest_wp 𝒱 c bd E i arg2 arg3 arg4 arg5 arg6 arg7 arg8 arg9 arg10 arg11 harg11 arg12 harg12 arg13 harg13 arg14 arg15 arg16 arg17 harg17 arg18 harg18 arg19 harg19 arg20 arg21 arg22 x I (S.opened i h x) o1 o2 o3)
  · simp only [dif_neg h]
    exact rest_wp 𝒱 c bd E i arg2 arg3 arg4 arg5 arg6 arg7 arg8 arg9 arg10 arg11 harg11 arg12 harg12 arg13 harg13 arg14 arg15 arg16 arg17 harg17 arg18 harg18 arg19 harg19 arg20 arg21 arg22 x I S o1 o2 o3

end Cert.Kernel.Rolled
-- ==== Proof.Kernel.Glue.lean ====
/- Windows put side by side cover a buffer: what the strips keep, and the row statistics spread out, do not
   depend on what the buffers held before. -/
module

public import proofs.«01_k».proof.Proof.Kernel.Point
public import Idealize.ShloMosaic.Lib.ValueIdxCoords

@[expose] public section

set_option maxRecDepth 16384

noncomputable section

namespace Cert.Kernel.Rolled

open Idealize.ShloMosaic Idealize.ShloMosaic.ValueIdx
open Cert.Kernel.Gen
open Idealize.ShloMosaic.VecWindow (window put)

variable {F : FTy → Type} [FloatOps F]

theorem put2_in {α : Type} {m n a b : ℕ} (x : (⟨2, ![m, n]⟩ : Shape).Idx → α) (off : Fin 2 → ℕ) (o0 o1 : ℕ) (ho : off = ![o0, o1])
    (w : (⟨2, ![a, b]⟩ : Shape).Idx → α) (y : (⟨2, ![m, n]⟩ : Shape).Idx) (r : Fin a) (k : Fin b)
    (h0 : (y 0).val = o0 + r.val) (h1 : (y 1).val = o1 + k.val) :
    put x off (![a, b] : Fin 2 → ℕ) w y = w (ix2 r k) := by
  subst ho
  have h : ∀ i : Fin 2, (![o0, o1] : Fin 2 → ℕ) i ≤ (y i).val ∧ (y i).val < (![o0, o1] : Fin 2 → ℕ) i + (![a, b] : Fin 2 → ℕ) i := by
    intro i
    match i with
    | ⟨0, _⟩ => exact ⟨by show o0 ≤ (y 0).val; omega, by show (y 0).val < o0 + a; have := r.isLt; omega⟩
    | ⟨1, _⟩ => exact ⟨by show o1 ≤ (y 1).val; omega, by show (y 1).val < o1 + b; have := k.isLt; omega⟩
  refine (dif_pos h).trans (congrArg w (funext fun i => Fin.ext ?_))
  match i with
  | ⟨0, _⟩ => show (y 0).val - o0 = r.val; omega
  | ⟨1, _⟩ => show (y 1).val - o1 = k.val; omega

theorem put2_out {α : Type} {m n a b : ℕ} (x : (⟨2, ![m, n]⟩ : Shape).Idx → α) (off : Fin 2 → ℕ) (o0 o1 : ℕ) (ho : off = ![o0, o1])
    (w : (⟨2, ![a, b]⟩ : Shape).Idx → α) (y : (⟨2, ![m, n]⟩ : Shape).Idx)
    (h : (y 0).val < o0 ∨ o0 + a ≤ (y 0).val ∨ (y 1).val < o1 ∨ o1 + b ≤ (y 1).val) :
    put x off (![a, b] : Fin 2 → ℕ) w y = x y := by
  subst ho
  refine dif_neg fun hh => ?_
  have h0 : o0 ≤ (y 0).val ∧ (y 0).val < o0 + a := hh 0
  have h1 : o1 ≤ (y 1).val ∧ (y 1).val < o1 + b := hh 1
  omega

/-- The tiles of the sixteen strips and four chunks, side by side. -/
def glue {α : Type} (w : Fin 16 → Fin 4 → S32x128.Idx → α) : S512x512.Idx → α := fun y =>
  w ⟨(y 0).val / 32, by have : (y 0).val < 512 := (y 0).isLt; omega⟩ ⟨(y 1).val / 128, by have : (y 1).val < 512 := (y 1).isLt; omega⟩
    (ix2 (⟨(y 0).val % 32, Nat.mod_lt _ (by decide)⟩ : Fin 32) (⟨(y 1).val % 128, Nat.mod_lt _ (by decide)⟩ : Fin 128))

/-- One strip's four tiles put. -/
def putStrip {α : Type} (w : Fin 16 → Fin 4 → S32x128.Idx → α) (x : S512x512.Idx → α) (g : Fin 16) : S512x512.Idx → α :=
  put (put (put (put x ![32 * g.val, 128 * (0 : Fin 4).val] S32x128.size (w g 0)) ![32 * g.val, 128 * (1 : Fin 4).val] S32x128.size (w g 1))
    ![32 * g.val, 128 * (2 : Fin 4).val] S32x128.size (w g 2)) ![32 * g.val, 128 * (3 : Fin 4).val] S32x128.size (w g 3)

theorem put_tile {α : Type} (w : Fin 16 → Fin 4 → S32x128.Idx → α) (x : S512x512.Idx → α) (g : Fin 16) (c : Fin 4) (y : S512x512.Idx) :
    put x ![32 * g.val, 128 * c.val] S32x128.size (w g c) y
      = if (y 0).val / 32 = g.val ∧ (y 1).val / 128 = c.val then glue w y else x y := by
  have l0 : (y 0).val < 512 := (y 0).isLt
  have l1 : (y 1).val < 512 := (y 1).isLt
  by_cases h : (y 0).val / 32 = g.val ∧ (y 1).val / 128 = c.val
  · rw [if_pos h]
    have hg : (⟨(y 0).val / 32, by omega⟩ : Fin 16) = g := Fin.ext h.1
    have hc : (⟨(y 1).val / 128, by omega⟩ : Fin 4) = c := Fin.ext h.2
    unfold glue
    rw [hg, hc]
    exact put2_in x _ _ _ rfl (w g c) y ⟨(y 0).val % 32, Nat.mod_lt _ (by decide)⟩ ⟨(y 1).val % 128, Nat.mod_lt _ (by decide)⟩
      (by show (y 0).val = 32 * g.val + (y 0).val % 32; omega) (by show (y 1).val = 128 * c.val + (y 1).val % 128; omega)
  · rw [if_neg h]
    exact put2_out x _ _ _ rfl (w g c) y (by omega)

theorem putStrip_apply {α : Type} (w : Fin 16 → Fin 4 → S32x128.Idx → α) (x : S512x512.Idx → α) (g : Fin 16) (y : S512x512.Idx) :
    putStrip w x g y = if (y 0).val / 32 = g.val then glue w y else x y := by
  have l1 : (y 1).val < 512 := (y 1).isLt
  unfold putStrip
  rw [put_tile, put_tile, put_tile, put_tile]
  by_cases h : (y 0).val / 32 = g.val
  · have : (y 1).val / 128 = 0 ∨ (y 1).val / 128 = 1 ∨ (y 1).val / 128 = 2 ∨ (y 1).val / 128 = 3 := by omega
    rcases this with e | e | e | e <;> simp [h, e]
  · simp [h]

theorem foldl_putStrip {α : Type} (w : Fin 16 → Fin 4 → S32x128.Idx → α) (gs : List (Fin 16)) : ∀ (x : S512x512.Idx → α) (y : S512x512.Idx),
    gs.foldl (putStrip w) x y = if ∃ g ∈ gs, (y 0).val / 32 = g.val then glue w y else x y := by
  induction gs with
  | nil => intro x y; simp
  | cons g gs ih =>
    intro x y
    rw [List.foldl_cons, ih, putStrip_apply]
    by_cases h : (y 0).val / 32 = g.val
    · simp [h]
    · simp [h]

/-- All the strips put: nothing of what was there before is left. -/
theorem foldl_putStrip_all {α : Type} (w : Fin 16 → Fin 4 → S32x128.Idx → α) (x : S512x512.Idx → α) :
    [0, 1, 2, 3, 4, 5, 6, 7, 8, 9, 10, 11, 12, 13, 14, 15].foldl (putStrip w) x = glue w := by
  funext y
  have l0 : (y 0).val < 512 := (y 0).isLt
  rw [foldl_putStrip, if_pos]
  have hall : ∀ g : Fin 16, g ∈ [(0 : Fin 16), 1, 2, 3, 4, 5, 6, 7, 8, 9, 10, 11, 12, 13, 14, 15] := by decide
  exact ⟨⟨(y 0).val / 32, by omega⟩, hall _, rfl⟩

section Strips

variable (at_ : At) (mask : Fin 16 → Fin 4 → FVec F S32x128 .f32 → FVec F S32x128 .f32)
  (lse : Vec F S6144x128 .f32) (dlt : Vec F S1x6144x128 .f32) (s dp : Vec F S512x512 .f32)

def tileP (g : Fin 16) (c : Fin 4) : Vec F S32x128 .bf16 :=
  shapeCast S32x128 (quant (probs mask g c s (at_.statOf lse g))) shapeCasts_S32x128_S32x128

def tileD (g : Fin 16) (c : Fin 4) : Vec F S32x128 .bf16 :=
  shapeCast S32x128 (quant (grads mask g c s dp (at_.statOf lse g) (at_.deltaOf dlt g))) shapeCasts_S32x128_S32x128

def tileB (g : Fin 16) (c : Fin 4) : Vec F S32x128 .bf16 :=
  shapeCast S32x128 (truncf .bf16 (grads mask g c s dp (at_.statOf lse g) (at_.deltaOf dlt g)) bitsLt_bf16_f32) shapeCasts_S32x128_S32x128

theorem strips_eq (gs : List (Fin 16)) : ∀ T : Kept F, T.strips at_ mask lse dlt s dp gs
    = ⟨gs.foldl (putStrip (tileP at_ mask lse s)) T.p, gs.foldl (putStrip (tileD at_ mask lse dlt s dp)) T.d,
      gs.foldl (putStrip (tileB at_ mask lse dlt s dp)) T.b⟩ := by
  induction gs with
  | nil => intro T; rfl
  | cons g gs ih => intro T; exact (ih _)

/-- What the strips keep, whatever was there before. -/
theorem strips_all (T : Kept F) : T.strips at_ mask lse dlt s dp [0, 1, 2, 3, 4, 5, 6, 7, 8, 9, 10, 11, 12, 13, 14, 15]
    = ⟨glue (tileP at_ mask lse s), glue (tileD at_ mask lse dlt s dp), glue (tileB at_ mask lse dlt s dp)⟩ := by
  rw [strips_eq, foldl_putStrip_all, foldl_putStrip_all, foldl_putStrip_all]

end Strips

theorem kept_eq (I : Ins F) (S : State F) (at_ : At) (mask : Fin 16 → Fin 4 → FVec F S32x128 .f32 → FVec F S32x128 .f32) :
    S.kept I at_ mask = ⟨glue (tileP at_ mask S.lse (k0_pay1 (at_.rowsOf I.q) I.ka)),
      glue (tileD at_ mask S.lse I.dlt (k0_pay1 (at_.rowsOf I.q) I.ka) (k0_pay1 (at_.rowsOf I.d) I.va)),
      glue (tileB at_ mask S.lse I.dlt (k0_pay1 (at_.rowsOf I.q) I.ka) (k0_pay1 (at_.rowsOf I.d) I.va))⟩ := by
  unfold State.kept
  exact strips_all _ _ _ _ _ _ _

theorem trips1 : k0_t1_loop.trips = 48 := by decide +kernel

theorem spread_apply (i : grid0.Coords) (h : k0_cond1 i = 1#1) (x : Vec F S1x1x6144 .f32) (lse : Vec F S6144x128 .f32) (y : S6144x128.Idx)
    (q : Fin k0_t1_loop.trips) (r : Fin 128) (k : Fin 128) (hq : (y 0).val = 128 * q.val + r.val) (hk : (y 1).val = k.val) : ∀ n : ℕ,
    n ≤ k0_t1_loop.trips → spread i h x lse n y
      = if q.val < n then k0_pay1143 (window x (k0_off1 q) S1x1x128.size (k0_off1_inb i q h)) (ix2 r k) else lse y
  | 0, _ => by simp [spread]
  | n + 1, hn => by
    have hn' : n < k0_t1_loop.trips := hn
    rw [spread, dif_pos hn']
    by_cases e : q.val = n
    · have e' : q = ⟨n, hn'⟩ := Fin.ext e
      rw [if_pos (by omega), e']
      exact put2_in _ _ _ _ (k0_off2_eq _) _ y r k (by rw [hq, e]) (by omega)
    · refine (put2_out _ _ _ _ (k0_off2_eq _) _ y ?_).trans ?_
      · have := r.isLt
        show (y 0).val < 128 * n ∨ 128 * n + 128 ≤ (y 0).val ∨ _
        omega
      · rw [spread_apply i h x lse y q r k hq hk n (by omega)]
        by_cases hlt : q.val < n
        · rw [if_pos hlt, if_pos (by omega)]
        · rw [if_neg hlt, if_neg (by omega)]

/-- The row statistics spread out, at a row and a column. -/
theorem spread_all (i : grid0.Coords) (h : k0_cond1 i = 1#1) (x : Vec F S1x1x6144 .f32) (lse : Vec F S6144x128 .f32) (q : Fin k0_t1_loop.trips) (r k : Fin 128)
    (y : S6144x128.Idx) (hq : (y 0).val = 128 * q.val + r.val) (hk : (y 1).val = k.val) :
    spread i h x lse k0_t1_loop.trips y = k0_pay1143 (window x (k0_off1 q) S1x1x128.size (k0_off1_inb i q h)) (ix2 r k) := by
  rw [spread_apply i h x lse y q r k hq hk _ (Nat.le_refl _), if_pos q.isLt]

theorem exists_div_mod (n b N : ℕ) (hb : 0 < b) (h : n / b < N) : ∃ q : Fin N, ∃ r : Fin b, n = b * q.val + r.val :=
  ⟨⟨n / b, h⟩, ⟨n % b, Nat.mod_lt _ hb⟩, (Nat.div_add_mod _ _).symm⟩

theorem spread_indep (i : grid0.Coords) (h : k0_cond1 i = 1#1) (x : Vec F S1x1x6144 .f32) (lse lse' : Vec F S6144x128 .f32) :
    spread i h x lse k0_t1_loop.trips = spread i h x lse' k0_t1_loop.trips := by
  funext y
  have l0 : (y 0).val < 6144 := (y 0).isLt
  have l1 : (y 1).val < 128 := (y 1).isLt
  have hq : (y 0).val / 128 < k0_t1_loop.trips := by rw [trips1]; omega
  obtain ⟨q, r, e0⟩ := exists_div_mod (y 0).val 128 k0_t1_loop.trips (by decide) hq
  obtain ⟨k, e1⟩ : ∃ k : Fin 128, (y 1).val = k.val := ⟨⟨_, l1⟩, rfl⟩
  exact (spread_all i h x lse q r k y e0 e1).trans (spread_all i h x lse' q r k y e0 e1).symm

/-- A step depends on the row statistics and on the accumulators only. -/
theorem step_congr (I : Ins F) (S S' : State F) (at_ : At) (mask : Fin 16 → Fin 4 → FVec F S32x128 .f32 → FVec F S32x128 .f32)
    (hl : S.lse = S'.lse) (ha : S.acc = S'.acc) (hk : S.dk = S'.dk) (hv : S.dv = S'.dv) : S.step I at_ mask = S'.step I at_ mask := by
  unfold State.step
  rw [kept_eq, kept_eq, hl, ha, hk, hv]

/-- At a pair's first block what was held before does not matter. -/
theorem point_indep (x : Vec F S1x1x6144 .f32) (I : Ins F) (S S' : State F) (i : grid0.Coords) (h : k0_cond1 i = 1#1) :
    S.point x I i = S'.point x I i := by
  unfold State.point
  rw [dif_pos h, dif_pos h]
  unfold State.rest
  have hl : (S.opened i h x).cleared.lse = (S'.opened i h x).cleared.lse := by
    unfold State.cleared State.opened
    dsimp only
    exact spread_indep i h x S.lse S'.lse
  have ha : (S.opened i h x).cleared.acc = (S'.opened i h x).cleared.acc := by
    unfold State.cleared State.opened
    dsimp only
  have hk : (S.opened i h x).cleared.dk = (S'.opened i h x).cleared.dk := by
    unfold State.cleared State.opened
    dsimp only
  have hv : (S.opened i h x).cleared.dv = (S'.opened i h x).cleared.dv := by
    unfold State.cleared State.opened
    dsimp only
  rw [step_congr I (S.opened i h x).cleared (S'.opened i h x).cleared (at1 i) causal hl ha hk hv]

end Cert.Kernel.Rolled
-- ==== Proof.Kernel.Run.lean ====
/- The kernel's run: the proof data with the scratch buffers carried from point to point, the body's
   obligation, the run and the frame. -/
module

public import proofs.«01_k».proof.Proof.Kernel.Glue
public import Idealize.ShloMosaic.Lib.Claim

@[expose] public section

set_option maxRecDepth 16384

noncomputable section

namespace Cert.Kernel.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point reads. -/
def insAt (c : Dev nD) (t : Fin cfg0.N) : Ins F where
  q := iblk m c 1 t
  d := iblk m c 2 t
  dt := iblk m c 3 t
  qt := iblk m c 4 t
  dlt := iblk m c 5 t
  ka := iblk m c 6 t
  va := iblk m c 7 t
  k := iblk m c 8 t

/-- The row statistics a point reads. -/
def statAt (c : Dev nD) (t : Fin cfg0.N) : Vec F S1x1x6144 .f32 := iblk m c 0 t

/-- Anything: what the scratch buffers are taken to hold before the first point. -/
def State.start : State F where
  lse := broadcast S6144x128 (Scalar.ofBits .f32 0x00000000#32)
  s := broadcast S512x512 (Scalar.ofBits .f32 0x00000000#32)
  dp := broadcast S512x512 (Scalar.ofBits .f32 0x00000000#32)
  T := ⟨broadcast S512x512 (Scalar.ofBits .bf16 0#16), broadcast S512x512 (Scalar.ofBits .bf16 0#16), broadcast S512x512 (Scalar.ofBits .bf16 0#16)⟩
  acc := broadcast S6144x256 (Scalar.ofBits .f32 0x00000000#32)
  dk := broadcast S256x512 (Scalar.ofBits .f32 0x00000000#32)
  dv := broadcast S256x512 (Scalar.ofBits .f32 0x00000000#32)

/-- What the scratch buffers hold before point `n`. -/
def stateAt (c : Dev nD) : ℕ → State F
  | 0 => State.start
  | n + 1 => if h : n < cfg0.N then (stateAt c n).point (statAt m c ⟨n, h⟩) (insAt m c ⟨n, h⟩) (grid0.coords ⟨n, h⟩) else stateAt c n

/-- What they hold after point `t`. -/
def stateAfter (c : Dev nD) (t : Fin cfg0.N) : State F := (stateAt m c t.val).point (statAt m c t) (insAt m c t) (grid0.coords t)

theorem stateAt_succ (c : Dev nD) (t : Fin cfg0.N) : stateAt m c (t.val + 1) = stateAfter m c t := by
  unfold stateAfter
  rw [stateAt, dif_pos t.isLt]

/-- The scratch buffers, each whole. -/
def scratch (c : Dev nD) (S : State F) : sProp 𝕄 :=
  iprop(owns (c : Thread nD τ) (Memref.whole cc0_scratch0) fullShare S.lse ∗ owns (c : Thread nD τ) (Memref.whole cc0_scratch1) fullShare S.s
    ∗ owns (c : Thread nD τ) (Memref.whole cc0_scratch2) fullShare S.dp
    ∗ keeps c (Memref.whole cc0_scratch3) (Memref.whole cc0_scratch4) (Memref.whole cc0_scratch5) S.T
    ∗ owns (c : Thread nD τ) (Memref.whole cc0_scratch6) fullShare S.acc
    ∗ owns (c : Thread nD τ) (Memref.whole cc0_scratch7) fullShare S.dk ∗ owns (c : Thread nD τ) (Memref.whole cc0_scratch8) fullShare S.dv)

/-- What is carried from point to point. -/
def carried (c : Dev nD) (n : ℕ) : sProp 𝕄 :=
  iprop((∃ S : State F, ⌜n = 0 ∨ S = stateAt m c n⌝ ∗ scratch c S) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outQ (accOut (grid0.coords t) (stateAfter m c t).acc)
    | ⟨10, _⟩ => outK (stateAfter m c t).dk
    | ⟨11, _⟩ => outV (stateAfter m c t).dv
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outQ (accOut (grid0.coords t) (stateAfter m c t).acc) := by dsimp only [dats]
theorem after0_10 (c : Dev nD) (t : Fin cfg0.N) : (dats m 0 c).after 10 t = outK (stateAfter m c t).dk := by dsimp only [dats]
theorem after0_11 (c : Dev nD) (t : Fin cfg0.N) : (dats m 0 c).after 11 t = outV (stateAfter m c t).dv := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem first_opens : ∀ t : Fin cfg0.N, t.val = 0 → k0_cond1 (grid0.coords t) = 1#1 := by
  intro t h
  have e : t = ⟨0, by decide⟩ := Fin.ext h
  rw [e]
  decide +kernel

/-- The scratch buffers' part of what a point holds. -/
theorem point_wp (c : Dev nD) (t : Fin cfg0.N) (S : State F) (hS : t.val = 0 ∨ S = stateAt m c t.val) (o1 o2 o3 : Vec F S1x512x256 .bf16) :
    pointHeld c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (statAt m c t) (insAt m c t) S o1 o2 o3
      ⊢ wp frame (wpE (defs₀ (F := F)) Variants.none (c : Thread nD τ) none) Set.univ (bodyAt0 t)
        (fun _ => pointHeld c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (statAt m c t) (insAt m c t) (stateAfter m c t)
          (outQ (accOut (grid0.coords t) (stateAfter m c t).acc)) (outK (stateAfter m c t).dk) (outV (stateAfter m c t).dv)) := by
  have e : S.point (statAt m c t) (insAt m c t) (grid0.coords t) = stateAfter m c t := by
    rcases hS with h0 | h
    · exact point_indep _ _ _ _ _ (first_opens t h0)
    · rw [h]; rfl
  rw [← e]
  exact kernel_wp Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (statAt m c t) (insAt m c t) S o1 o2 o3

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5, after0_6, after0_7, after0_8, after0_9, after0_10, after0_11]
  unfold carried
  iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hw := point_wp m c t S hS ((dats m 0 c).before 9 t d9) ((dats m 0 c).before 10 t d10) ((dats m 0 c).before 11 t d11)
  unfold pointHeld held at hw
  unfold scratch
  icases HS with ⟨S0, S1, S2, S3, S6, S7, S8⟩
  iapply (wp_wand_r Idealize.ShloMosaic.frame (wpE (defs₀ (F := F)) Variants.none (c : Thread nD τ) none) Set.univ)
  isplitl [S0 S1 S2 S3 S6 S7 S8 H0 H1 H2 H3 H4 H5 H6 H7 H8 H9 H10 H11]
  · iapply hw
    isplitl [H0]; · iexact H0
    isplitl [H9]; · iexact H9
    isplitl [H10]; · iexact H10
    isplitl [H11]; · iexact H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S6]; · iexact S6
    isplitl [S7]; · iexact S7
    iexact S8
  iintro %_ ⟨H0, H9, H10, H11, H1, H2, H3, H4, H5, H6, H7, H8, S0, S1, S2, S3, S6, S7, S8⟩
  isplitl [S0 S1 S2 S3 S6 S7 S8 Hr]
  · isplitr [Hr]
    · iexists (stateAfter m c t)
      isplitr
      · ipureintro
        exact Or.inr (stateAt_succ m c t).symm
      isplitl [S0]; · iexact S0
      isplitl [S1]; · iexact S1
      isplitl [S2]; · iexact S2
      isplitl [S3]; · iexact S3
      isplitl [S6]; · iexact S6
      isplitl [S7]; · iexact S7
      iexact S8
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem carried_intro (c : Dev nD) : Pipeline.ΦA spec0 c ⊢ (carried m c 0 : sProp 𝕄) := by
  unfold Pipeline.ΦA carried scratch keeps
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩
  isplitr [Hr]
  · iexists (⟨f0, f1, f2, ⟨f3, f4, f5⟩, f6, f7, f8⟩ : State F)
    isplitr
    · ipureintro
      exact Or.inl rfl
    isplitl [H0]; · iapply (Entails.of_eq (owns_whole (c : Thread nD τ) cc0_scratch0 fullShare f0).symm) $$ H0
    isplitl [H1]; · iapply (Entails.of_eq (owns_whole (c : Thread nD τ) cc0_scratch1 fullShare f1).symm) $$ H1
    isplitl [H2]; · iapply (Entails.of_eq (owns_whole (c : Thread nD τ) cc0_scratch2 fullShare f2).symm) $$ H2
    isplitl [H3 H4 H5]
    · isplitl [H3]; · iapply (Entails.of_eq (owns_whole (c : Thread nD τ) cc0_scratch3 fullShare f3).symm) $$ H3
      isplitl [H4]; · iapply (Entails.of_eq (owns_whole (c : Thread nD τ) cc0_scratch4 fullShare f4).symm) $$ H4
      iapply (Entails.of_eq (owns_whole (c : Thread nD τ) cc0_scratch5 fullShare f5).symm) $$ H5
    isplitl [H6]; · iapply (Entails.of_eq (owns_whole (c : Thread nD τ) cc0_scratch6 fullShare f6).symm) $$ H6
    isplitl [H7]; · iapply (Entails.of_eq (owns_whole (c : Thread nD τ) cc0_scratch7 fullShare f7).symm) $$ H7
    iapply (Entails.of_eq (owns_whole (c : Thread nD τ) cc0_scratch8 fullShare f8).symm) $$ H8
  · iexact Hr

theorem carried_elim (c : Dev nD) (n : ℕ) : (carried m c n : sProp 𝕄) ⊢ Pipeline.ΦA spec0 c := by
  unfold Pipeline.ΦA carried scratch keeps
  rw [scopedRest0_eq]
  iintro ⟨⟨%S, -, H0, H1, H2, ⟨H3, H4, H5⟩, H6, H7, H8⟩, Hr⟩
  isplitr [Hr]
  · isplitl [H0]; · iexists S.lse; iapply (Entails.of_eq (owns_whole (c : Thread nD τ) cc0_scratch0 fullShare S.lse)) $$ H0
    isplitl [H1]; · iexists S.s; iapply (Entails.of_eq (owns_whole (c : Thread nD τ) cc0_scratch1 fullShare S.s)) $$ H1
    isplitl [H2]; · iexists S.dp; iapply (Entails.of_eq (owns_whole (c : Thread nD τ) cc0_scratch2 fullShare S.dp)) $$ H2
    isplitl [H3]; · iexists S.T.p; iapply (Entails.of_eq (owns_whole (c : Thread nD τ) cc0_scratch3 fullShare S.T.p)) $$ H3
    isplitl [H4]; · iexists S.T.d; iapply (Entails.of_eq (owns_whole (c : Thread nD τ) cc0_scratch4 fullShare S.T.d)) $$ H4
    isplitl [H5]; · iexists S.T.b; iapply (Entails.of_eq (owns_whole (c : Thread nD τ) cc0_scratch5 fullShare S.T.b)) $$ H5
    isplitl [H6]; · iexists S.acc; iapply (Entails.of_eq (owns_whole (c : Thread nD τ) cc0_scratch6 fullShare S.acc)) $$ H6
    isplitl [H7]; · iexists S.dk; iapply (Entails.of_eq (owns_whole (c : Thread nD τ) cc0_scratch7 fullShare S.dk)) $$ H7
    iexists S.dv; iapply (Entails.of_eq (owns_whole (c : Thread nD τ) cc0_scratch8 fullShare S.dv)) $$ H8
  · iexact Hr

set_option backward.isDefEq.respectTransparency.types false in
set_option maxHeartbeats 800000 in
/-- Every fair execution ends with the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_intro m c) (hout := fun c => carried_elim m c _)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Rolled
-- ==== Proof.KernelIdeal.Model.lean ====
/- The kernel function's text, rolled up again: the sixteen strips of 32 rows and the four chunks of
   128 columns that one step writes out one after another, as one function of the strip and the chunk,
   and one step as a function of where it reads and of its mask. -/
module

public import proofs.«01_k».proof.Proof.Gen.KernelIdeal.Skeleton

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]

/-- The biased exponent, in place, of a row of nonnegative numbers: the largest step of the table whose
    power of two is not above it. -/
def exponentBits (x : FVec F S1x128 .f32) : IVec S1x128 32 :=
  let steps : IVec S256x128 32 := muli (iota .tc S256x128 32 [0] iota_S256x128_d0_w32) (broadcast S256x128 8388608#32)
  let powers : FVec F S256x128 .f32 := bitcastToFloat .f32 steps
  let kept : IVec S256x128 32 := select (cmpf .olt (broadcastTo S256x128 x broadcasts_S1x128_S256x128) powers) (broadcast S256x128 0#32) steps
  shapeCast S1x128 (multiReductionI .maxsi [0] S128 kept 2147483648#32 reduces_S256x128_S128 rfl) shapeCasts_S128_S1x128

/-- The largest magnitude of each column, scaled down by the greatest number of the 8-bit format. -/
def columnMax (y : FVec F S32x128 .f32) : FVec F S1x128 .f32 :=
  mulf (shapeCast S1x128 (multiReduction .maximumf [0] S128 (absf y) 0xFF800000#32 reduces_S32x128_S128 (.inl rfl) rfl) shapeCasts_S128_S1x128)
    (broadcast S1x128 (Scalar.ofBits .f32 0x3B124925#32))

/-- The exponent bits a column's scale is made from. -/
def scaleBits (y : FVec F S32x128 .f32) : IVec S1x128 32 :=
  let bits := exponentBits (columnMax y)
  select (cmpi .eq bits (broadcast S1x128 0#32)) (broadcast S1x128 1056964608#32) bits

/-- A tile's columns of 32, quantised to 8 bits under their scales and scaled back. -/
def quant (y : FVec F S32x128 .f32) : FVec F S32x128 .bf16 :=
  let bits := scaleBits y
  let scale : FVec F S1x128 .f32 := bitcastToFloat .f32 (addi bits (broadcast S1x128 8388608#32))
  let inv : FVec F S1x128 .f32 := bitcastToFloat .f32 (subi (broadcast S1x128 2122317824#32) bits)
  let codes : FVec F S32x128 .fp8e4m3 := truncf .fp8e4m3
    (minimumf (broadcast S32x128 (Scalar.ofBits .f32 0x43E00000#32))
      (maximumf (broadcast S32x128 (Scalar.ofBits .f32 0xC3E00000#32))
        (mulf y (broadcastTo S32x128 inv broadcasts_S1x128_S32x128)))) bitsLt_fp8e4m3_f32
  mulf (extf .bf16 codes bitsLt_fp8e4m3_bf16)
    (broadcastTo S32x128 (truncf .bf16 scale bitsLt_bf16_f32) broadcasts_S1x128_S32x128)

/-- The causal mask of strip `g` and chunk `c` of a step on the diagonal. -/
def causal (g : Fin 16) (c : Fin 4) (x : FVec F S32x128 .f32) : FVec F S32x128 .f32 :=
  select (cmpi .sle
      (addi (iota .tc S32x128 32 [1] iota_S32x128_d1_w32) (broadcast S32x128 (BitVec.ofNat 32 (128 * c.val))))
      (addi (iota .tc S32x128 32 [0] iota_S32x128_d0_w32) (broadcast S32x128 (BitVec.ofNat 32 (32 * g.val)))))
    x (broadcast S32x128 (Scalar.ofBits .f32 0xFF800000#32))

/-- No mask. -/
def unmasked (g : Fin 16) (c : Fin 4) (x : FVec F S32x128 .f32) : FVec F S32x128 .f32 := x

theorem tile_inb (g : Fin 16) (c : Fin 4) :
    ∀ a, (![32 * g.val, 128 * c.val] : Fin 2 → Nat) a + S32x128.size a ≤ S512x512.size a := by
  revert g c; decide

theorem tile_packed (g : Fin 16) (c : Fin 4) :
    (Rect.unit (s := S512x512) ![32 * g.val, 128 * c.val] S32x128.size (tile_inb g c)).PackedRows (EltTy.packing .bf16) := by
  revert g c; decide

/-- Where one step reads and writes: rows of the queries, of the row statistics, columns of the
    transposed operands, rows of the accumulator. -/
structure At where
  rows : Fin 3 → Nat
  rows_inb : ∀ a, rows a + S1x512x256.size a ≤ S1x6144x256.size a
  stat : Fin 16 → Fin 2 → Nat
  stat_inb : ∀ g a, stat g a + S32x128.size a ≤ S6144x128.size a
  delta : Fin 16 → Fin 3 → Nat
  delta_inb : ∀ g a, delta g a + S1x32x128.size a ≤ S1x6144x128.size a
  cols : Fin 3 → Nat
  cols_inb : ∀ a, cols a + S1x256x512.size a ≤ S1x256x6144.size a
  acc : Fin 2 → Nat
  acc_inb : ∀ a, acc a + S512x256.size a ≤ S6144x256.size a

/-- Where trip `t` of the main loop works. -/
def at2 (i : grid0.Coords) (t : Fin (k0_t2_loop i).trips) : At where
  rows := k0_off8 i t
  rows_inb := k0_off8_inb i t
  stat g := k0_off9 i t (BitVec.ofNat 32 (32 * g.val))
  stat_inb := k0_off9_inb i t
  delta g := k0_off10 i t (BitVec.ofNat 32 (32 * g.val))
  delta_inb := k0_off10_inb i t
  cols := k0_off11 i t
  cols_inb := k0_off11_inb i t
  acc := k0_off12 i t
  acc_inb := k0_off12_inb i t

/-- Where trip `t` of the loop's rest works. -/
def at3 (i : grid0.Coords) (t : Fin (k0_t3_loop i).trips) : At where
  rows := k0_off13 i t
  rows_inb := k0_off13_inb i t
  stat g := k0_off14 i t (BitVec.ofNat 32 (32 * g.val))
  stat_inb := k0_off14_inb i t
  delta g := k0_off15 i t (BitVec.ofNat 32 (32 * g.val))
  delta_inb := k0_off15_inb i t
  cols := k0_off16 i t
  cols_inb := k0_off16_inb i t
  acc := k0_off17 i t
  acc_inb := k0_off17_inb i t

/-- Where the step on the diagonal works. -/
def at1 (i : grid0.Coords) : At where
  rows := k0_off3 i
  rows_inb := k0_off3_inb i
  stat g := k0_off4 i (BitVec.ofNat 32 (32 * g.val))
  stat_inb := k0_off4_inb i
  delta g := k0_off5 i (BitVec.ofNat 32 (32 * g.val))
  delta_inb := k0_off5_inb i
  cols := k0_off6 i
  cols_inb := k0_off6_inb i
  acc := k0_off7 i
  acc_inb := k0_off7_inb i

variable (arg3 : Memref sig .tc .vmem S1x6144x256 .bf16) (arg4 : Memref sig .tc .vmem S1x6144x256 .bf16)
  (arg5 : Memref sig .tc .vmem S1x256x6144 .bf16) (arg6 : Memref sig .tc .vmem S1x256x6144 .bf16)
  (arg7 : Memref sig .tc .vmem S1x6144x128 .f32)
  (arg8 : Memref sig .tc .vmem S1x512x256 .bf16) (arg9 : Memref sig .tc .vmem S1x512x256 .bf16) (arg10 : Memref sig .tc .vmem S1x512x256 .bf16)
  (arg14 : Memref sig .tc .vmem S6144x128 .f32)
  (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S6144x256 .f32) (arg21 : Memref sig .tc .vmem S256x512 .f32) (arg22 : Memref sig .tc .vmem S256x512 .f32)

/-- Strip `g`, chunk `c`: the probabilities and the score gradients of one tile, quantised and kept. -/
def tile (mask : Fin 16 → Fin 4 → FVec F S32x128 .f32 → FVec F S32x128 .f32) (g : Fin 16) (lse dlt : FVec F S32x128 .f32) (c : Fin 4) :
    Prog (TpuEff nD τ sig (Elt F) Λ₀ .tc) PUnit := do
  let s : Vec F S32x128 .f32 ← Prog.lift (.load arg15 (Rect.unit (s := S512x512) ![32 * g.val, 128 * c.val] S32x128.size (tile_inb g c)).toLoadRect (View.loadsAt_vmem h_S32x128))
  let dp : Vec F S32x128 .f32 ← Prog.lift (.load arg16 (Rect.unit (s := S512x512) ![32 * g.val, 128 * c.val] S32x128.size (tile_inb g c)).toLoadRect (View.loadsAt_vmem h_S32x128))
  let _ : Vec F S32x128 .bf16 ← Prog.lift (.load arg17 (Rect.unit (s := S512x512) ![32 * g.val, 128 * c.val] S32x128.size (tile_inb g c)).toLoadRect (View.loadsAt_vmem h_S32x128))
  Prog.lift (.store arg17 (Rect.unit (s := S512x512) ![32 * g.val, 128 * c.val] S32x128.size (tile_inb g c)) (shapeCast S32x128 (quant (exp (mask g c (subf s lse)))) shapeCasts_S32x128_S32x128) Finset.univ (View.stores_vmem h_S32x128 (harg17.storeExact_slice rfl _ (tile_packed g c)) (fun _ => rfl)) (.inl rfl))
  let _ : Vec F S32x128 .bf16 ← Prog.lift (.load arg18 (Rect.unit (s := S512x512) ![32 * g.val, 128 * c.val] S32x128.size (tile_inb g c)).toLoadRect (View.loadsAt_vmem h_S32x128))
  Prog.lift (.store arg18 (Rect.unit (s := S512x512) ![32 * g.val, 128 * c.val] S32x128.size (tile_inb g c)) (shapeCast S32x128 (quant (mulf (exp (mask g c (subf s lse))) (subf dp dlt))) shapeCasts_S32x128_S32x128) Finset.univ (View.stores_vmem h_S32x128 (harg18.storeExact_slice rfl _ (tile_packed g c)) (fun _ => rfl)) (.inl rfl))
  let _ : Vec F S32x128 .bf16 ← Prog.lift (.load arg19 (Rect.unit (s := S512x512) ![32 * g.val, 128 * c.val] S32x128.size (tile_inb g c)).toLoadRect (View.loadsAt_vmem h_S32x128))
  Prog.lift (.store arg19 (Rect.unit (s := S512x512) ![32 * g.val, 128 * c.val] S32x128.size (tile_inb g c)) (shapeCast S32x128 (truncf .bf16 (mulf (exp (mask g c (subf s lse))) (subf dp dlt)) bitsLt_bf16_f32) shapeCasts_S32x128_S32x128) Finset.univ (View.stores_vmem h_S32x128 (harg19.storeExact_slice rfl _ (tile_packed g c)) (fun _ => rfl)) (.inl rfl))

/-- Strip `g`: its row statistics, then its four chunks. -/
def strip (at_ : At) (mask : Fin 16 → Fin 4 → FVec F S32x128 .f32 → FVec F S32x128 .f32) (g : Fin 16) :
    Prog (TpuEff nD τ sig (Elt F) Λ₀ .tc) PUnit := do
  let lse : Vec F S32x128 .f32 ← Prog.lift (.load arg14 (Rect.unit (s := S6144x128) (at_.stat g) S32x128.size (at_.stat_inb g)).toLoadRect (View.loadsAt_vmem h_S32x128))
  let d : Vec F S1x32x128 .f32 ← Prog.lift (.load arg7 (Rect.unit (s := S1x6144x128) (at_.delta g) S1x32x128.size (at_.delta_inb g)).toLoadRect (View.loadsAt_vmem h_S1x32x128))
  tile arg15 arg16 arg17 harg17 arg18 harg18 arg19 harg19 mask g lse (shapeCast S32x128 d shapeCasts_S1x32x128_S32x128) 0
  tile arg15 arg16 arg17 harg17 arg18 harg18 arg19 harg19 mask g lse (shapeCast S32x128 d shapeCasts_S1x32x128_S32x128) 1
  tile arg15 arg16 arg17 harg17 arg18 harg18 arg19 harg19 mask g lse (shapeCast S32x128 d shapeCasts_S1x32x128_S32x128) 2
  tile arg15 arg16 arg17 harg17 arg18 harg18 arg19 harg19 mask g lse (shapeCast S32x128 d shapeCasts_S1x32x128_S32x128) 3

/-- The strips of a list, one after another. -/
def strips (at_ : At) (mask : Fin 16 → Fin 4 → FVec F S32x128 .f32 → FVec F S32x128 .f32) : List (Fin 16) → Prog (TpuEff nD τ sig (Elt F) Λ₀ .tc) PUnit
  | [] => pure ⟨⟩
  | g :: gs => do
    strip arg7 arg14 arg15 arg16 arg17 harg17 arg18 harg18 arg19 harg19 at_ mask g
    strips at_ mask gs

/-- The scores of the step's block and their upstream gradients. -/
def scores (at_ : At) : Prog (TpuEff nD τ sig (Elt F) Λ₀ .tc) PUnit := do
  let q : Vec F S1x512x256 .bf16 ← Prog.lift (.load arg3 (Rect.unit (s := S1x6144x256) at_.rows S1x512x256.size at_.rows_inb).toLoadRect (View.loadsAt_vmem h_S1x512x256))
  let k : Vec F S1x512x256 .bf16 ← Prog.lift (.load arg8 (Rect.unit (s := S1x512x256) ![0, 0, 0] S1x512x256.size inb_S1x512x256_S1x512x256_0_0_0).toLoadRect (View.loadsAt_vmem h_S1x512x256))
  let _ : Vec F S512x512 .f32 ← Prog.lift (.load arg15 (Rect.unit (s := S512x512) ![0, 0] S512x512.size inb_S512x512_S512x512_0_0).toLoadRect (View.loadsAt_vmem h_S512x512))
  Prog.lift (.store arg15 (Rect.unit (s := S512x512) ![0, 0] S512x512.size inb_S512x512_S512x512_0_0) (k0_pay1 q k) Finset.univ (View.stores_vmem_bits_univ h_S512x512 rfl) (.inl rfl))
  let d : Vec F S1x512x256 .bf16 ← Prog.lift (.load arg4 (Rect.unit (s := S1x6144x256) at_.rows S1x512x256.size at_.rows_inb).toLoadRect (View.loadsAt_vmem h_S1x512x256))
  let v : Vec F S1x512x256 .bf16 ← Prog.lift (.load arg9 (Rect.unit (s := S1x512x256) ![0, 0, 0] S1x512x256.size inb_S1x512x256_S1x512x256_0_0_0).toLoadRect (View.loadsAt_vmem h_S1x512x256))
  let _ : Vec F S512x512 .f32 ← Prog.lift (.load arg16 (Rect.unit (s := S512x512) ![0, 0] S512x512.size inb_S512x512_S512x512_0_0).toLoadRect (View.loadsAt_vmem h_S512x512))
  Prog.lift (.store arg16 (Rect.unit (s := S512x512) ![0, 0] S512x512.size inb_S512x512_S512x512_0_0) (k0_pay1 d v) Finset.univ (View.stores_vmem_bits_univ h_S512x512 rfl) (.inl rfl))

/-- A transposed operand times the kept tiles, added to an accumulator. -/
def accumulated (old : Vec F S256x512 .f32) (x : Vec F S1x256x512 .bf16) (p : Vec F S512x512 .bf16) : FVec F S256x512 .f32 :=
  shapeCast S256x512 (addf old (matmul dot_S256x512_S512x512_S256x512_1_0_0_1_n_n none (shapeCast S256x512 x shapeCasts_S1x256x512_S256x512) p
    (constant S256x512 .f32 0x00000000#32))) shapeCasts_S256x512_S256x512

/-- The score gradients times the block's keys, added to the accumulator's rows. -/
def accumulatedQ (old : Vec F S512x256 .f32) (ds : Vec F S512x512 .bf16) (k : Vec F S1x512x256 .bf16) : FVec F S512x256 .f32 :=
  shapeCast S512x256 (addf old (matmul dot_S512x512_S512x256_S512x256_1_0_0_1_n_n none ds (shapeCast S512x256 k shapeCasts_S1x512x256_S512x256)
    (constant S512x256 .f32 0x00000000#32))) shapeCasts_S512x256_S512x256

/-- The step's three contributions. -/
def gradients (at_ : At) : Prog (TpuEff nD τ sig (Elt F) Λ₀ .tc) PUnit := do
  let dv : Vec F S256x512 .f32 ← Prog.lift (.load arg22 (Rect.unit (s := S256x512) ![0, 0] S256x512.size inb_S256x512_S256x512_0_0).toLoadRect (View.loadsAt_vmem h_S256x512))
  let d : Vec F S1x256x512 .bf16 ← Prog.lift (.load arg5 (Rect.unit (s := S1x256x6144) at_.cols S1x256x512.size at_.cols_inb).toLoadRect (View.loadsAt_vmem h_S1x256x512))
  let p : Vec F S512x512 .bf16 ← Prog.lift (.load arg17 (Rect.unit (s := S512x512) ![0, 0] S512x512.size inb_S512x512_S512x512_0_0).toLoadRect (View.loadsAt_vmem h_S512x512))
  let _ : Vec F S256x512 .f32 ← Prog.lift (.load arg22 (Rect.unit (s := S256x512) ![0, 0] S256x512.size inb_S256x512_S256x512_0_0).toLoadRect (View.loadsAt_vmem h_S256x512))
  Prog.lift (.store arg22 (Rect.unit (s := S256x512) ![0, 0] S256x512.size inb_S256x512_S256x512_0_0) (accumulated dv d p) Finset.univ (View.stores_vmem_bits_univ h_S256x512 rfl) (.inl rfl))
  let dk : Vec F S256x512 .f32 ← Prog.lift (.load arg21 (Rect.unit (s := S256x512) ![0, 0] S256x512.size inb_S256x512_S256x512_0_0).toLoadRect (View.loadsAt_vmem h_S256x512))
  let q : Vec F S1x256x512 .bf16 ← Prog.lift (.load arg6 (Rect.unit (s := S1x256x6144) at_.cols S1x256x512.size at_.cols_inb).toLoadRect (View.loadsAt_vmem h_S1x256x512))
  let s : Vec F S512x512 .bf16 ← Prog.lift (.load arg18 (Rect.unit (s := S512x512) ![0, 0] S512x512.size inb_S512x512_S512x512_0_0).toLoadRect (View.loadsAt_vmem h_S512x512))
  let _ : Vec F S256x512 .f32 ← Prog.lift (.load arg21 (Rect.unit (s := S256x512) ![0, 0] S256x512.size inb_S256x512_S256x512_0_0).toLoadRect (View.loadsAt_vmem h_S256x512))
  Prog.lift (.store arg21 (Rect.unit (s := S256x512) ![0, 0] S256x512.size inb_S256x512_S256x512_0_0) (accumulated dk q s) Finset.univ (View.stores_vmem_bits_univ h_S256x512 rfl) (.inl rfl))
  let dq : Vec F S512x256 .f32 ← Prog.lift (.load arg20 (Rect.unit (s := S6144x256) at_.acc S512x256.size at_.acc_inb).toLoadRect (View.loadsAt_vmem h_S512x256))
  let t : Vec F S512x512 .bf16 ← Prog.lift (.load arg19 (Rect.unit (s := S512x512) ![0, 0] S512x512.size inb_S512x512_S512x512_0_0).toLoadRect (View.loadsAt_vmem h_S512x512))
  let k : Vec F S1x512x256 .bf16 ← Prog.lift (.load arg10 (Rect.unit (s := S1x512x256) ![0, 0, 0] S1x512x256.size inb_S1x512x256_S1x512x256_0_0_0).toLoadRect (View.loadsAt_vmem h_S1x512x256))
  let _ : Vec F S512x256 .f32 ← Prog.lift (.load arg20 (Rect.unit (s := S6144x256) at_.acc S512x256.size at_.acc_inb).toLoadRect (View.loadsAt_vmem h_S512x256))
  Prog.lift (.store arg20 (Rect.unit (s := S6144x256) at_.acc S512x256.size at_.acc_inb) (accumulatedQ dq t k) Finset.univ (View.stores_vmem_bits_univ h_S512x256 rfl) (.inl rfl))

/-- One step. -/
def step (at_ : At) (mask : Fin 16 → Fin 4 → FVec F S32x128 .f32 → FVec F S32x128 .f32) : Prog (TpuEff nD τ sig (Elt F) Λ₀ .tc) PUnit := do
  scores arg3 arg4 arg8 arg9 arg15 arg16 at_
  strips arg7 arg14 arg15 arg16 arg17 harg17 arg18 harg18 arg19 harg19 at_ mask [0, 1, 2, 3, 4, 5, 6, 7, 8, 9, 10, 11, 12, 13, 14, 15]
  gradients arg5 arg6 arg10 arg17 arg18 arg19 arg20 arg21 arg22 at_

end Cert.KernelIdeal.Rolled
-- ==== Proof.KernelIdeal.Pieces.lean ====
/- The pieces of the kernel function around its steps. -/
module

public import proofs.«01_k».proof.Proof.KernelIdeal.Model

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- At a pair's first block: the row statistics spread out, the query accumulator cleared. -/
def opening (h : k0_cond1 i = 1#1) : Prog (TpuEff nD τ sig (Elt F) Λ₀ .tc) PUnit := do
  Scf.Loop.for k0_t1_loop (k0_t1_ok i h) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
  let _ : Vec F S6144x256 .f32 ← Prog.lift (.load arg20 (Rect.unit (s := S6144x256) ![0, 0] S6144x256.size inb_S6144x256_S6144x256_0_0).toLoadRect (View.loadsAt_vmem h_S6144x256))
  Prog.lift (.store arg20 (Rect.unit (s := S6144x256) ![0, 0] S6144x256.size inb_S6144x256_S6144x256_0_0) (shapeCast S6144x256 (broadcast S6144x256 (Scalar.ofBits .f32 0x00000000#32)) shapeCasts_S6144x256_S6144x256) Finset.univ (View.stores_vmem_bits_univ h_S6144x256 rfl) (.inl rfl))
  pure ⟨⟩

/-- At every block: the two transposed accumulators cleared. -/
def clearing : Prog (TpuEff nD τ sig (Elt F) Λ₀ .tc) PUnit := do
  let _ : Vec F S256x512 .f32 ← Prog.lift (.load arg21 (Rect.unit (s := S256x512) ![0, 0] S256x512.size inb_S256x512_S256x512_0_0).toLoadRect (View.loadsAt_vmem h_S256x512))
  Prog.lift (.store arg21 (Rect.unit (s := S256x512) ![0, 0] S256x512.size inb_S256x512_S256x512_0_0) (shapeCast S256x512 (broadcast S256x512 (Scalar.ofBits .f32 0x00000000#32)) shapeCasts_S256x512_S256x512) Finset.univ (View.stores_vmem_bits_univ h_S256x512 rfl) (.inl rfl))
  let _ : Vec F S256x512 .f32 ← Prog.lift (.load arg22 (Rect.unit (s := S256x512) ![0, 0] S256x512.size inb_S256x512_S256x512_0_0).toLoadRect (View.loadsAt_vmem h_S256x512))
  Prog.lift (.store arg22 (Rect.unit (s := S256x512) ![0, 0] S256x512.size inb_S256x512_S256x512_0_0) (shapeCast S256x512 (broadcast S256x512 (Scalar.ofBits .f32 0x00000000#32)) shapeCasts_S256x512_S256x512) Finset.univ (View.stores_vmem_bits_univ h_S256x512 rfl) (.inl rfl))

/-- A block of the query gradient, as it is handed out. -/
def outQ (v : Vec F S512x256 .f32) : FVec F S1x512x256 .bf16 :=
  shapeCast S1x512x256 (truncf .bf16 (mulf (broadcast S512x256 (Scalar.ofBits .f32 0x3D800000#32)) v) bitsLt_bf16_f32) shapeCasts_S512x256_S1x512x256

/-- A block of the key gradient, as it is handed out. -/
def outK (v : Vec F S256x512 .f32) : FVec F S1x512x256 .bf16 :=
  shapeCast S1x512x256 (transpose S512x256 [1, 0] (truncf .bf16 (mulf (broadcast S256x512 (Scalar.ofBits .f32 0x3D800000#32)) v) bitsLt_bf16_f32) transposes_S256x512_p1_0_S512x256) shapeCasts_S512x256_S1x512x256

/-- A block of the value gradient, as it is handed out. -/
def outV (v : Vec F S256x512 .f32) : FVec F S1x512x256 .bf16 :=
  shapeCast S1x512x256 (transpose S512x256 [1, 0] (truncf .bf16 v bitsLt_bf16_f32) transposes_S256x512_p1_0_S512x256) shapeCasts_S512x256_S1x512x256

/-- The three blocks handed out. -/
def closing : Prog (TpuEff nD τ sig (Elt F) Λ₀ .tc) PUnit := do
  let dq : Vec F S512x256 .f32 ← Prog.lift (.load arg20 (Rect.unit (s := S6144x256) (k0_off7 i) S512x256.size (k0_off7_inb i)).toLoadRect (View.loadsAt_vmem h_S512x256))
  let _ : Vec F S1x512x256 .bf16 ← Prog.lift (.load arg11 (Rect.unit (s := S1x512x256) ![0, 0, 0] S1x512x256.size inb_S1x512x256_S1x512x256_0_0_0).toLoadRect (View.loadsAt_vmem h_S1x512x256))
  Prog.lift (.store arg11 (Rect.unit (s := S1x512x256) ![0, 0, 0] S1x512x256.size inb_S1x512x256_S1x512x256_0_0_0) (outQ dq) Finset.univ (View.stores_vmem h_S1x512x256 (harg11.storeExact_slice rfl _ packedbf16_S1x512x256_S1x512x256_0_0_0) (fun _ => rfl)) (.inl rfl))
  let dk : Vec F S256x512 .f32 ← Prog.lift (.load arg21 (Rect.unit (s := S256x512) ![0, 0] S256x512.size inb_S256x512_S256x512_0_0).toLoadRect (View.loadsAt_vmem h_S256x512))
  let _ : Vec F S1x512x256 .bf16 ← Prog.lift (.load arg12 (Rect.unit (s := S1x512x256) ![0, 0, 0] S1x512x256.size inb_S1x512x256_S1x512x256_0_0_0).toLoadRect (View.loadsAt_vmem h_S1x512x256))
  Prog.lift (.store arg12 (Rect.unit (s := S1x512x256) ![0, 0, 0] S1x512x256.size inb_S1x512x256_S1x512x256_0_0_0) (outK dk) Finset.univ (View.stores_vmem h_S1x512x256 (harg12.storeExact_slice rfl _ packedbf16_S1x512x256_S1x512x256_0_0_0) (fun _ => rfl)) (.inl rfl))
  let dv : Vec F S256x512 .f32 ← Prog.lift (.load arg22 (Rect.unit (s := S256x512) ![0, 0] S256x512.size inb_S256x512_S256x512_0_0).toLoadRect (View.loadsAt_vmem h_S256x512))
  let _ : Vec F S1x512x256 .bf16 ← Prog.lift (.load arg13 (Rect.unit (s := S1x512x256) ![0, 0, 0] S1x512x256.size inb_S1x512x256_S1x512x256_0_0_0).toLoadRect (View.loadsAt_vmem h_S1x512x256))
  Prog.lift (.store arg13 (Rect.unit (s := S1x512x256) ![0, 0, 0] S1x512x256.size inb_S1x512x256_S1x512x256_0_0_0) (outV dv) Finset.univ (View.stores_vmem h_S1x512x256 (harg13.storeExact_slice rfl _ packedbf16_S1x512x256_S1x512x256_0_0_0) (fun _ => rfl)) (.inl rfl))

/-- A trip of the main loop. -/
def body2 (t : Fin (k0_t2_loop i).trips) (a : BitVec 32) : Prog (TpuEff nD τ sig (Elt F) Λ₀ .tc) (BitVec 32) := do
  step arg3 arg4 arg5 arg6 arg7 arg8 arg9 arg10 arg14 arg15 arg16 arg17 harg17 arg18 harg18 arg19 harg19 arg20 arg21 arg22 (at2 i t) unmasked
  pure 0#32

/-- A trip of the loop's rest. -/
def body3 (t : Fin (k0_t3_loop i).trips) (a : BitVec 32) : Prog (TpuEff nD τ sig (Elt F) Λ₀ .tc) (BitVec 32) := do
  step arg3 arg4 arg5 arg6 arg7 arg8 arg9 arg10 arg14 arg15 arg16 arg17 harg17 arg18 harg18 arg19 harg19 arg20 arg21 arg22 (at3 i t) unmasked
  pure 0#32

end Cert.KernelIdeal.Rolled
-- ==== Proof.KernelIdeal.Tile.lean ====
/- What one tile of a step does to the buffers it works on. -/
module

public import proofs.«01_k».proof.Proof.KernelIdeal.Pieces
public import proofs.«01_k».proof.Proof.Gen.KernelIdeal.Frame
public import Idealize.ShloMosaic.Lib.VecWindow
public import Idealize.ShloMosaic.Lib.Pipeline.TableIdle

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

/-- What a step keeps of its tiles: the quantised probabilities, the quantised score gradients, the score gradients. -/
structure Kept (F : FTy → Type) [FloatOps F] where
  p : Vec F S512x512 .bf16
  d : Vec F S512x512 .bf16
  b : Vec F S512x512 .bf16

/-- The probabilities of strip `g`, chunk `c`. -/
def probs (mask : Fin 16 → Fin 4 → FVec F S32x128 .f32 → FVec F S32x128 .f32) (g : Fin 16) (c : Fin 4) (s : Vec F S512x512 .f32)
    (lse : FVec F S32x128 .f32) : FVec F S32x128 .f32 :=
  exp (mask g c (subf (window s ![32 * g.val, 128 * c.val] S32x128.size (tile_inb g c)) lse))

/-- The score gradients of strip `g`, chunk `c`. -/
def grads (mask : Fin 16 → Fin 4 → FVec F S32x128 .f32 → FVec F S32x128 .f32) (g : Fin 16) (c : Fin 4) (s dp : Vec F S512x512 .f32)
    (lse dlt : FVec F S32x128 .f32) : FVec F S32x128 .f32 :=
  mulf (probs mask g c s lse) (subf (window dp ![32 * g.val, 128 * c.val] S32x128.size (tile_inb g c)) dlt)

/-- What is kept after the tile of strip `g`, chunk `c`. -/
def Kept.tile (T : Kept F) (mask : Fin 16 → Fin 4 → FVec F S32x128 .f32 → FVec F S32x128 .f32) (g : Fin 16) (s dp : Vec F S512x512 .f32)
    (lse dlt : FVec F S32x128 .f32) (c : Fin 4) : Kept F where
  p := put T.p ![32 * g.val, 128 * c.val] S32x128.size (shapeCast S32x128 (quant (probs mask g c s lse)) shapeCasts_S32x128_S32x128)
  d := put T.d ![32 * g.val, 128 * c.val] S32x128.size (shapeCast S32x128 (quant (grads mask g c s dp lse dlt)) shapeCasts_S32x128_S32x128)
  b := put T.b ![32 * g.val, 128 * c.val] S32x128.size (shapeCast S32x128 (truncf .bf16 (grads mask g c s dp lse dlt) bitsLt_bf16_f32) shapeCasts_S32x128_S32x128)

variable (𝒱 : Variants) (c : Dev nD) (bd : Option 𝒱.V) (E : Set ℕ)

/-- A buffer held at what it reads stays held when what it reads is stated otherwise. -/
theorem owns_of_read {sp : Space} {sh : Shape} {e : EltTy} (M : Memref sig .tc sp sh e) (f : M.view.ty.Contents (Elt F)) {X : sh.Idx → Elt F e}
    (h : M.view.read (Elt F) f = X) :
    (M.view.loc (c : Thread nD τ) ↦[M.view.set]{fullShare} f : sProp 𝕄) ⊢ owns (c : Thread nD τ) M fullShare X := by
  unfold owns
  iintro H
  iexists f
  isplitr
  · ipureintro; exact h
  iexact H

variable (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)

/-- The three buffers that keep a step's tiles. -/
def keeps (T : Kept F) : sProp 𝕄 :=
  iprop(owns (c : Thread nD τ) arg17 fullShare T.p ∗ owns (c : Thread nD τ) arg18 fullShare T.d ∗ owns (c : Thread nD τ) arg19 fullShare T.b)

theorem tile_wp (mask : Fin 16 → Fin 4 → FVec F S32x128 .f32 → FVec F S32x128 .f32) (g : Fin 16) (lse dlt : FVec F S32x128 .f32) (k : Fin 4)
    (s dp : Vec F S512x512 .f32) (T : Kept F) :
    iprop(owns (c : Thread nD τ) arg15 fullShare s ∗ owns (c : Thread nD τ) arg16 fullShare dp ∗ keeps c arg17 arg18 arg19 T)
      ⊢ wp frame (wpE (defs₀ (F := F)) 𝒱 (c : Thread nD τ) bd) E (tile arg15 arg16 arg17 harg17 arg18 harg18 arg19 harg19 mask g lse dlt k)
        (fun _ => (iprop(owns (c : Thread nD τ) arg15 fullShare s ∗ owns (c : Thread nD τ) arg16 fullShare dp
          ∗ keeps c arg17 arg18 arg19 (T.tile mask g s dp lse dlt k)) : sProp 𝕄)) := by
  unfold keeps tile
  simp only [owns_eq_rep (Val := Elt F)]
  iintro ⟨H15, H16, H17, H18, H19⟩
  sl_exec
  sl_step
  have e15 : arg15.view.readAt (Elt F) (Rect.unit (s := S512x512) ![32 * g.val, 128 * k.val] S32x128.size (tile_inb g k)).toLoadRect (arg15.view.rep s)
      = window s ![32 * g.val, 128 * k.val] S32x128.size (tile_inb g k) := View.readAt_rep_unit _ _ _ rfl _
  have e16 : arg16.view.readAt (Elt F) (Rect.unit (s := S512x512) ![32 * g.val, 128 * k.val] S32x128.size (tile_inb g k)).toLoadRect (arg16.view.rep dp)
      = window dp ![32 * g.val, 128 * k.val] S32x128.size (tile_inb g k) := View.readAt_rep_unit _ _ _ rfl _
  isplitl [H15]; · iexact H15
  isplitl [H16]; · iexact H16
  isplitl [H17]
  · iapply (pointsTo_rep_of_read (c : Thread nD τ) arg17 _ _ _ ?_) $$ H17
    refine (View.read_writes_rep_unit _ _ _ _ rfl).trans ?_
    unfold tile_wp.sl.s
    rw [e15]
    rfl
  isplitl [H18]
  · iapply (pointsTo_rep_of_read (c : Thread nD τ) arg18 _ _ _ ?_) $$ H18
    refine (View.read_writes_rep_unit _ _ _ _ rfl).trans ?_
    unfold tile_wp.sl.s tile_wp.sl.dp
    rw [e15, e16]
    rfl
  · iapply (pointsTo_rep_of_read (c : Thread nD τ) arg19 _ _ _ ?_) $$ H19
    refine (View.read_writes_rep_unit _ _ _ _ rfl).trans ?_
    unfold tile_wp.sl.s tile_wp.sl.dp
    rw [e15, e16]
    rfl

/-- Two pieces of a program, one after the other. -/
theorem seq_wp {α : Type} {p : Prog (TpuEff nD τ sig (Elt F) Λ₀ .tc) PUnit} {k : PUnit → Prog (TpuEff nD τ sig (Elt F) Λ₀ .tc) α} {P P' : sProp 𝕄} {Q : α → sProp 𝕄}
    (hp : P ⊢ wp frame (wpE (defs₀ (F := F)) 𝒱 (c : Thread nD τ) bd) E p (fun _ => P'))
    (hk : P' ⊢ wp frame (wpE (defs₀ (F := F)) 𝒱 (c : Thread nD τ) bd) E (k ⟨⟩) Q) :
    P ⊢ wp frame (wpE (defs₀ (F := F)) 𝒱 (c : Thread nD τ) bd) E (p >>= k) Q := by
  rw [wp_bind]
  exact hp.trans (wp_mono _ _ _ fun _ => hk)

/-- A load, and then the rest of a program. -/
theorem load_wp {α : Type} {sh : Shape} {e : EltTy} (M : Memref sig .tc .vmem sh e) {x : sh.Idx → Elt F e} {off size : Fin sh.rank → ℕ}
    (inb : ∀ a, off a + size a ≤ sh.size a) {hl} {k : Vec F (Rect.unit off size inb).shape e → Prog (TpuEff nD τ sig (Elt F) Λ₀ .tc) α} {R : sProp 𝕄} {Q : α → sProp 𝕄}
    (h : iprop(owns (c : Thread nD τ) M fullShare x ∗ R) ⊢ wp frame (wpE (defs₀ (F := F)) 𝒱 (c : Thread nD τ) bd) E (k (window x off size inb)) Q) :
    iprop(owns (c : Thread nD τ) M fullShare x ∗ R)
      ⊢ wp frame (wpE (defs₀ (F := F)) 𝒱 (c : Thread nD τ) bd) E (Prog.lift (.load M (Rect.unit off size inb).toLoadRect hl) >>= k) Q := by
  rw [owns_eq_rep] at h ⊢
  rw [← View.readAt_rep_unit M.view x inb rfl inb] at h
  show _ ⊢ wp frame (wpE (defs₀ (F := F)) 𝒱 (c : Thread nD τ) bd) E (Prog.op _ k) Q
  iintro ⟨H, HR⟩
  sl_step
  iapply h
  isplitl [H]; · iexact H
  iexact HR

/-- What is kept after strip `g`. -/
def Kept.strip (T : Kept F) (mask : Fin 16 → Fin 4 → FVec F S32x128 .f32 → FVec F S32x128 .f32) (g : Fin 16) (s dp : Vec F S512x512 .f32)
    (lse dlt : FVec F S32x128 .f32) : Kept F :=
  (((T.tile mask g s dp lse dlt 0).tile mask g s dp lse dlt 1).tile mask g s dp lse dlt 2).tile mask g s dp lse dlt 3

theorem tiles_wp (mask : Fin 16 → Fin 4 → FVec F S32x128 .f32 → FVec F S32x128 .f32) (g : Fin 16) (lse dlt : FVec F S32x128 .f32)
    (s dp : Vec F S512x512 .f32) (T : Kept F) :
    iprop(owns (c : Thread nD τ) arg15 fullShare s ∗ owns (c : Thread nD τ) arg16 fullShare dp ∗ keeps c arg17 arg18 arg19 T)
      ⊢ wp frame (wpE (defs₀ (F := F)) 𝒱 (c : Thread nD τ) bd) E
        (do
          tile arg15 arg16 arg17 harg17 arg18 harg18 arg19 harg19 mask g lse dlt 0
          tile arg15 arg16 arg17 harg17 arg18 harg18 arg19 harg19 mask g lse dlt 1
          tile arg15 arg16 arg17 harg17 arg18 harg18 arg19 harg19 mask g lse dlt 2
          tile arg15 arg16 arg17 harg17 arg18 harg18 arg19 harg19 mask g lse dlt 3)
        (fun _ => (iprop(owns (c : Thread nD τ) arg15 fullShare s ∗ owns (c : Thread nD τ) arg16 fullShare dp
          ∗ keeps c arg17 arg18 arg19 (T.strip mask g s dp lse dlt)) : sProp 𝕄)) :=
  seq_wp _ _ _ _ (tile_wp _ _ _ _ _ _ _ _ _ _ _ _ _ _ _ _ _ _ _ _) (seq_wp _ _ _ _ (tile_wp _ _ _ _ _ _ _ _ _ _ _ _ _ _ _ _ _ _ _ _)
    (seq_wp _ _ _ _ (tile_wp _ _ _ _ _ _ _ _ _ _ _ _ _ _ _ _ _ _ _ _) (tile_wp _ _ _ _ _ _ _ _ _ _ _ _ _ _ _ _ _ _ _ _)))

variable (arg7 : Memref sig .tc .vmem S1x6144x128 .f32) (arg14 : Memref sig .tc .vmem S6144x128 .f32)

/-- The strip's rows of the row statistics. -/
def At.statOf (at_ : At) (lse : Vec F S6144x128 .f32) (g : Fin 16) : FVec F S32x128 .f32 :=
  window lse (at_.stat g) S32x128.size (at_.stat_inb g)

/-- The strip's rows of the row corrections. -/
def At.deltaOf (at_ : At) (dlt : Vec F S1x6144x128 .f32) (g : Fin 16) : FVec F S32x128 .f32 :=
  shapeCast S32x128 (window dlt (at_.delta g) S1x32x128.size (at_.delta_inb g) : Vec F S1x32x128 .f32) shapeCasts_S1x32x128_S32x128

/-- What the strips read and what they keep. -/
def stripHeld (lse : Vec F S6144x128 .f32) (dlt : Vec F S1x6144x128 .f32) (s dp : Vec F S512x512 .f32) (T : Kept F) : sProp 𝕄 :=
  iprop(owns (c : Thread nD τ) arg14 fullShare lse ∗ owns (c : Thread nD τ) arg7 fullShare dlt
    ∗ owns (c : Thread nD τ) arg15 fullShare s ∗ owns (c : Thread nD τ) arg16 fullShare dp ∗ keeps c arg17 arg18 arg19 T)

theorem strip_wp (at_ : At) (mask : Fin 16 → Fin 4 → FVec F S32x128 .f32 → FVec F S32x128 .f32) (g : Fin 16)
    (lse : Vec F S6144x128 .f32) (dlt : Vec F S1x6144x128 .f32) (s dp : Vec F S512x512 .f32) (T : Kept F) :
    stripHeld c arg15 arg16 arg17 arg18 arg19 arg7 arg14 lse dlt s dp T
      ⊢ wp frame (wpE (defs₀ (F := F)) 𝒱 (c : Thread nD τ) bd) E (strip arg7 arg14 arg15 arg16 arg17 harg17 arg18 harg18 arg19 harg19 at_ mask g)
        (fun _ => stripHeld c arg15 arg16 arg17 arg18 arg19 arg7 arg14 lse dlt s dp
          (T.strip mask g s dp (at_.statOf lse g) (at_.deltaOf dlt g))) := by
  unfold stripHeld strip
  refine load_wp (hl := View.loadsAt_vmem h_S32x128) _ _ _ _ arg14 (at_.stat_inb g) ?_
  refine sep_left_comm.1.trans (load_wp (hl := View.loadsAt_vmem h_S1x32x128) _ _ _ _ arg7 (at_.delta_inb g) ?_)
  refine sep_left_comm.1.trans ?_
  iintro ⟨H14, H7, H⟩
  iapply (wp_wand_r Idealize.ShloMosaic.frame (wpE (defs₀ (F := F)) 𝒱 (c : Thread nD τ) bd) E)
  isplitl [H]
  · iapply (tiles_wp 𝒱 c bd E arg15 arg16 arg17 harg17 arg18 harg18 arg19 harg19 mask g (at_.statOf lse g) (at_.deltaOf dlt g) s dp T) $$ H
  · iintro %_ H
    isplitl [H14]; · iexact H14
    isplitl [H7]; · iexact H7
    iexact H

/-- What is kept after the strips of a list. -/
def Kept.strips (T : Kept F) (at_ : At) (mask : Fin 16 → Fin 4 → FVec F S32x128 .f32 → FVec F S32x128 .f32)
    (lse : Vec F S6144x128 .f32) (dlt : Vec F S1x6144x128 .f32) (s dp : Vec F S512x512 .f32) (gs : List (Fin 16)) : Kept F :=
  gs.foldl (fun T g => T.strip mask g s dp (at_.statOf lse g) (at_.deltaOf dlt g)) T

theorem strips_wp (at_ : At) (mask : Fin 16 → Fin 4 → FVec F S32x128 .f32 → FVec F S32x128 .f32)
    (lse : Vec F S6144x128 .f32) (dlt : Vec F S1x6144x128 .f32) (s dp : Vec F S512x512 .f32) (gs : List (Fin 16)) : ∀ T : Kept F,
    stripHeld c arg15 arg16 arg17 arg18 arg19 arg7 arg14 lse dlt s dp T
      ⊢ wp frame (wpE (defs₀ (F := F)) 𝒱 (c : Thread nD τ) bd) E (strips arg7 arg14 arg15 arg16 arg17 harg17 arg18 harg18 arg19 harg19 at_ mask gs)
        (fun _ => stripHeld c arg15 arg16 arg17 arg18 arg19 arg7 arg14 lse dlt s dp (T.strips at_ mask lse dlt s dp gs)) := by
  induction gs with
  | nil =>
    intro T
    unfold strips
    iintro H
    sl_step
    iexact H
  | cons g gs ih =>
    intro T
    unfold strips
    exact seq_wp _ _ _ _ (strip_wp _ _ _ _ _ _ _ _ _ _ _ _ _ _ _ _ _ _ _ _ _ _) (ih _)

end Cert.KernelIdeal.Rolled
-- ==== Proof.KernelIdeal.Step.lean ====
/- What one step does to the buffers it works on. -/
module

public import proofs.«01_k».proof.Proof.KernelIdeal.Tile

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

/-- The blocks a grid point is given: queries and upstream gradients by rows and transposed, the row
    corrections, the quantised keys and values, the keys. -/
structure Ins (F : FTy → Type) [FloatOps F] where
  q : Vec F S1x6144x256 .bf16
  d : Vec F S1x6144x256 .bf16
  dt : Vec F S1x256x6144 .bf16
  qt : Vec F S1x256x6144 .bf16
  dlt : Vec F S1x6144x128 .f32
  ka : Vec F S1x512x256 .bf16
  va : Vec F S1x512x256 .bf16
  k : Vec F S1x512x256 .bf16

/-- What a grid point works in: the row statistics, the scores and their upstream gradients, the kept tiles,
    the query accumulator, the transposed key and value accumulators. -/
structure State (F : FTy → Type) [FloatOps F] where
  lse : Vec F S6144x128 .f32
  s : Vec F S512x512 .f32
  dp : Vec F S512x512 .f32
  T : Kept F
  acc : Vec F S6144x256 .f32
  dk : Vec F S256x512 .f32
  dv : Vec F S256x512 .f32

/-- The queries', or the upstream gradients', rows of a step. -/
def At.rowsOf (at_ : At) (x : Vec F S1x6144x256 .bf16) : Vec F S1x512x256 .bf16 := window x at_.rows S1x512x256.size at_.rows_inb

/-- The columns of a transposed operand. -/
def At.colsOf (at_ : At) (x : Vec F S1x256x6144 .bf16) : Vec F S1x256x512 .bf16 := window x at_.cols S1x256x512.size at_.cols_inb

/-- The query accumulator's rows of a step. -/
def At.accOf (at_ : At) (x : Vec F S6144x256 .f32) : Vec F S512x256 .f32 := window x at_.acc S512x256.size at_.acc_inb

/-- The tiles a step keeps. -/
def State.kept (I : Ins F) (S : State F) (at_ : At) (mask : Fin 16 → Fin 4 → FVec F S32x128 .f32 → FVec F S32x128 .f32) : Kept F :=
  S.T.strips at_ mask S.lse I.dlt (k0_pay1 (at_.rowsOf I.q) I.ka) (k0_pay1 (at_.rowsOf I.d) I.va) [0, 1, 2, 3, 4, 5, 6, 7, 8, 9, 10, 11, 12, 13, 14, 15]

/-- What a step leaves. -/
def State.step (I : Ins F) (S : State F) (at_ : At) (mask : Fin 16 → Fin 4 → FVec F S32x128 .f32 → FVec F S32x128 .f32) : State F where
  lse := S.lse
  s := k0_pay1 (at_.rowsOf I.q) I.ka
  dp := k0_pay1 (at_.rowsOf I.d) I.va
  T := S.kept I at_ mask
  acc := put S.acc at_.acc S512x256.size (accumulatedQ (at_.accOf S.acc) (S.kept I at_ mask).b I.k)
  dk := accumulated S.dk (at_.colsOf I.qt) (S.kept I at_ mask).d
  dv := accumulated S.dv (at_.colsOf I.dt) (S.kept I at_ mask).p

variable (𝒱 : Variants) (c : Dev nD) (bd : Option 𝒱.V) (E : Set ℕ)
variable (arg3 : Memref sig .tc .vmem S1x6144x256 .bf16) (arg4 : Memref sig .tc .vmem S1x6144x256 .bf16)
  (arg5 : Memref sig .tc .vmem S1x256x6144 .bf16) (arg6 : Memref sig .tc .vmem S1x256x6144 .bf16)
  (arg7 : Memref sig .tc .vmem S1x6144x128 .f32)
  (arg8 : Memref sig .tc .vmem S1x512x256 .bf16) (arg9 : Memref sig .tc .vmem S1x512x256 .bf16) (arg10 : Memref sig .tc .vmem S1x512x256 .bf16)
  (arg14 : Memref sig .tc .vmem S6144x128 .f32)
  (arg15 : Memref sig .tc .vmem S512x512 .f32) (arg16 : Memref sig .tc .vmem S512x512 .f32)
  (arg17 : Memref sig .tc .vmem S512x512 .bf16) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S6144x256 .f32) (arg21 : Memref sig .tc .vmem S256x512 .f32) (arg22 : Memref sig .tc .vmem S256x512 .f32)

theorem scores_wp (at_ : At) (q d : Vec F S1x6144x256 .bf16) (ka va : Vec F S1x512x256 .bf16) (s dp : Vec F S512x512 .f32) :
    iprop(owns (c : Thread nD τ) arg3 fullShare q ∗ owns (c : Thread nD τ) arg4 fullShare d ∗ owns (c : Thread nD τ) arg8 fullShare ka
        ∗ owns (c : Thread nD τ) arg9 fullShare va ∗ owns (c : Thread nD τ) arg15 fullShare s ∗ owns (c : Thread nD τ) arg16 fullShare dp)
      ⊢ wp frame (wpE (defs₀ (F := F)) 𝒱 (c : Thread nD τ) bd) E (scores arg3 arg4 arg8 arg9 arg15 arg16 at_)
        (fun _ => (iprop(owns (c : Thread nD τ) arg3 fullShare q ∗ owns (c : Thread nD τ) arg4 fullShare d ∗ owns (c : Thread nD τ) arg8 fullShare ka
        ∗ owns (c : Thread nD τ) arg9 fullShare va ∗ owns (c : Thread nD τ) arg15 fullShare (k0_pay1 (at_.rowsOf q) ka)
        ∗ owns (c : Thread nD τ) arg16 fullShare (k0_pay1 (at_.rowsOf d) va)) : sProp 𝕄)) := by
  have e3 : arg3.view.readAt (Elt F) (Rect.unit (s := S1x6144x256) at_.rows S1x512x256.size at_.rows_inb).toLoadRect (arg3.view.rep q)
      = at_.rowsOf q := View.readAt_rep_unit _ _ _ rfl _
  have e4 : arg4.view.readAt (Elt F) (Rect.unit (s := S1x6144x256) at_.rows S1x512x256.size at_.rows_inb).toLoadRect (arg4.view.rep d)
      = at_.rowsOf d := View.readAt_rep_unit _ _ _ rfl _
  have e8 : arg8.view.readAt (Elt F) (Rect.unit (s := S1x512x256) ![0, 0, 0] S1x512x256.size inb_S1x512x256_S1x512x256_0_0_0).toLoadRect (arg8.view.rep ka)
      = ka := View.readAt_rep_full _ _ _
  have e9 : arg9.view.readAt (Elt F) (Rect.unit (s := S1x512x256) ![0, 0, 0] S1x512x256.size inb_S1x512x256_S1x512x256_0_0_0).toLoadRect (arg9.view.rep va)
      = va := View.readAt_rep_full _ _ _
  unfold scores
  simp only [owns_eq_rep (Val := Elt F)]
  iintro ⟨H3, H4, H8, H9, H15, H16⟩
  sl_exec
  sl_step
  isplitl [H3]; · iexact H3
  isplitl [H4]; · iexact H4
  isplitl [H8]; · iexact H8
  isplitl [H9]; · iexact H9
  isplitl [H15]
  · iapply (pointsTo_rep_of_read (c : Thread nD τ) arg15 _ _ _ ?_) $$ H15
    refine (View.read_writes_full _ _ _ _ _).trans ?_
    sl_unfold_words
    simp only [e3, e8]
  · iapply (pointsTo_rep_of_read (c : Thread nD τ) arg16 _ _ _ ?_) $$ H16
    refine (View.read_writes_full _ _ _ _ _).trans ?_
    sl_unfold_words
    simp only [e4, e9]

theorem gradients_wp (at_ : At) (I : Ins F) (T : Kept F) (acc : Vec F S6144x256 .f32) (dk dv : Vec F S256x512 .f32) :
    iprop(owns (c : Thread nD τ) arg5 fullShare I.dt ∗ owns (c : Thread nD τ) arg6 fullShare I.qt ∗ owns (c : Thread nD τ) arg10 fullShare I.k
        ∗ keeps c arg17 arg18 arg19 T ∗ owns (c : Thread nD τ) arg20 fullShare acc
        ∗ owns (c : Thread nD τ) arg21 fullShare dk ∗ owns (c : Thread nD τ) arg22 fullShare dv)
      ⊢ wp frame (wpE (defs₀ (F := F)) 𝒱 (c : Thread nD τ) bd) E (gradients arg5 arg6 arg10 arg17 arg18 arg19 arg20 arg21 arg22 at_)
        (fun _ => (iprop(owns (c : Thread nD τ) arg5 fullShare I.dt ∗ owns (c : Thread nD τ) arg6 fullShare I.qt ∗ owns (c : Thread nD τ) arg10 fullShare I.k
        ∗ keeps c arg17 arg18 arg19 T
        ∗ owns (c : Thread nD τ) arg20 fullShare (put acc at_.acc S512x256.size (accumulatedQ (at_.accOf acc) T.b I.k))
        ∗ owns (c : Thread nD τ) arg21 fullShare (accumulated dk (at_.colsOf I.qt) T.d)
        ∗ owns (c : Thread nD τ) arg22 fullShare (accumulated dv (at_.colsOf I.dt) T.p)) : sProp 𝕄)) := by
  have e5 : arg5.view.readAt (Elt F) (Rect.unit (s := S1x256x6144) at_.cols S1x256x512.size at_.cols_inb).toLoadRect (arg5.view.rep I.dt)
      = at_.colsOf I.dt := View.readAt_rep_unit _ _ _ rfl _
  have e6 : arg6.view.readAt (Elt F) (Rect.unit (s := S1x256x6144) at_.cols S1x256x512.size at_.cols_inb).toLoadRect (arg6.view.rep I.qt)
      = at_.colsOf I.qt := View.readAt_rep_unit _ _ _ rfl _
  have e10 : arg10.view.readAt (Elt F) (Rect.unit (s := S1x512x256) ![0, 0, 0] S1x512x256.size inb_S1x512x256_S1x512x256_0_0_0).toLoadRect (arg10.view.rep I.k)
      = I.k := View.readAt_rep_full _ _ _
  have e17 : arg17.view.readAt (Elt F) (Rect.unit (s := S512x512) ![0, 0] S512x512.size inb_S512x512_S512x512_0_0).toLoadRect (arg17.view.rep T.p) = T.p :=
    View.readAt_rep_full _ _ _
  have e18 : arg18.view.readAt (Elt F) (Rect.unit (s := S512x512) ![0, 0] S512x512.size inb_S512x512_S512x512_0_0).toLoadRect (arg18.view.rep T.d) = T.d :=
    View.readAt_rep_full _ _ _
  have e19 : arg19.view.readAt (Elt F) (Rect.unit (s := S512x512) ![0, 0] S512x512.size inb_S512x512_S512x512_0_0).toLoadRect (arg19.view.rep T.b) = T.b :=
    View.readAt_rep_full _ _ _
  have e20 : arg20.view.readAt (Elt F) (Rect.unit (s := S6144x256) at_.acc S512x256.size at_.acc_inb).toLoadRect (arg20.view.rep acc)
      = at_.accOf acc := View.readAt_rep_unit _ _ _ rfl _
  have e21 : arg21.view.readAt (Elt F) (Rect.unit (s := S256x512) ![0, 0] S256x512.size inb_S256x512_S256x512_0_0).toLoadRect (arg21.view.rep dk) = dk :=
    View.readAt_rep_full _ _ _
  have e22 : arg22.view.readAt (Elt F) (Rect.unit (s := S256x512) ![0, 0] S256x512.size inb_S256x512_S256x512_0_0).toLoadRect (arg22.view.rep dv) = dv :=
    View.readAt_rep_full _ _ _
  unfold gradients keeps
  simp only [owns_eq_rep (Val := Elt F)]
  iintro ⟨H5, H6, H10, ⟨H17, H18, H19⟩, H20, H21, H22⟩
  sl_exec
  sl_step
  isplitl [H5]; · iexact H5
  isplitl [H6]; · iexact H6
  isplitl [H10]; · iexact H10
  isplitl [H17 H18 H19]
  · isplitl [H17]; · iexact H17
    isplitl [H18]; · iexact H18
    iexact H19
  isplitl [H20]
  · iapply (pointsTo_rep_of_read (c : Thread nD τ) arg20 _ _ _ ?_) $$ H20
    refine (View.read_writes_rep_unit _ _ _ _ rfl).trans ?_
    sl_unfold_words
    simp only [e20, e19, e10]
  isplitl [H21]
  · iapply (pointsTo_rep_of_read (c : Thread nD τ) arg21 _ _ _ ?_) $$ H21
    refine (View.read_writes_full _ _ _ _ _).trans ?_
    sl_unfold_words
    simp only [e21, e6, e18]
  · iapply (pointsTo_rep_of_read (c : Thread nD τ) arg22 _ _ _ ?_) $$ H22
    refine (View.read_writes_full _ _ _ _ _).trans ?_
    sl_unfold_words
    simp only [e22, e5, e17]

/-- Everything a step reads or writes. -/
def held (I : Ins F) (S : State F) : sProp 𝕄 :=
  iprop(owns (c : Thread nD τ) arg3 fullShare I.q ∗ owns (c : Thread nD τ) arg4 fullShare I.d
    ∗ owns (c : Thread nD τ) arg5 fullShare I.dt ∗ owns (c : Thread nD τ) arg6 fullShare I.qt ∗ owns (c : Thread nD τ) arg7 fullShare I.dlt
    ∗ owns (c : Thread nD τ) arg8 fullShare I.ka ∗ owns (c : Thread nD τ) arg9 fullShare I.va ∗ owns (c : Thread nD τ) arg10 fullShare I.k
    ∗ owns (c : Thread nD τ) arg14 fullShare S.lse ∗ owns (c : Thread nD τ) arg15 fullShare S.s ∗ owns (c : Thread nD τ) arg16 fullShare S.dp
    ∗ keeps c arg17 arg18 arg19 S.T ∗ owns (c : Thread nD τ) arg20 fullShare S.acc
    ∗ owns (c : Thread nD τ) arg21 fullShare S.dk ∗ owns (c : Thread nD τ) arg22 fullShare S.dv)

theorem step_wp (at_ : At) (mask : Fin 16 → Fin 4 → FVec F S32x128 .f32 → FVec F S32x128 .f32) (I : Ins F) (S : State F) :
    held c arg3 arg4 arg5 arg6 arg7 arg8 arg9 arg10 arg14 arg15 arg16 arg17 arg18 arg19 arg20 arg21 arg22 I S
      ⊢ wp frame (wpE (defs₀ (F := F)) 𝒱 (c : Thread nD τ) bd) E
        (step arg3 arg4 arg5 arg6 arg7 arg8 arg9 arg10 arg14 arg15 arg16 arg17 harg17 arg18 harg18 arg19 harg19 arg20 arg21 arg22 at_ mask)
        (fun _ => held c arg3 arg4 arg5 arg6 arg7 arg8 arg9 arg10 arg14 arg15 arg16 arg17 arg18 arg19 arg20 arg21 arg22 I (S.step I at_ mask)) := by
  unfold held step
  rw [wp_bind]
  iintro ⟨H3, H4, H5, H6, H7, H8, H9, H10, H14, H15, H16, HT, H20, H21, H22⟩
  iapply (wp_wand_r Idealize.ShloMosaic.frame (wpE (defs₀ (F := F)) 𝒱 (c : Thread nD τ) bd) E)
  isplitl [H3 H4 H8 H9 H15 H16]
  · iapply (scores_wp 𝒱 c bd E arg3 arg4 arg8 arg9 arg15 arg16 at_ I.q I.d I.ka I.va S.s S.dp)
    isplitl [H3]; · iexact H3
    isplitl [H4]; · iexact H4
    isplitl [H8]; · iexact H8
    isplitl [H9]; · iexact H9
    isplitl [H15]; · iexact H15
    iexact H16
  iintro %_ ⟨H3, H4, H8, H9, H15, H16⟩
  rw [wp_bind]
  iapply (wp_wand_r Idealize.ShloMosaic.frame (wpE (defs₀ (F := F)) 𝒱 (c : Thread nD τ) bd) E)
  isplitl [H14 H7 H15 H16 HT]
  · iapply (strips_wp 𝒱 c bd E arg15 arg16 arg17 harg17 arg18 harg18 arg19 harg19 arg7 arg14 at_ mask S.lse I.dlt
      (k0_pay1 (at_.rowsOf I.q) I.ka) (k0_pay1 (at_.rowsOf I.d) I.va) [0, 1, 2, 3, 4, 5, 6, 7, 8, 9, 10, 11, 12, 13, 14, 15] S.T)
    unfold stripHeld
    isplitl [H14]; · iexact H14
    isplitl [H7]; · iexact H7
    isplitl [H15]; · iexact H15
    isplitl [H16]; · iexact H16
    iexact HT
  unfold stripHeld
  iintro %_ ⟨H14, H7, H15, H16, HT⟩
  iapply (wp_wand_r Idealize.ShloMosaic.frame (wpE (defs₀ (F := F)) 𝒱 (c : Thread nD τ) bd) E)
  isplitl [H5 H6 H10 HT H20 H21 H22]
  · iapply (gradients_wp 𝒱 c bd E arg5 arg6 arg10 arg17 arg18 arg19 arg20 arg21 arg22 at_ I (S.kept I at_ mask) S.acc S.dk S.dv)
    isplitl [H5]; · iexact H5
    isplitl [H6]; · iexact H6
    isplitl [H10]; · iexact H10
    isplitl [HT]; · iexact HT
    isplitl [H20]; · iexact H20
    isplitl [H21]; · iexact H21
    iexact H22
  iintro %_ ⟨H5, H6, H10, HT, H20, H21, H22⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

end Cert.KernelIdeal.Rolled
-- ==== Proof.KernelIdeal.Diagonal.lean ====
/- The step on the diagonal, printed, is one step under the causal mask. -/
module

public import proofs.«01_k».proof.Proof.KernelIdeal.Pieces

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- The printed text from the clearing to the first strip. -/
def lead : Prog (TpuEff nD τ sig (Elt F) Λ₀ .tc) (Σ' (arg1 : BitVec 32) (v12 : BitVec 32) (v27 : FVec F S512x512 .f32), Vec F S512x512 .f32) := do
  let arg1 : BitVec 32 := BitVec.ofNat 32 (i 1).val
  let c512_i32 : BitVec 32 := 512#32
  have cst : F .f32 := Scalar.ofBits .f32 0x00000000#32
  have v3 : FVec F S256x512 .f32 := broadcast S256x512 cst
  let c0 : Index := 0#32
  let c0_1 : Index := 0#32
  let v4 : Vec F S256x512 .f32 ← Prog.lift (.load arg21 (Rect.unit (s := S256x512) ![0, 0] S256x512.size inb_S256x512_S256x512_0_0).toLoadRect (View.loadsAt_vmem h_S256x512))
  have v5 : FVec F S256x512 .f32 := shapeCast S256x512 v4 shapeCasts_S256x512_S256x512
  have v6 : FVec F S256x512 .f32 := shapeCast S256x512 v3 shapeCasts_S256x512_S256x512
  Prog.lift (.store arg21 (Rect.unit (s := S256x512) ![0, 0] S256x512.size inb_S256x512_S256x512_0_0) v6 Finset.univ (View.stores_vmem_bits_univ h_S256x512 rfl) (.inl rfl))
  have cst_2 : F .f32 := Scalar.ofBits .f32 0x00000000#32
  have v7 : FVec F S256x512 .f32 := broadcast S256x512 cst_2
  let c0_3 : Index := 0#32
  let c0_4 : Index := 0#32
  let v8 : Vec F S256x512 .f32 ← Prog.lift (.load arg22 (Rect.unit (s := S256x512) ![0, 0] S256x512.size inb_S256x512_S256x512_0_0).toLoadRect (View.loadsAt_vmem h_S256x512))
  have v9 : FVec F S256x512 .f32 := shapeCast S256x512 v8 shapeCasts_S256x512_S256x512
  have v10 : FVec F S256x512 .f32 := shapeCast S256x512 v7 shapeCasts_S256x512_S256x512
  Prog.lift (.store arg22 (Rect.unit (s := S256x512) ![0, 0] S256x512.size inb_S256x512_S256x512_0_0) v10 Finset.univ (View.stores_vmem_bits_univ h_S256x512 rfl) (.inl rfl))
  let c512_i32 : BitVec 32 := 512#32
  let v11 : BitVec 32 := Scalar.muli arg1 c512_i32
  let v12 : BitVec 32 := v11
  let c0_5 : Index := 0#32
  let v13 : Index := Scalar.indexCast v12
  let c0_6 : Index := 0#32
  let v14 : Vec F S1x512x256 .bf16 ← Prog.lift (.load arg3 (Rect.unit (s := S1x6144x256) (k0_off3 i) S1x512x256.size (k0_off3_inb i)).toLoadRect (View.loadsAt_vmem h_S1x512x256))
  have v15 : FVec F S512x256 .bf16 := shapeCast S512x256 v14 shapeCasts_S1x512x256_S512x256
  let c0_7 : Index := 0#32
  let c0_8 : Index := 0#32
  let c0_9 : Index := 0#32
  let v16 : Vec F S1x512x256 .bf16 ← Prog.lift (.load arg8 (Rect.unit (s := S1x512x256) ![0, 0, 0] S1x512x256.size inb_S1x512x256_S1x512x256_0_0_0).toLoadRect (View.loadsAt_vmem h_S1x512x256))
  have v17 : FVec F S512x256 .bf16 := shapeCast S512x256 v16 shapeCasts_S1x512x256_S512x256
  have cst_10 : FVec F S512x512 .f32 := constant S512x512 .f32 0x00000000#32
  have v18 : FVec F S512x512 .f32 := matmul dot_S512x256_S512x256_S512x512_1_1_0_0_n_n none v15 v17 cst_10
  let c0_11 : Index := 0#32
  let c0_12 : Index := 0#32
  let v19 : Vec F S512x512 .f32 ← Prog.lift (.load arg15 (Rect.unit (s := S512x512) ![0, 0] S512x512.size inb_S512x512_S512x512_0_0).toLoadRect (View.loadsAt_vmem h_S512x512))
  have v20 : FVec F S512x512 .f32 := shapeCast S512x512 v19 shapeCasts_S512x512_S512x512
  have v21 : FVec F S512x512 .f32 := shapeCast S512x512 v18 shapeCasts_S512x512_S512x512
  Prog.lift (.store arg15 (Rect.unit (s := S512x512) ![0, 0] S512x512.size inb_S512x512_S512x512_0_0) v21 Finset.univ (View.stores_vmem_bits_univ h_S512x512 rfl) (.inl rfl))
  let c0_13 : Index := 0#32
  let v22 : Index := Scalar.indexCast v12
  let c0_14 : Index := 0#32
  let v23 : Vec F S1x512x256 .bf16 ← Prog.lift (.load arg4 (Rect.unit (s := S1x6144x256) (k0_off3 i) S1x512x256.size (k0_off3_inb i)).toLoadRect (View.loadsAt_vmem h_S1x512x256))
  have v24 : FVec F S512x256 .bf16 := shapeCast S512x256 v23 shapeCasts_S1x512x256_S512x256
  let c0_15 : Index := 0#32
  let c0_16 : Index := 0#32
  let c0_17 : Index := 0#32
  let v25 : Vec F S1x512x256 .bf16 ← Prog.lift (.load arg9 (Rect.unit (s := S1x512x256) ![0, 0, 0] S1x512x256.size inb_S1x512x256_S1x512x256_0_0_0).toLoadRect (View.loadsAt_vmem h_S1x512x256))
  have v26 : FVec F S512x256 .bf16 := shapeCast S512x256 v25 shapeCasts_S1x512x256_S512x256
  have cst_18 : FVec F S512x512 .f32 := constant S512x512 .f32 0x00000000#32
  have v27 : FVec F S512x512 .f32 := matmul dot_S512x256_S512x256_S512x512_1_1_0_0_n_n none v24 v26 cst_18
  let c0_19 : Index := 0#32
  let c0_20 : Index := 0#32
  let v28 : Vec F S512x512 .f32 ← Prog.lift (.load arg16 (Rect.unit (s := S512x512) ![0, 0] S512x512.size inb_S512x512_S512x512_0_0).toLoadRect (View.loadsAt_vmem h_S512x512))
  pure ⟨arg1, v12, v27, v28⟩

/-- The printed text of the diagonal step up to its sixth strip. -/
def middle (x : Σ' (arg1 : BitVec 32) (v12 : BitVec 32) (v27 : FVec F S512x512 .f32), Vec F S512x512 .f32) :
    Prog (TpuEff nD τ sig (Elt F) Λ₀ .tc) (Σ' (arg1 : BitVec 32) (v12 : BitVec 32) (v2411 : Vec F S32x128 .f32) (v2414 : FVec F S32x128 .f32) (v2526 : FVec F S32x128 .f32), FVec F S32x128 .bf16) := do
  let ⟨arg1, v12, v27, v28⟩ := x
  let ⟨v35, v38, v50, v53, v68, v69⟩ : Σ' (v35 : Vec F S32x128 .f32) (v38 : FVec F S32x128 .f32) (v50 : FVec F S32x128 .f32) (v53 : FVec F S32x128 .f32) (v68 : IVec S1x128 32), IVec S1x128 32 ← k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v27 v28
  let ⟨v111, v113⟩ : Σ' (v111 : IVec S1x128 32), IVec S1x128 32 ← k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v50 v53 v68 v69
  let ⟨v147, v150, v155⟩ : Σ' (v147 : FVec F S32x128 .f32) (v150 : FVec F S32x128 .f32), FVec F S1x128 .f32 ← k0_part280 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v38 v53 v111 v113
  let ⟨v197, v200⟩ : Σ' (v197 : IVec S256x128 32), IVec S256x128 1 ← k0_part281 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v147 v150 v155
  let ⟨v234, v241, cst_93⟩ : Σ' (v234 : FVec F S32x128 .f32) (v241 : IVec S32x128 1), F .f32 ← k0_part282 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v150 v197 v200
  let ⟨v247, v286⟩ : Σ' (v247 : FVec F S32x128 .f32), FVec F S32x128 .bf16 ← k0_part283 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v38 v234 v241 cst_93
  let v329 : FVec F S32x128 .bf16 ← k0_part284 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v247 v286
  let ⟨v344, v366, v371, cst_138⟩ : Σ' (v344 : FVec F S32x128 .f32) (v366 : FVec F S1x128 .f32) (v371 : FVec F S32x128 .f32), F .f32 ← k0_part285 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v35 v38 v329
  let ⟨v405, v416⟩ : Σ' (v405 : FVec F S1x128 .f32), FVec F S32x128 .bf16 ← k0_part286 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v344 v366 v371 cst_138
  let ⟨v431, v434, v446, v449, v454, v455, c8388608_i32_169⟩ : Σ' (v431 : Vec F S32x128 .f32) (v434 : FVec F S32x128 .f32) (v446 : FVec F S32x128 .f32) (v449 : FVec F S32x128 .f32) (v454 : FVec F S1x128 .f32) (v455 : IVec S256x128 32), BitVec 32 ← k0_part287 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v344 v405 v416
  let ⟨v496, v499, v500⟩ : Σ' (v496 : IVec S256x128 32) (v499 : IVec S256x128 1), IVec S256x128 32 ← k0_part288 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v446 v449 v454 v455 c8388608_i32_169
  let v542 : FVec F S32x128 .f32 ← k0_part289 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v449 v496 v499 v500
  let ⟨v546, v586⟩ : Σ' (v546 : FVec F S32x128 .f32), FVec F S32x128 .f32 ← k0_part290 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v434 v542
  k0_part291 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v546 v586
  let ⟨v643, v665, v670, cst_247, v671⟩ : Σ' (v643 : FVec F S32x128 .f32) (v665 : FVec F S1x128 .f32) (v670 : FVec F S32x128 .f32) (cst_247 : F .f32), FVec F S32x128 .f32 ← k0_part292 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v434
  let ⟨v715, v717⟩ : Σ' (v715 : FVec F S32x128 .bf16), FVec F S32x128 .bf16 ← k0_part293 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v643 v665 v670 cst_247 v671
  let ⟨v737, v740, v755, v757, c1056964608_i32_278⟩ : Σ' (v737 : FVec F S32x128 .f32) (v740 : FVec F S32x128 .f32) (v755 : IVec S1x128 32) (v757 : IVec S1x128 1), BitVec 32 ← k0_part294 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v431 v434 v643 v715 v717
  let ⟨v798, v801, c2122317824_i32_293⟩ : Σ' (v798 : IVec S1x128 32) (v801 : FVec F S1x128 .f32), BitVec 32 ← k0_part295 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v737 v740 v755 v757 c1056964608_i32_278
  let ⟨v827, v830, v842⟩ : Σ' (v827 : Vec F S32x128 .f32) (v830 : FVec F S32x128 .f32), FVec F S32x128 .f32 ← k0_part296 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v740 v798 v801 c2122317824_i32_293
  let ⟨v845, v886⟩ : Σ' (v845 : FVec F S32x128 .f32), FVec F S128 .f32 ← k0_part297 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v830 v842
  let v928 : Vec F S32x128 .f32 ← k0_part298 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v845 v886
  let ⟨v942, v964, v971, v972⟩ : Σ' (v942 : FVec F S32x128 .f32) (v964 : FVec F S1x128 .f32) (v971 : FVec F S32x128 .f32), FVec F S32x128 .f32 ← k0_part299 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v928
  let v1017 : FVec F S32x128 .bf16 ← k0_part300 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v942 v964 v971 v972
  let ⟨v1036, v1039, v1058⟩ : Σ' (v1036 : FVec F S32x128 .f32) (v1039 : FVec F S32x128 .f32), IVec S1x128 32 ← k0_part301 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v942 v1017
  let ⟨v1100, v1102⟩ : Σ' (v1100 : FVec F S1x128 .f32), IVec S1x128 32 ← k0_part302 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1036 v1039 v1058
  let ⟨v1133, v1136, v1141, v1144⟩ : Σ' (v1133 : FVec F S32x128 .f32) (v1136 : FVec F S32x128 .f32) (v1141 : FVec F S1x128 .f32), IVec S256x128 32 ← k0_part303 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v827 v830 v1039 v1100 v1102
  let v1188 : IVec S256x128 32 ← k0_part304 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1133 v1136 v1141 v1144
  let ⟨v1223, v1226, v1228, v1229⟩ : Σ' (v1223 : Vec F S32x128 .f32) (v1226 : FVec F S32x128 .f32) (v1228 : FVec F S32x128 .f32), IVec S32x128 32 ← k0_part305 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1136 v1188
  let ⟨v1241, v1263, v1273⟩ : Σ' (v1241 : FVec F S32x128 .f32) (v1263 : FVec F S1x128 .f32), FVec F S32x128 .fp8e4m3 ← k0_part306 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1226 v1228 v1229
  let ⟨v1316, v1317⟩ : Σ' (v1316 : FVec F S32x128 .bf16), Vec F S32x128 .bf16 ← k0_part307 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1241 v1263 v1273
  let ⟨v1335, v1338, v1357, v1358⟩ : Σ' (v1335 : FVec F S32x128 .f32) (v1338 : FVec F S32x128 .f32) (v1357 : IVec S1x128 32), IVec S1x128 32 ← k0_part308 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1226 v1241 v1316 v1317
  let ⟨v1399, v1403⟩ : Σ' (v1399 : FVec F S1x128 .f32), FVec F S32x128 .f32 ← k0_part309 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1335 v1338 v1357 v1358
  let ⟨v1432, v1435, v1443, v1444, v1445⟩ : Σ' (v1432 : FVec F S32x128 .f32) (v1435 : FVec F S32x128 .f32) (v1443 : IVec S256x128 32) (v1444 : FVec F S256x128 .f32), FVec F S256x128 .f32 ← k0_part310 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1226 v1338 v1399 v1403
  let v1489 : IVec S1x128 32 ← k0_part311 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1432 v1435 v1443 v1444 v1445
  let ⟨v1529, v1530⟩ : Σ' (v1529 : FVec F S32x128 .f32), Vec F S32x128 .f32 ← k0_part312 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1223 v1435 v1489
  let ⟨v1532, v1574, cst_572⟩ : Σ' (v1532 : FVec F S32x128 .f32) (v1574 : FVec F S1x128 .f32), F .f32 ← k0_part313 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1226 v1529 v1530
  let v1617 : BitVec 32 ← k0_part314 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1532 v1574 cst_572
  let ⟨v1619, v1622, v1634, v1637, v1656, v1659⟩ : Σ' (v1619 : Vec F S32x128 .f32) (v1622 : FVec F S32x128 .f32) (v1634 : FVec F S32x128 .f32) (v1637 : FVec F S32x128 .f32) (v1656 : IVec S1x128 32), FVec F S1x128 .f32 ← k0_part315 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1617
  let ⟨v1698, v1703, cst_620⟩ : Σ' (v1698 : FVec F S1x128 .f32) (v1703 : FVec F S32x128 .f32), F .f32 ← k0_part316 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1634 v1637 v1656 v1659
  let ⟨v1731, v1734, v1742, v1745, c0_i32_636⟩ : Σ' (v1731 : FVec F S32x128 .f32) (v1734 : FVec F S32x128 .f32) (v1742 : IVec S256x128 32) (v1745 : IVec S256x128 1), BitVec 32 ← k0_part317 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1622 v1637 v1698 v1703 cst_620
  let ⟨v1788, v1789⟩ : Σ' (v1788 : IVec S1x128 32), IVec S1x128 32 ← k0_part318 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1731 v1734 v1742 v1745 c0_i32_636
  let ⟨v1828, v1831⟩ : Σ' (v1828 : FVec F S32x128 .f32), FVec F S32x128 .f32 ← k0_part319 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1622 v1734 v1788 v1789
  let v1875 : FVec F S1x128 .f32 ← k0_part320 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1828 v1831
  let ⟨v1915, v1916, v1917⟩ : Σ' (v1915 : FVec F S32x128 .f32) (v1916 : IVec S32x128 32), IVec S32x128 32 ← k0_part321 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1619 v1831 v1875
  let ⟨v1928, v1961, v1962⟩ : Σ' (v1928 : FVec F S32x128 .f32) (v1961 : FVec F S32x128 .bf16), FVec F S1x128 .bf16 ← k0_part322 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1622 v1915 v1916 v1917
  let v2006 : FVec F S32x128 .bf16 ← k0_part323 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1928 v1961 v1962
  let ⟨v2015, v2018, v2030, v2033, v2046⟩ : Σ' (v2015 : Vec F S32x128 .f32) (v2018 : FVec F S32x128 .f32) (v2030 : FVec F S32x128 .f32) (v2033 : FVec F S32x128 .f32), IVec S256x128 32 ← k0_part324 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v1928 v2006
  let ⟨v2087, v2089, c1056964608_i32_760⟩ : Σ' (v2087 : IVec S1x128 32) (v2089 : IVec S1x128 1), BitVec 32 ← k0_part325 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2030 v2033 v2046
  let ⟨v2127, v2130, v2131⟩ : Σ' (v2127 : FVec F S32x128 .f32) (v2130 : FVec F S32x128 .f32), FVec F S32x128 .f32 ← k0_part326 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2018 v2033 v2087 v2089 c1056964608_i32_760
  let ⟨v2174, v2175, c8388608_i32_791⟩ : Σ' (v2174 : FVec F S1x128 .f32) (v2175 : IVec S256x128 32), BitVec 32 ← k0_part327 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2127 v2130 v2131
  let ⟨v2214, v2217, v2218⟩ : Σ' (v2214 : FVec F S32x128 .f32) (v2217 : IVec S32x128 32), IVec S32x128 32 ← k0_part328 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2130 v2174 v2175 c8388608_i32_791
  let ⟨v2227, v2263⟩ : Σ' (v2227 : FVec F S32x128 .f32), FVec F S32x128 .bf16 ← k0_part329 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2018 v2214 v2217 v2218
  let v2306 : FVec F S32x128 .bf16 ← k0_part330 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2227 v2263
  let ⟨v2321, v2324, v2343, v2346, v2347⟩ : Σ' (v2321 : FVec F S32x128 .f32) (v2324 : FVec F S32x128 .f32) (v2343 : IVec S1x128 32) (v2346 : FVec F S1x128 .f32), IVec S1x128 32 ← k0_part331 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2015 v2018 v2306
  let ⟨v2385, v2390, cst_869, v2391⟩ : Σ' (v2385 : FVec F S1x128 .f32) (v2390 : FVec F S32x128 .f32) (cst_869 : F .f32), FVec F S32x128 .f32 ← k0_part332 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2321 v2324 v2343 v2346 v2347
  let ⟨v2411, v2414, v2426, v2429, v2432⟩ : Σ' (v2411 : Vec F S32x128 .f32) (v2414 : FVec F S32x128 .f32) (v2426 : FVec F S32x128 .f32) (v2429 : FVec F S32x128 .f32), FVec F S1x128 .f32 ← k0_part333 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2324 v2385 v2390 cst_869 v2391
  let ⟨v2473, v2476⟩ : Σ' (v2473 : FVec F S1x128 .f32), IVec S256x128 32 ← k0_part334 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2426 v2429 v2432
  let ⟨v2513, v2516, v2517, v2518⟩ : Σ' (v2513 : FVec F S32x128 .f32) (v2516 : IVec S32x128 32) (v2517 : IVec S32x128 32), IVec S32x128 32 ← k0_part335 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2411 v2429 v2473 v2476
  let ⟨v2526, v2562⟩ : Σ' (v2526 : FVec F S32x128 .f32), FVec F S32x128 .bf16 ← k0_part336 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2414 v2513 v2516 v2517 v2518
  pure ⟨arg1, v12, v2411, v2414, v2526, v2562⟩

/-- The printed text of the diagonal step's last three products. -/
def rear (v6377 : Vec F S256x512 .f32) (v6380 : FVec F S256x512 .bf16) :
    Prog (TpuEff nD τ sig (Elt F) Λ₀ .tc) PUnit := do
  let c0_2322 : Index := 0#32
  let v6381 : Vec F S512x512 .bf16 ← Prog.lift (.load arg18 (Rect.unit (s := S512x512) ![0, 0] S512x512.size inb_S512x512_S512x512_0_0).toLoadRect (View.loadsAt_vmem h_S512x512))
  have cst_2323 : FVec F S256x512 .f32 := constant S256x512 .f32 0x00000000#32
  have v6382 : FVec F S256x512 .f32 := matmul dot_S256x512_S512x512_S256x512_1_0_0_1_n_n none v6380 v6381 cst_2323
  have v6383 : FVec F S256x512 .f32 := addf v6377 v6382
  let c0_2324 : Index := 0#32
  let c0_2325 : Index := 0#32
  let v6384 : Vec F S256x512 .f32 ← Prog.lift (.load arg21 (Rect.unit (s := S256x512) ![0, 0] S256x512.size inb_S256x512_S256x512_0_0).toLoadRect (View.loadsAt_vmem h_S256x512))
  have v6385 : FVec F S256x512 .f32 := shapeCast S256x512 v6384 shapeCasts_S256x512_S256x512
  have v6386 : FVec F S256x512 .f32 := shapeCast S256x512 v6383 shapeCasts_S256x512_S256x512
  Prog.lift (.store arg21 (Rect.unit (s := S256x512) ![0, 0] S256x512.size inb_S256x512_S256x512_0_0) v6386 Finset.univ (View.stores_vmem_bits_univ h_S256x512 rfl) (.inl rfl))
  let c0_2326 : Index := 0#32
  let v6388 : Vec F S512x256 .f32 ← Prog.lift (.load arg20 (Rect.unit (s := S6144x256) (k0_off7 i) S512x256.size (k0_off7_inb i)).toLoadRect (View.loadsAt_vmem h_S512x256))
  let c0_2327 : Index := 0#32
  let c0_2328 : Index := 0#32
  let v6389 : Vec F S512x512 .bf16 ← Prog.lift (.load arg19 (Rect.unit (s := S512x512) ![0, 0] S512x512.size inb_S512x512_S512x512_0_0).toLoadRect (View.loadsAt_vmem h_S512x512))
  let c0_2329 : Index := 0#32
  let c0_2330 : Index := 0#32
  let c0_2331 : Index := 0#32
  let v6390 : Vec F S1x512x256 .bf16 ← Prog.lift (.load arg10 (Rect.unit (s := S1x512x256) ![0, 0, 0] S1x512x256.size inb_S1x512x256_S1x512x256_0_0_0).toLoadRect (View.loadsAt_vmem h_S1x512x256))
  have v6391 : FVec F S512x256 .bf16 := shapeCast S512x256 v6390 shapeCasts_S1x512x256_S512x256
  have cst_2332 : FVec F S512x256 .f32 := constant S512x256 .f32 0x00000000#32
  have v6392 : FVec F S512x256 .f32 := matmul dot_S512x512_S512x256_S512x256_1_0_0_1_n_n none v6389 v6391 cst_2332
  have v6393 : FVec F S512x256 .f32 := addf v6388 v6392
  let c0_2333 : Index := 0#32
  let v6395 : Vec F S512x256 .f32 ← Prog.lift (.load arg20 (Rect.unit (s := S6144x256) (k0_off7 i) S512x256.size (k0_off7_inb i)).toLoadRect (View.loadsAt_vmem h_S512x256))
  have v6396 : FVec F S512x256 .f32 := shapeCast S512x256 v6395 shapeCasts_S512x256_S512x256
  have v6397 : FVec F S512x256 .f32 := shapeCast S512x256 v6393 shapeCasts_S512x256_S512x256
  Prog.lift (.store arg20 (Rect.unit (s := S6144x256) (k0_off7 i) S512x256.size (k0_off7_inb i)) v6397 Finset.univ (View.stores_vmem_bits_univ h_S512x256 rfl) (.inl rfl))

/-- The printed text of the diagonal step from its sixth strip on. -/
def trail (x : Σ' (arg1 : BitVec 32) (v12 : BitVec 32) (v2411 : Vec F S32x128 .f32) (v2414 : FVec F S32x128 .f32) (v2526 : FVec F S32x128 .f32), FVec F S32x128 .bf16) :
    Prog (TpuEff nD τ sig (Elt F) Λ₀ .tc) PUnit := do
  let ⟨arg1, v12, v2411, v2414, v2526, v2562⟩ := x
  let ⟨v5096, v5140, v5141⟩ : Σ' (v5096 : FVec F S32x128 .f32) (v5140 : FVec F S1x128 .f32), IVec S256x128 32 ← k0_part428 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2411 v2414 v2526 v2562
  let ⟨v5181, v5183⟩ : Σ' (v5181 : BitVec 32), Vec F S32x128 .f32 ← k0_part397 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5096 v5140 v5141
  let ⟨v5186, v5198, v5201, v5223, v5225⟩ : Σ' (v5186 : FVec F S32x128 .f32) (v5198 : FVec F S32x128 .f32) (v5201 : FVec F S32x128 .f32) (v5223 : FVec F S1x128 .f32), IVec S1x128 32 ← k0_part398 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5181 v5183
  let ⟨v5262, cst_1912, v5269⟩ : Σ' (v5262 : FVec F S1x128 .f32) (cst_1912 : F .f32), FVec F S32x128 .f32 ← k0_part399 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5198 v5201 v5223 v5225
  let ⟨v5295, v5298, v5311⟩ : Σ' (v5295 : FVec F S32x128 .f32) (v5298 : FVec F S32x128 .f32), IVec S256x128 32 ← k0_part400 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5186 v5201 v5262 cst_1912 v5269
  let ⟨v5352, v5354, v5355⟩ : Σ' (v5352 : IVec S1x128 32) (v5354 : IVec S1x128 1), IVec S1x128 32 ← k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5295 v5298 v5311
  let ⟨v5392, v5395, v5397⟩ : Σ' (v5392 : FVec F S32x128 .f32) (v5395 : FVec F S32x128 .f32), FVec F S128 .f32 ← k0_part402 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5186 v5298 v5352 v5354 v5355
  let ⟨v5439, v5440, v5441⟩ : Σ' (v5439 : FVec F S1x128 .f32) (v5440 : IVec S256x128 32), IVec S256x128 32 ← k0_part403 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5392 v5395 v5397
  let ⟨v5479, v5482, v5483, c384_i32_1990⟩ : Σ' (v5479 : FVec F S32x128 .f32) (v5482 : IVec S32x128 32) (v5483 : IVec S32x128 32), BitVec 32 ← k0_part404 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5183 v5395 v5439 v5440 v5441
  let ⟨v5492, v5528⟩ : Σ' (v5492 : FVec F S32x128 .f32), FVec F S32x128 .bf16 ← k0_part405 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5186 v5479 v5482 v5483 c384_i32_1990
  let v5571 : FVec F S32x128 .bf16 ← k0_part406 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5492 v5528
  let ⟨v5579, v5582, v5594, v5597, v5612⟩ : Σ' (v5579 : Vec F S32x128 .f32) (v5582 : FVec F S32x128 .f32) (v5594 : FVec F S32x128 .f32) (v5597 : FVec F S32x128 .f32), IVec S1x128 32 ← k0_part407 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5571
  let ⟨v5655, c8388608_i32_2052⟩ : Σ' (v5655 : IVec S1x128 32), BitVec 32 ← k0_part408 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5594 v5597 v5612
  let ⟨v5691, v5694, v5697, cst_2068⟩ : Σ' (v5691 : FVec F S32x128 .f32) (v5694 : FVec F S32x128 .f32) (v5697 : FVec F S1x128 .f32), F .f32 ← k0_part409 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5582 v5597 v5655 c8388608_i32_2052
  let ⟨v5738, v5741, v5742⟩ : Σ' (v5738 : FVec F S1x128 .f32) (v5741 : IVec S256x128 32), FVec F S256x128 .f32 ← k0_part410 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5691 v5694 v5697 cst_2068
  let ⟨v5778, v5781, v5784⟩ : Σ' (v5778 : FVec F S32x128 .f32) (v5781 : IVec S32x128 32), IVec S32x128 32 ← k0_part411 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5694 v5738 v5741 v5742
  let ⟨v5791, v5827, v5828⟩ : Σ' (v5791 : FVec F S32x128 .f32) (v5827 : FVec F S32x128 .bf16), Vec F S32x128 .bf16 ← k0_part412 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5582 v5778 v5781 v5784
  let ⟨v5870, v5871⟩ : Σ' (v5870 : FVec F S32x128 .bf16), Vec F S32x128 .bf16 ← k0_part413 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5791 v5827 v5828
  let ⟨v5885, v5888, v5910, v5914⟩ : Σ' (v5885 : FVec F S32x128 .f32) (v5888 : FVec F S32x128 .f32) (v5910 : FVec F S1x128 .f32), FVec F S32x128 .f32 ← k0_part414 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5579 v5582 v5870 v5871
  let ⟨v5949, v5958⟩ : Σ' (v5949 : FVec F S1x128 .f32), FVec F S32x128 .f32 ← k0_part415 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5885 v5888 v5910 v5914
  let ⟨v5975, v5978, v5990, v5993, v5998⟩ : Σ' (v5975 : Vec F S32x128 .f32) (v5978 : FVec F S32x128 .f32) (v5990 : FVec F S32x128 .f32) (v5993 : FVec F S32x128 .f32), FVec F S1x128 .f32 ← k0_part416 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v5888 v5949 v5958
  let ⟨v6040, v6043⟩ : Σ' (v6040 : IVec S256x128 32), IVec S256x128 1 ← k0_part417 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5990 v5993 v5998
  let ⟨v6077, v6084, cst_2207⟩ : Σ' (v6077 : FVec F S32x128 .f32) (v6084 : IVec S32x128 1), F .f32 ← k0_part418 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5993 v6040 v6043
  let ⟨v6090, v6129⟩ : Σ' (v6090 : FVec F S32x128 .f32), FVec F S32x128 .bf16 ← k0_part419 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5978 v6077 v6084 cst_2207
  let v6172 : FVec F S32x128 .bf16 ← k0_part420 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6090 v6129
  let ⟨v6187, v6209, v6214, cst_2254⟩ : Σ' (v6187 : FVec F S32x128 .f32) (v6209 : FVec F S1x128 .f32) (v6214 : FVec F S32x128 .f32), F .f32 ← k0_part421 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5978 v6172
  let ⟨v6248, v6259⟩ : Σ' (v6248 : FVec F S1x128 .f32), FVec F S32x128 .bf16 ← k0_part422 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6187 v6209 v6214 cst_2254
  let ⟨v6281, v6284, v6299, v6300⟩ : Σ' (v6281 : FVec F S32x128 .f32) (v6284 : FVec F S32x128 .f32) (v6299 : IVec S1x128 32), IVec S1x128 32 ← k0_part423 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v5975 v5978 v6187 v6248 v6259
  let ⟨v6342, v6344⟩ : Σ' (v6342 : IVec S1x128 32), IVec S1x128 32 ← k0_part424 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v6281 v6284 v6299 v6300
  let ⟨v6377, v6380⟩ : Σ' (v6377 : Vec F S256x512 .f32), FVec F S256x512 .bf16 ← k0_part425 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v12 v6284 v6342 v6344
  rear i arg10 arg18 arg19 arg20 arg21 v6377 v6380

set_option maxHeartbeats 0 in
theorem diagonal_eq :
    ((lead (F := F) i arg3 arg4 arg8 arg9 arg15 arg16 arg21 arg22 >>= middle i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) >>= trail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      = (clearing arg21 arg22 >>= fun _ => step arg3 arg4 arg5 arg6 arg7 arg8 arg9 arg10 arg14 arg15 arg16 arg17 harg17 arg18 harg18 arg19 harg19 arg20 arg21 arg22 (at1 i) causal) := by
  rfl

end Cert.KernelIdeal.Rolled
-- ==== Proof.KernelIdeal.MainTrip.lean ====
/- A trip of the main loop, printed, is one step. -/
module

public import proofs.«01_k».proof.Proof.KernelIdeal.Pieces

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

set_option maxHeartbeats 0 in
theorem body2_eq (arg1 : BitVec 32) (v12 : BitVec 32) (v6377 : Vec F S256x512 .f32) (v6380 : FVec F S256x512 .bf16) (w : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 w = body2 i arg3 arg4 arg5 arg6 arg7 arg8 arg9 arg10 arg14 arg15 arg16 arg17 harg17 arg18 harg18 arg19 harg19 arg20 arg21 arg22 := by
  funext t a
  rfl

end Cert.KernelIdeal.Rolled
-- ==== Proof.KernelIdeal.RestTrip.lean ====
/- A trip of the loop's rest, printed, is one step. -/
module

public import proofs.«01_k».proof.Proof.KernelIdeal.Pieces

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

set_option maxHeartbeats 0 in
theorem body3_eq (arg1 : BitVec 32) (v12 : BitVec 32) (v6377 : Vec F S256x512 .f32) (v6380 : FVec F S256x512 .bf16) (w : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 w = body3 i arg3 arg4 arg5 arg6 arg7 arg8 arg9 arg10 arg14 arg15 arg16 arg17 harg17 arg18 harg18 arg19 harg19 arg20 arg21 arg22 := by
  funext t a
  rfl

end Cert.KernelIdeal.Rolled
-- ==== Proof.KernelIdeal.Rolled.lean ====
/- The kernel function, rolled up, is the printed one. -/
module

public import proofs.«01_k».proof.Proof.KernelIdeal.Diagonal
public import proofs.«01_k».proof.Proof.KernelIdeal.MainTrip
public import proofs.«01_k».proof.Proof.KernelIdeal.RestTrip

@[expose] public section

set_option synthInstance.maxSize 4096
set_option maxRecDepth 65536

noncomputable section

namespace Cert.KernelIdeal.Rolled

open Idealize.ShloMosaic Idealize.SL.Sem
open Cert.KernelIdeal.Gen

variable {F : FTy → Type} [FloatOps F]
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

/-- The kernel function, rolled up. -/
def kernel : Prog (TpuEff nD τ sig (Elt F) Λ₀ .tc) PUnit := do
  if h : k0_cond1 i = 1#1 then opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h else pure ⟨⟩
  clearing arg21 arg22
  step arg3 arg4 arg5 arg6 arg7 arg8 arg9 arg10 arg14 arg15 arg16 arg17 harg17 arg18 harg18 arg19 harg19 arg20 arg21 arg22 (at1 i) causal
  let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
  let _ ← Scf.Loop.for (k0_t3_loop i) (k0_t3_ok i) r (body3 i arg3 arg4 arg5 arg6 arg7 arg8 arg9 arg10 arg14 arg15 arg16 arg17 harg17 arg18 harg18 arg19 harg19 arg20 arg21 arg22)
  closing i arg11 harg11 arg12 harg12 arg13 harg13 arg20 arg21 arg22

/-- The two loops and what follows, within the printed part they stand in. -/
def loops : Prog (TpuEff nD τ sig (Elt F) Λ₀ .tc) (FVec F S512x256 .bf16) := do
  let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
  let _ ← Scf.Loop.for (k0_t3_loop i) (k0_t3_ok i) r (body3 i arg3 arg4 arg5 arg6 arg7 arg8 arg9 arg10 arg14 arg15 arg16 arg17 harg17 arg18 harg18 arg19 harg19 arg20 arg21 arg22)
  let dq : Vec F S512x256 .f32 ← Prog.lift (.load arg20 (Rect.unit (s := S6144x256) (k0_off7 i) S512x256.size (k0_off7_inb i)).toLoadRect (View.loadsAt_vmem h_S512x256))
  let _ : Vec F S1x512x256 .bf16 ← Prog.lift (.load arg11 (Rect.unit (s := S1x512x256) ![0, 0, 0] S1x512x256.size inb_S1x512x256_S1x512x256_0_0_0).toLoadRect (View.loadsAt_vmem h_S1x512x256))
  pure (truncf .bf16 (mulf (broadcast S512x256 (Scalar.ofBits .f32 0x3D800000#32)) dq) bitsLt_bf16_f32)

theorem part277_eq : k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
    = ((if h : k0_cond1 i = 1#1 then opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h else pure ⟨⟩) >>= fun _ => lead i arg3 arg4 arg8 arg9 arg15 arg16 arg21 arg22) := by
  unfold k0_part277
  by_cases h : k0_cond1 i = 1#1
  · simp only [dif_pos h, opening, bind_assoc]
    rfl
  · simp only [dif_neg h]
    rfl

theorem part426_eq (arg1 : BitVec 32) (v12 : BitVec 32) (v6377 : Vec F S256x512 .f32) (v6380 : FVec F S256x512 .bf16) :
    k0_part426 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380
      = (rear i arg10 arg18 arg19 arg20 arg21 v6377 v6380 >>= fun _ => loops i arg3 arg4 arg5 arg6 arg7 arg8 arg9 arg10 arg11 arg14 arg15 arg16 arg17 harg17 arg18 harg18 arg19 harg19 arg20 arg21 arg22) := by
  have e : k0_part426 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380
      = (rear i arg10 arg18 arg19 arg20 arg21 v6377 v6380 >>= fun _ => do
        let r ← Scf.Loop.for (k0_t2_loop i) (k0_t2_ok i) 0#32 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 (Scalar.addi arg1 1#32))
        let _ ← Scf.Loop.for (k0_t3_loop i) (k0_t3_ok i) r (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v12 v6377 v6380 (Scalar.addi (Scalar.addi arg1 1#32) (Scalar.muli (Scalar.divsi (Scalar.subi 12#32 (Scalar.addi arg1 1#32)) 1#32) 1#32)))
        let dq : Vec F S512x256 .f32 ← Prog.lift (.load arg20 (Rect.unit (s := S6144x256) (k0_off7 i) S512x256.size (k0_off7_inb i)).toLoadRect (View.loadsAt_vmem h_S512x256))
        let _ : Vec F S1x512x256 .bf16 ← Prog.lift (.load arg11 (Rect.unit (s := S1x512x256) ![0, 0, 0] S1x512x256.size inb_S1x512x256_S1x512x256_0_0_0).toLoadRect (View.loadsAt_vmem h_S1x512x256))
        pure (truncf .bf16 (mulf (broadcast S512x256 (Scalar.ofBits .f32 0x3D800000#32)) dq) bitsLt_bf16_f32)) := rfl
  rw [e, body2_eq, body3_eq]
  rfl

/-- Two programs with the same first part. -/
theorem same_first {α β γ δ : Type} (p : Prog (TpuEff nD τ sig (Elt F) Λ₀ .tc) α) (f : α → Prog (TpuEff nD τ sig (Elt F) Λ₀ .tc) β)
    (g : β → Prog (TpuEff nD τ sig (Elt F) Λ₀ .tc) δ) (f' : α → Prog (TpuEff nD τ sig (Elt F) Λ₀ .tc) γ) (g' : γ → Prog (TpuEff nD τ sig (Elt F) Λ₀ .tc) δ)
    (h : ∀ a, (f a >>= g) = (f' a >>= g')) : ((p >>= f) >>= g) = ((p >>= f') >>= g') := by
  rw [bind_assoc, bind_assoc]
  exact congrArg _ (funext h)

/-- What the printed function does with the query gradient's block, up to its last store. -/
def handing (v6412 : FVec F S512x256 .bf16) : Prog (TpuEff nD τ sig (Elt F) Λ₀ .tc) (FVec F S1x512x256 .bf16) := do
  Prog.lift (.store arg11 (Rect.unit (s := S1x512x256) ![0, 0, 0] S1x512x256.size inb_S1x512x256_S1x512x256_0_0_0) (shapeCast S1x512x256 v6412 shapeCasts_S512x256_S1x512x256) Finset.univ (View.stores_vmem h_S1x512x256 (harg11.storeExact_slice rfl _ packedbf16_S1x512x256_S1x512x256_0_0_0) (fun _ => rfl)) (.inl rfl))
  let dk : Vec F S256x512 .f32 ← Prog.lift (.load arg21 (Rect.unit (s := S256x512) ![0, 0] S256x512.size inb_S256x512_S256x512_0_0).toLoadRect (View.loadsAt_vmem h_S256x512))
  let _ : Vec F S1x512x256 .bf16 ← Prog.lift (.load arg12 (Rect.unit (s := S1x512x256) ![0, 0, 0] S1x512x256.size inb_S1x512x256_S1x512x256_0_0_0).toLoadRect (View.loadsAt_vmem h_S1x512x256))
  Prog.lift (.store arg12 (Rect.unit (s := S1x512x256) ![0, 0, 0] S1x512x256.size inb_S1x512x256_S1x512x256_0_0_0) (outK dk) Finset.univ (View.stores_vmem h_S1x512x256 (harg12.storeExact_slice rfl _ packedbf16_S1x512x256_S1x512x256_0_0_0) (fun _ => rfl)) (.inl rfl))
  let dv : Vec F S256x512 .f32 ← Prog.lift (.load arg22 (Rect.unit (s := S256x512) ![0, 0] S256x512.size inb_S256x512_S256x512_0_0).toLoadRect (View.loadsAt_vmem h_S256x512))
  let _ : Vec F S1x512x256 .bf16 ← Prog.lift (.load arg13 (Rect.unit (s := S1x512x256) ![0, 0, 0] S1x512x256.size inb_S1x512x256_S1x512x256_0_0_0).toLoadRect (View.loadsAt_vmem h_S1x512x256))
  pure (outV dv)

/-- The last store. -/
def last (v6429 : FVec F S1x512x256 .bf16) : Prog (TpuEff nD τ sig (Elt F) Λ₀ .tc) PUnit :=
  Prog.lift (.store arg13 (Rect.unit (s := S1x512x256) ![0, 0, 0] S1x512x256.size inb_S1x512x256_S1x512x256_0_0_0) v6429 Finset.univ (View.stores_vmem h_S1x512x256 (harg13.storeExact_slice rfl _ packedbf16_S1x512x256_S1x512x256_0_0_0) (fun _ => rfl)) (.inl rfl))

theorem trail_eq : (k0_part429 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= last arg13 harg13)
    = ((k0_part427 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= trail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) >>= fun _ =>
        (loops i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13) := by
  unfold k0_part429
  refine same_first _ _ _ _ _ (fun x => ?_)
  unfold trail
  iterate 29 (refine same_first _ _ _ _ _ (fun _ => ?_))
  refine same_first _ _ _ _ _ (fun ⟨a, b⟩ => ?_)
  refine Eq.trans (congrArg (fun p => (p >>= handing arg11 harg11 arg12 harg12 arg13 arg21 arg22) >>= last arg13 harg13)
    (part426_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ a b)) ?_
  dsimp only
  rw [bind_assoc, bind_assoc, bind_assoc]

theorem kernel_eq : cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := by
  have e : cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (k0_part429 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= last arg13 harg13) := rfl
  have e' : k0_part427 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = (k0_part277 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 >>= middle i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := rfl
  have d := diagonal_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22
  have l : ((loops (F := F) i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13)
      = (do
        let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
        let _ ← Scf.Loop.for (k0_t3_loop i) (k0_t3_ok i) r (body3 i arg3 arg4 arg5 arg6 arg7 arg8 arg9 arg10 arg14 arg15 arg16 arg17 harg17 arg18 harg18 arg19 harg19 arg20 arg21 arg22)
        closing i arg11 harg11 arg12 harg12 arg13 harg13 arg20 arg21 arg22) := by
    simp only [loops, bind_assoc]
    rfl
  have d' := congrArg (fun p => p >>= fun _ => ((loops (F := F) i arg3 arg4 arg5 arg6 arg7 arg8 arg9 arg10 arg11 arg14 arg15 arg16 arg17 harg17 arg18 harg18 arg19 harg19 arg20 arg21 arg22 >>= handing arg11 harg11 arg12 harg12 arg13 arg21 arg22) >>= last arg13 harg13)) d
  simp only [l, bind_assoc] at d'
  rw [e, trail_eq, e', part277_eq, l]
  simp only [bind_assoc]
  rw [d']
  unfold kernel
  by_cases h : k0_cond1 i = 1#1
  · simp only [dif_pos h, bind_assoc]
  · simp only [dif_neg h, bind_assoc]
    rfl

end Cert.KernelIdeal.Rolled
-- ==== Proof.KernelIdeal.Point.lean ====
/- What one grid point does: the kernel function's triple. -/
module

public import proofs.«01_k».proof.Proof.KernelIdeal.Step
public import proofs.«01_k».proof.Proof.KernelIdeal.Rolled

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

/-- The row statistics after `n` trips of the loop that spreads them over 128 columns. -/
def spread (i : grid0.Coords) (h : k0_cond1 i = 1#1) (x : Vec F S1x1x6144 .f32) (lse : Vec F S6144x128 .f32) : ℕ → Vec F S6144x128 .f32
  | 0 => lse
  | n + 1 => if hn : n < k0_t1_loop.trips then
      put (spread i h x lse n) (k0_off2 ⟨n, hn⟩) S128x128.size (k0_pay1143 (window x (k0_off1 ⟨n, hn⟩) S1x1x128.size (k0_off1_inb i ⟨n, hn⟩ h)))
    else spread i h x lse n

/-- At a pair's first block: the row statistics spread out, the query accumulator cleared. -/
def State.opened (S : State F) (i : grid0.Coords) (h : k0_cond1 i = 1#1) (x : Vec F S1x1x6144 .f32) : State F :=
  { S with
    lse := spread i h x S.lse k0_t1_loop.trips
    acc := shapeCast S6144x256 (broadcast S6144x256 (Scalar.ofBits .f32 0x00000000#32)) shapeCasts_S6144x256_S6144x256 }

/-- At every block: the key and value accumulators cleared. -/
def State.cleared (S : State F) : State F :=
  { S with
    dk := shapeCast S256x512 (broadcast S256x512 (Scalar.ofBits .f32 0x00000000#32)) shapeCasts_S256x512_S256x512
    dv := shapeCast S256x512 (broadcast S256x512 (Scalar.ofBits .f32 0x00000000#32)) shapeCasts_S256x512_S256x512 }

/-- After `n` trips of the main loop. -/
def State.trips (I : Ins F) (S : State F) (i : grid0.Coords) : ℕ → State F
  | 0 => S
  | n + 1 => if hn : n < (k0_t2_loop i).trips then (State.trips I S i n).step I (at2 i ⟨n, hn⟩) unmasked else State.trips I S i n

/-- What a grid point's own part of the computation leaves, from a state already opened. -/
def State.rest (I : Ins F) (S : State F) (i : grid0.Coords) : State F :=
  State.trips I (S.cleared.step I (at1 i) causal) i (k0_t2_loop i).trips

/-- What a grid point leaves. -/
def State.point (x : Vec F S1x1x6144 .f32) (I : Ins F) (S : State F) (i : grid0.Coords) : State F :=
  if h : k0_cond1 i = 1#1 then (S.opened i h x).rest I i else S.rest I i

/-- The rows of the query accumulator that a grid point hands out. -/
def accOut (i : grid0.Coords) (acc : Vec F S6144x256 .f32) : Vec F S512x256 .f32 := window acc (k0_off7 i) S512x256.size (k0_off7_inb i)

variable (𝒱 : Variants) (c : Dev nD) (bd : Option 𝒱.V) (E : Set ℕ)
variable (i : grid0.Coords) (arg2 : Memref sig .tc .vmem S1x1x6144 .f32) (harg2 : arg2.IsWhole) (arg3 : Memref sig .tc .vmem S1x6144x256 .bf16) (harg3 : arg3.IsWhole) (arg4 : Memref sig .tc .vmem S1x6144x256 .bf16) (harg4 : arg4.IsWhole) (arg5 : Memref sig .tc .vmem S1x256x6144 .bf16) (harg5 : arg5.IsWhole) (arg6 : Memref sig .tc .vmem S1x256x6144 .bf16) (harg6 : arg6.IsWhole) (arg7 : Memref sig .tc .vmem S1x6144x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x512x256 .bf16) (harg10 : arg10.IsWhole) (arg11 : Memref sig .tc .vmem S1x512x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S6144x128 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S6144x256 .f32) (harg20 : arg20.IsWhole) (arg21 : Memref sig .tc .vmem S256x512 .f32) (harg21 : arg21.IsWhole) (arg22 : Memref sig .tc .vmem S256x512 .f32) (harg22 : arg22.IsWhole)

theorem spread_trip_wp (h : k0_cond1 i = 1#1) (x : Vec F S1x1x6144 .f32) (lse : Vec F S6144x128 .f32) (t : Fin k0_t1_loop.trips) (a : Unit) :
    iprop(owns (c : Thread nD τ) arg2 fullShare x ∗ owns (c : Thread nD τ) arg14 fullShare (spread i h x lse t.val))
      ⊢ wp frame (wpE (defs₀ (F := F)) 𝒱 (c : Thread nD τ) bd) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h t a)
        (fun _ => (iprop(owns (c : Thread nD τ) arg2 fullShare x ∗ owns (c : Thread nD τ) arg14 fullShare (spread i h x lse (t.val + 1))) : sProp 𝕄)) := by
  have e2 : arg2.view.readAt (Elt F) (Rect.unit (s := S1x1x6144) (k0_off1 t) S1x1x128.size (k0_off1_inb i t h)).toLoadRect (arg2.view.rep x)
      = window x (k0_off1 t) S1x1x128.size (k0_off1_inb i t h) := View.readAt_rep_unit _ _ _ rfl _
  have es : spread i h x lse (t.val + 1)
      = put (spread i h x lse t.val) (k0_off2 t) S128x128.size (k0_pay1143 (window x (k0_off1 t) S1x1x128.size (k0_off1_inb i t h))) := by
    rw [spread, dif_pos t.isLt]
  rw [es]
  generalize spread i h x lse t.val = X
  unfold k0_t1_body
  simp only [owns_eq_rep (Val := Elt F)]
  iintro ⟨H2, H14⟩
  sl_exec
  sl_step
  isplitl [H2]; · iexact H2
  iapply (pointsTo_rep_of_read (c : Thread nD τ) arg14 _ _ _ ?_) $$ H14
  refine (View.read_writes_rep_unit _ _ _ _ rfl).trans ?_
  sl_unfold_words
  simp only [e2]

theorem clear_wp (acc : Vec F S6144x256 .f32) :
    owns (c : Thread nD τ) arg20 fullShare acc
      ⊢ wp frame (wpE (defs₀ (F := F)) 𝒱 (c : Thread nD τ) bd) E (do
        let _ : Vec F S6144x256 .f32 ← Prog.lift (.load arg20 (Rect.unit (s := S6144x256) ![0, 0] S6144x256.size inb_S6144x256_S6144x256_0_0).toLoadRect (View.loadsAt_vmem h_S6144x256))
        Prog.lift (.store arg20 (Rect.unit (s := S6144x256) ![0, 0] S6144x256.size inb_S6144x256_S6144x256_0_0) (shapeCast S6144x256 (broadcast S6144x256 (Scalar.ofBits .f32 0x00000000#32)) shapeCasts_S6144x256_S6144x256) Finset.univ (View.stores_vmem_bits_univ h_S6144x256 rfl) (.inl rfl))
        pure PUnit.unit)
        (fun _ => (owns (c : Thread nD τ) arg20 fullShare
          (shapeCast S6144x256 (broadcast S6144x256 (Scalar.ofBits .f32 0x00000000#32)) shapeCasts_S6144x256_S6144x256) : sProp 𝕄)) := by
  simp only [owns_eq_rep (Val := Elt F)]
  iintro H20
  sl_exec
  sl_step
  iapply (pointsTo_rep_of_read (c : Thread nD τ) arg20 _ _ _ ?_) $$ H20
  exact View.read_writes_full _ _ _ _ _

theorem opening_wp (h : k0_cond1 i = 1#1) (x : Vec F S1x1x6144 .f32) (lse : Vec F S6144x128 .f32) (acc : Vec F S6144x256 .f32) :
    iprop(owns (c : Thread nD τ) arg2 fullShare x ∗ owns (c : Thread nD τ) arg14 fullShare lse ∗ owns (c : Thread nD τ) arg20 fullShare acc)
      ⊢ wp frame (wpE (defs₀ (F := F)) 𝒱 (c : Thread nD τ) bd) E (opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
        (fun _ => (iprop(owns (c : Thread nD τ) arg2 fullShare x ∗ owns (c : Thread nD τ) arg14 fullShare (spread i h x lse k0_t1_loop.trips)
          ∗ owns (c : Thread nD τ) arg20 fullShare
          (shapeCast S6144x256 (broadcast S6144x256 (Scalar.ofBits .f32 0x00000000#32)) shapeCasts_S6144x256_S6144x256)) : sProp 𝕄)) := by
  unfold opening
  rw [wp_bind]
  iintro ⟨H2, H14, H20⟩
  iapply (Scf.wp_for Idealize.ShloMosaic.frame (wpE (defs₀ (F := F)) 𝒱 (c : Thread nD τ) bd) E k0_t1_loop.lb k0_t1_loop.ub k0_t1_loop.st (k0_t1_ok i h) ⟨⟩ _
    (fun n _ => iprop(owns (c : Thread nD τ) arg2 fullShare x ∗ owns (c : Thread nD τ) arg14 fullShare (spread i h x lse n)))
    (fun t a => spread_trip_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x lse t a))
  isplitl [H2 H14]
  · isplitl [H2]; · iexact H2
    iexact H14
  iintro %_ ⟨H2, H14⟩
  iapply (wp_wand_r Idealize.ShloMosaic.frame (wpE (defs₀ (F := F)) 𝒱 (c : Thread nD τ) bd) E)
  isplitl [H20]
  · iapply (clear_wp 𝒱 c bd E arg20 acc) $$ H20
  iintro %_ H20
  isplitl [H2]; · iexact H2
  isplitl [H14]; · iexact H14
  iexact H20

theorem clearing_wp (dk dv : Vec F S256x512 .f32) :
    iprop(owns (c : Thread nD τ) arg21 fullShare dk ∗ owns (c : Thread nD τ) arg22 fullShare dv)
      ⊢ wp frame (wpE (defs₀ (F := F)) 𝒱 (c : Thread nD τ) bd) E (clearing arg21 arg22)
        (fun _ => (iprop(owns (c : Thread nD τ) arg21 fullShare (shapeCast S256x512 (broadcast S256x512 (Scalar.ofBits .f32 0x00000000#32)) shapeCasts_S256x512_S256x512)
          ∗ owns (c : Thread nD τ) arg22 fullShare (shapeCast S256x512 (broadcast S256x512 (Scalar.ofBits .f32 0x00000000#32)) shapeCasts_S256x512_S256x512)) : sProp 𝕄)) := by
  unfold clearing
  simp only [owns_eq_rep (Val := Elt F)]
  iintro ⟨H21, H22⟩
  sl_exec
  sl_step
  isplitl [H21]
  · iapply (pointsTo_rep_of_read (c : Thread nD τ) arg21 _ _ _ ?_) $$ H21
    exact View.read_writes_full _ _ _ _ _
  · iapply (pointsTo_rep_of_read (c : Thread nD τ) arg22 _ _ _ ?_) $$ H22
    exact View.read_writes_full _ _ _ _ _

theorem closing_wp (acc : Vec F S6144x256 .f32) (dk dv : Vec F S256x512 .f32) (o1 o2 o3 : Vec F S1x512x256 .bf16) :
    iprop(owns (c : Thread nD τ) arg11 fullShare o1 ∗ owns (c : Thread nD τ) arg12 fullShare o2 ∗ owns (c : Thread nD τ) arg13 fullShare o3
        ∗ owns (c : Thread nD τ) arg20 fullShare acc ∗ owns (c : Thread nD τ) arg21 fullShare dk ∗ owns (c : Thread nD τ) arg22 fullShare dv)
      ⊢ wp frame (wpE (defs₀ (F := F)) 𝒱 (c : Thread nD τ) bd) E (closing i arg11 harg11 arg12 harg12 arg13 harg13 arg20 arg21 arg22)
        (fun _ => (iprop(owns (c : Thread nD τ) arg11 fullShare (outQ (accOut i acc)) ∗ owns (c : Thread nD τ) arg12 fullShare (outK dk)
        ∗ owns (c : Thread nD τ) arg13 fullShare (outV dv)
        ∗ owns (c : Thread nD τ) arg20 fullShare acc ∗ owns (c : Thread nD τ) arg21 fullShare dk ∗ owns (c : Thread nD τ) arg22 fullShare dv) : sProp 𝕄)) := by
  have e20 : arg20.view.readAt (Elt F) (Rect.unit (s := S6144x256) (k0_off7 i) S512x256.size (k0_off7_inb i)).toLoadRect (arg20.view.rep acc)
      = accOut i acc := View.readAt_rep_unit _ _ _ rfl _
  have e21 : arg21.view.readAt (Elt F) (Rect.unit (s := S256x512) ![0, 0] S256x512.size inb_S256x512_S256x512_0_0).toLoadRect (arg21.view.rep dk) = dk :=
    View.readAt_rep_full _ _ _
  have e22 : arg22.view.readAt (Elt F) (Rect.unit (s := S256x512) ![0, 0] S256x512.size inb_S256x512_S256x512_0_0).toLoadRect (arg22.view.rep dv) = dv :=
    View.readAt_rep_full _ _ _
  unfold closing
  simp only [owns_eq_rep (Val := Elt F)]
  iintro ⟨H11, H12, H13, H20, H21, H22⟩
  sl_exec
  sl_step
  isplitl [H11]
  · iapply (pointsTo_rep_of_read (c : Thread nD τ) arg11 _ _ _ ?_) $$ H11
    refine (View.read_writes_full _ _ _ _ _).trans ?_
    sl_unfold_words
    simp only [e20]
  isplitl [H12]
  · iapply (pointsTo_rep_of_read (c : Thread nD τ) arg12 _ _ _ ?_) $$ H12
    refine (View.read_writes_full _ _ _ _ _).trans ?_
    sl_unfold_words
    simp only [e21]
  isplitl [H13]
  · iapply (pointsTo_rep_of_read (c : Thread nD τ) arg13 _ _ _ ?_) $$ H13
    refine (View.read_writes_full _ _ _ _ _).trans ?_
    sl_unfold_words
    simp only [e22]
  isplitl [H20]; · iexact H20
  isplitl [H21]; · iexact H21
  iexact H22

theorem body2_wp (I : Ins F) (S : State F) (t : Fin (k0_t2_loop i).trips) (a : BitVec 32) :
    held c arg3 arg4 arg5 arg6 arg7 arg8 arg9 arg10 arg14 arg15 arg16 arg17 arg18 arg19 arg20 arg21 arg22 I (State.trips I S i t.val)
      ⊢ wp frame (wpE (defs₀ (F := F)) 𝒱 (c : Thread nD τ) bd) E (body2 i arg3 arg4 arg5 arg6 arg7 arg8 arg9 arg10 arg14 arg15 arg16 arg17 harg17 arg18 harg18 arg19 harg19 arg20 arg21 arg22 t a)
        (fun _ => held c arg3 arg4 arg5 arg6 arg7 arg8 arg9 arg10 arg14 arg15 arg16 arg17 arg18 arg19 arg20 arg21 arg22 I (State.trips I S i (t.val + 1))) := by
  have es : State.trips I S i (t.val + 1) = (State.trips I S i t.val).step I (at2 i t) unmasked := by
    rw [State.trips, dif_pos t.isLt]
  rw [es]
  unfold body2
  refine seq_wp _ _ _ _ (step_wp 𝒱 c bd E arg3 arg4 arg5 arg6 arg7 arg8 arg9 arg10 arg14 arg15 arg16 arg17 harg17 arg18 harg18 arg19 harg19 arg20 arg21 arg22 (at2 i t) unmasked I (State.trips I S i t.val)) ?_
  iintro H
  sl_step
  iexact H

/-- Everything a grid point reads or writes. -/
def pointHeld (x : Vec F S1x1x6144 .f32) (I : Ins F) (S : State F) (o1 o2 o3 : Vec F S1x512x256 .bf16) : sProp 𝕄 :=
  iprop(owns (c : Thread nD τ) arg2 fullShare x
    ∗ owns (c : Thread nD τ) arg11 fullShare o1 ∗ owns (c : Thread nD τ) arg12 fullShare o2 ∗ owns (c : Thread nD τ) arg13 fullShare o3
    ∗ held c arg3 arg4 arg5 arg6 arg7 arg8 arg9 arg10 arg14 arg15 arg16 arg17 arg18 arg19 arg20 arg21 arg22 I S)

theorem rest_wp (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (do
          clearing arg21 arg22
          step arg3 arg4 arg5 arg6 arg7 arg8 arg9 arg10 arg14 arg15 arg16 arg17 harg17 arg18 harg18 arg19 harg19 arg20 arg21 arg22 (at1 i) causal
          let r ← Scf.Loop.for (k0_t2_loop i) (k0_t2_ok i) 0#32 (body2 i arg3 arg4 arg5 arg6 arg7 arg8 arg9 arg10 arg14 arg15 arg16 arg17 harg17 arg18 harg18 arg19 harg19 arg20 arg21 arg22)
          let _ ← Scf.Loop.for (k0_t3_loop i) (k0_t3_ok i) r (body3 i arg3 arg4 arg5 arg6 arg7 arg8 arg9 arg10 arg14 arg15 arg16 arg17 harg17 arg18 harg18 arg19 harg19 arg20 arg21 arg22)
          closing i arg11 harg11 arg12 harg12 arg13 harg13 arg20 arg21 arg22)
        (fun _ => pointHeld c arg2 arg3 arg4 arg5 arg6 arg7 arg8 arg9 arg10 arg11 arg12 arg13 arg14 arg15 arg16 arg17 arg18 arg19 arg20 arg21 arg22 x I (S.rest I i) (outQ (accOut i (S.rest I i).acc)) (outK (S.rest I i).dk) (outV (S.rest I i).dv)) := by
  have hh : held c arg3 arg4 arg5 arg6 arg7 arg8 arg9 arg10 arg14 arg15 arg16 arg17 arg18 arg19 arg20 arg21 arg22 I S ⊢ wp frame (wpE (defs₀ (F := F)) 𝒱 (c : Thread nD τ) bd) E (clearing arg21 arg22) (fun _ => held c arg3 arg4 arg5 arg6 arg7 arg8 arg9 arg10 arg14 arg15 arg16 arg17 arg18 arg19 arg20 arg21 arg22 I S.cleared) := by
    unfold held
    iintro ⟨H3, H4, H5, H6, H7, H8, H9, H10, H14, H15, H16, HT, H20, H21, H22⟩
    iapply (wp_wand_r Idealize.ShloMosaic.frame (wpE (defs₀ (F := F)) 𝒱 (c : Thread nD τ) bd) E)
    isplitl [H21 H22]
    · iapply (clearing_wp 𝒱 c bd E arg21 arg22 S.dk S.dv)
      isplitl [H21]; · iexact H21
      iexact H22
    iintro %_ ⟨H21, H22⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H14]; · iexact H14
    isplitl [H15]; · iexact H15
    isplitl [H16]; · iexact H16
    isplitl [HT]; · iexact HT
    isplitl [H20]; · iexact H20
    isplitl [H21]; · iexact H21
    iexact H22
  have h1 := seq_wp (k := fun _ => step arg3 arg4 arg5 arg6 arg7 arg8 arg9 arg10 arg14 arg15 arg16 arg17 harg17 arg18 harg18 arg19 harg19 arg20 arg21 arg22 (at1 i) causal) 𝒱 c bd E hh (step_wp 𝒱 c bd E arg3 arg4 arg5 arg6 arg7 arg8 arg9 arg10 arg14 arg15 arg16 arg17 harg17 arg18 harg18 arg19 harg19 arg20 arg21 arg22 (at1 i) causal I S.cleared)
  have h2 : held c arg3 arg4 arg5 arg6 arg7 arg8 arg9 arg10 arg14 arg15 arg16 arg17 arg18 arg19 arg20 arg21 arg22 I (S.cleared.step I (at1 i) causal)
      ⊢ wp frame (wpE (defs₀ (F := F)) 𝒱 (c : Thread nD τ) bd) E (Scf.Loop.for (k0_t2_loop i) (k0_t2_ok i) 0#32 (body2 i arg3 arg4 arg5 arg6 arg7 arg8 arg9 arg10 arg14 arg15 arg16 arg17 harg17 arg18 harg18 arg19 harg19 arg20 arg21 arg22))
        (fun _ => held c arg3 arg4 arg5 arg6 arg7 arg8 arg9 arg10 arg14 arg15 arg16 arg17 arg18 arg19 arg20 arg21 arg22 I (S.rest I i)) := by
    iintro H
    iapply (Scf.wp_for Idealize.ShloMosaic.frame (wpE (defs₀ (F := F)) 𝒱 (c : Thread nD τ) bd) E (k0_t2_loop i).lb (k0_t2_loop i).ub (k0_t2_loop i).st (k0_t2_ok i) 0#32 _
      (fun n _ => held c arg3 arg4 arg5 arg6 arg7 arg8 arg9 arg10 arg14 arg15 arg16 arg17 arg18 arg19 arg20 arg21 arg22 I (State.trips I (S.cleared.step I (at1 i) causal) i n))
      (fun t a => body2_wp 𝒱 c bd E i arg3 arg4 arg5 arg6 arg7 arg8 arg9 arg10 arg14 arg15 arg16 arg17 harg17 arg18 harg18 arg19 harg19 arg20 arg21 arg22 I (S.cleared.step I (at1 i) causal) t a))
    isplitl [H]; · iexact H
    iintro %_ H
    iexact H
  have h3 : ∀ r : BitVec 32, held c arg3 arg4 arg5 arg6 arg7 arg8 arg9 arg10 arg14 arg15 arg16 arg17 arg18 arg19 arg20 arg21 arg22 I (S.rest I i)
      ⊢ wp frame (wpE (defs₀ (F := F)) 𝒱 (c : Thread nD τ) bd) E (Scf.Loop.for (k0_t3_loop i) (k0_t3_ok i) r (body3 i arg3 arg4 arg5 arg6 arg7 arg8 arg9 arg10 arg14 arg15 arg16 arg17 harg17 arg18 harg18 arg19 harg19 arg20 arg21 arg22))
        (fun _ => held c arg3 arg4 arg5 arg6 arg7 arg8 arg9 arg10 arg14 arg15 arg16 arg17 arg18 arg19 arg20 arg21 arg22 I (S.rest I i)) := by
    intro r
    iintro H
    iapply (Scf.wp_for Idealize.ShloMosaic.frame (wpE (defs₀ (F := F)) 𝒱 (c : Thread nD τ) bd) E (k0_t3_loop i).lb (k0_t3_loop i).ub (k0_t3_loop i).st (k0_t3_ok i) r _
      (fun _ _ => held c arg3 arg4 arg5 arg6 arg7 arg8 arg9 arg10 arg14 arg15 arg16 arg17 arg18 arg19 arg20 arg21 arg22 I (S.rest I i))
      (fun t a => absurd t.isLt (Nat.not_lt.2 (Nat.le_trans (k0_t3_abs i).2.1 (Nat.zero_le _)))))
    isplitl [H]; · iexact H
    iintro %_ H
    iexact H
  generalize S.rest I i = S' at h2 h3 ⊢
  unfold pointHeld
  iintro ⟨H2, H11, H12, H13, H⟩
  rw [← bind_assoc, wp_bind]
  iapply (wp_wand_r Idealize.ShloMosaic.frame (wpE (defs₀ (F := F)) 𝒱 (c : Thread nD τ) bd) E)
  isplitl [H]
  · iapply h1 $$ H
  iintro %_ H
  rw [wp_bind]
  iapply (wp_wand_r Idealize.ShloMosaic.frame (wpE (defs₀ (F := F)) 𝒱 (c : Thread nD τ) bd) E)
  isplitl [H]
  · iapply h2 $$ H
  iintro %r H
  rw [wp_bind]
  iapply (wp_wand_r Idealize.ShloMosaic.frame (wpE (defs₀ (F := F)) 𝒱 (c : Thread nD τ) bd) E)
  isplitl [H]
  · iapply (h3 r) $$ H
  iintro %_ H
  unfold held
  icases H with ⟨H3, H4, H5, H6, H7, H8, H9, H10, H14, H15, H16, HT, H20, H21, H22⟩
  iapply (wp_wand_r Idealize.ShloMosaic.frame (wpE (defs₀ (F := F)) 𝒱 (c : Thread nD τ) bd) E)
  isplitl [H11 H12 H13 H20 H21 H22]
  · iapply (closing_wp 𝒱 c bd E i arg11 harg11 arg12 harg12 arg13 harg13 arg20 arg21 arg22 S'.acc S'.dk S'.dv o1 o2 o3)
    isplitl [H11]; · iexact H11
    isplitl [H12]; · iexact H12
    isplitl [H13]; · iexact H13
    isplitl [H20]; · iexact H20
    isplitl [H21]; · iexact H21
    iexact H22
  iintro %_ ⟨H11, H12, H13, H20, H21, H22⟩
  isplitl [H2]; · iexact H2
  isplitl [H11]; · iexact H11
  isplitl [H12]; · iexact H12
  isplitl [H13]; · iexact H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

theorem opened_wp (h : k0_cond1 i = 1#1) (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (opening i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h)
        (fun _ => pointHeld c arg2 arg3 arg4 arg5 arg6 arg7 arg8 arg9 arg10 arg11 arg12 arg13 arg14 arg15 arg16 arg17 arg18 arg19 arg20 arg21 arg22 x I (S.opened i h x) o1 o2 o3) := by
  unfold pointHeld held
  iintro ⟨H2, H11, H12, H13, ⟨H3, H4, H5, H6, H7, H8, H9, H10, H14, H15, H16, HT, H20, H21, H22⟩⟩
  iapply (wp_wand_r Idealize.ShloMosaic.frame (wpE (defs₀ (F := F)) 𝒱 (c : Thread nD τ) bd) E)
  isplitl [H2 H14 H20]
  · iapply (opening_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x S.lse S.acc)
    isplitl [H2]; · iexact H2
    isplitl [H14]; · iexact H14
    iexact H20
  iintro %_ ⟨H2, H14, H20⟩
  isplitl [H2]; · iexact H2
  isplitl [H11]; · iexact H11
  isplitl [H12]; · iexact H12
  isplitl [H13]; · iexact H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HT]; · iexact HT
  isplitl [H20]; · iexact H20
  isplitl [H21]; · iexact H21
  iexact H22

set_option maxHeartbeats 1600000 in
theorem kernel_wp (x : Vec F S1x1x6144 .f32) (I : Ins F) (S : State F) (o1 o2 o3 : Vec F S1x512x256 .bf16) :
    pointHeld c arg2 arg3 arg4 arg5 arg6 arg7 arg8 arg9 arg10 arg11 arg12 arg13 arg14 arg15 arg16 arg17 arg18 arg19 arg20 arg21 arg22 x I S o1 o2 o3
      ⊢ wp frame (wpE (defs₀ (F := F)) 𝒱 (c : Thread nD τ) bd) E (cc0_mx_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => pointHeld c arg2 arg3 arg4 arg5 arg6 arg7 arg8 arg9 arg10 arg11 arg12 arg13 arg14 arg15 arg16 arg17 arg18 arg19 arg20 arg21 arg22 x I (S.point x I i) (outQ (accOut i (S.point x I i).acc)) (outK (S.point x I i).dk) (outV (S.point x I i).dv)) := by
  rw [kernel_eq]
  unfold kernel State.point
  by_cases h : k0_cond1 i = 1#1
  · simp only [dif_pos h]
    exact seq_wp 𝒱 c bd E (opened_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x I S o1 o2 o3) (rest_wp 𝒱 c bd E i arg2 arg3 arg4 arg5 arg6 arg7 arg8 arg9 arg10 arg11 harg11 arg12 harg12 arg13 harg13 arg14 arg15 arg16 arg17 harg17 arg18 harg18 arg19 harg19 arg20 arg21 arg22 x I (S.opened i h x) o1 o2 o3)
  · simp only [dif_neg h]
    exact rest_wp 𝒱 c bd E i arg2 arg3 arg4 arg5 arg6 arg7 arg8 arg9 arg10 arg11 harg11 arg12 harg12 arg13 harg13 arg14 arg15 arg16 arg17 harg17 arg18 harg18 arg19 harg19 arg20 arg21 arg22 x I S o1 o2 o3

end Cert.KernelIdeal.Rolled
-- ==== Proof.KernelIdeal.Glue.lean ====
/- Windows put side by side cover a buffer: what the strips keep, and the row statistics spread out, do not
   depend on what the buffers held before. -/
module

public import proofs.«01_k».proof.Proof.KernelIdeal.Point
public import Idealize.ShloMosaic.Lib.ValueIdxCoords

@[expose] public section

set_option maxRecDepth 16384

noncomputable section

namespace Cert.KernelIdeal.Rolled

open Idealize.ShloMosaic Idealize.ShloMosaic.ValueIdx
open Cert.KernelIdeal.Gen
open Idealize.ShloMosaic.VecWindow (window put)

variable {F : FTy → Type} [FloatOps F]

theorem put2_in {α : Type} {m n a b : ℕ} (x : (⟨2, ![m, n]⟩ : Shape).Idx → α) (off : Fin 2 → ℕ) (o0 o1 : ℕ) (ho : off = ![o0, o1])
    (w : (⟨2, ![a, b]⟩ : Shape).Idx → α) (y : (⟨2, ![m, n]⟩ : Shape).Idx) (r : Fin a) (k : Fin b)
    (h0 : (y 0).val = o0 + r.val) (h1 : (y 1).val = o1 + k.val) :
    put x off (![a, b] : Fin 2 → ℕ) w y = w (ix2 r k) := by
  subst ho
  have h : ∀ i : Fin 2, (![o0, o1] : Fin 2 → ℕ) i ≤ (y i).val ∧ (y i).val < (![o0, o1] : Fin 2 → ℕ) i + (![a, b] : Fin 2 → ℕ) i := by
    intro i
    match i with
    | ⟨0, _⟩ => exact ⟨by show o0 ≤ (y 0).val; omega, by show (y 0).val < o0 + a; have := r.isLt; omega⟩
    | ⟨1, _⟩ => exact ⟨by show o1 ≤ (y 1).val; omega, by show (y 1).val < o1 + b; have := k.isLt; omega⟩
  refine (dif_pos h).trans (congrArg w (funext fun i => Fin.ext ?_))
  match i with
  | ⟨0, _⟩ => show (y 0).val - o0 = r.val; omega
  | ⟨1, _⟩ => show (y 1).val - o1 = k.val; omega

theorem put2_out {α : Type} {m n a b : ℕ} (x : (⟨2, ![m, n]⟩ : Shape).Idx → α) (off : Fin 2 → ℕ) (o0 o1 : ℕ) (ho : off = ![o0, o1])
    (w : (⟨2, ![a, b]⟩ : Shape).Idx → α) (y : (⟨2, ![m, n]⟩ : Shape).Idx)
    (h : (y 0).val < o0 ∨ o0 + a ≤ (y 0).val ∨ (y 1).val < o1 ∨ o1 + b ≤ (y 1).val) :
    put x off (![a, b] : Fin 2 → ℕ) w y = x y := by
  subst ho
  refine dif_neg fun hh => ?_
  have h0 : o0 ≤ (y 0).val ∧ (y 0).val < o0 + a := hh 0
  have h1 : o1 ≤ (y 1).val ∧ (y 1).val < o1 + b := hh 1
  omega

/-- The tiles of the sixteen strips and four chunks, side by side. -/
def glue {α : Type} (w : Fin 16 → Fin 4 → S32x128.Idx → α) : S512x512.Idx → α := fun y =>
  w ⟨(y 0).val / 32, by have : (y 0).val < 512 := (y 0).isLt; omega⟩ ⟨(y 1).val / 128, by have : (y 1).val < 512 := (y 1).isLt; omega⟩
    (ix2 (⟨(y 0).val % 32, Nat.mod_lt _ (by decide)⟩ : Fin 32) (⟨(y 1).val % 128, Nat.mod_lt _ (by decide)⟩ : Fin 128))

/-- One strip's four tiles put. -/
def putStrip {α : Type} (w : Fin 16 → Fin 4 → S32x128.Idx → α) (x : S512x512.Idx → α) (g : Fin 16) : S512x512.Idx → α :=
  put (put (put (put x ![32 * g.val, 128 * (0 : Fin 4).val] S32x128.size (w g 0)) ![32 * g.val, 128 * (1 : Fin 4).val] S32x128.size (w g 1))
    ![32 * g.val, 128 * (2 : Fin 4).val] S32x128.size (w g 2)) ![32 * g.val, 128 * (3 : Fin 4).val] S32x128.size (w g 3)

theorem put_tile {α : Type} (w : Fin 16 → Fin 4 → S32x128.Idx → α) (x : S512x512.Idx → α) (g : Fin 16) (c : Fin 4) (y : S512x512.Idx) :
    put x ![32 * g.val, 128 * c.val] S32x128.size (w g c) y
      = if (y 0).val / 32 = g.val ∧ (y 1).val / 128 = c.val then glue w y else x y := by
  have l0 : (y 0).val < 512 := (y 0).isLt
  have l1 : (y 1).val < 512 := (y 1).isLt
  by_cases h : (y 0).val / 32 = g.val ∧ (y 1).val / 128 = c.val
  · rw [if_pos h]
    have hg : (⟨(y 0).val / 32, by omega⟩ : Fin 16) = g := Fin.ext h.1
    have hc : (⟨(y 1).val / 128, by omega⟩ : Fin 4) = c := Fin.ext h.2
    unfold glue
    rw [hg, hc]
    exact put2_in x _ _ _ rfl (w g c) y ⟨(y 0).val % 32, Nat.mod_lt _ (by decide)⟩ ⟨(y 1).val % 128, Nat.mod_lt _ (by decide)⟩
      (by show (y 0).val = 32 * g.val + (y 0).val % 32; omega) (by show (y 1).val = 128 * c.val + (y 1).val % 128; omega)
  · rw [if_neg h]
    exact put2_out x _ _ _ rfl (w g c) y (by omega)

theorem putStrip_apply {α : Type} (w : Fin 16 → Fin 4 → S32x128.Idx → α) (x : S512x512.Idx → α) (g : Fin 16) (y : S512x512.Idx) :
    putStrip w x g y = if (y 0).val / 32 = g.val then glue w y else x y := by
  have l1 : (y 1).val < 512 := (y 1).isLt
  unfold putStrip
  rw [put_tile, put_tile, put_tile, put_tile]
  by_cases h : (y 0).val / 32 = g.val
  · have : (y 1).val / 128 = 0 ∨ (y 1).val / 128 = 1 ∨ (y 1).val / 128 = 2 ∨ (y 1).val / 128 = 3 := by omega
    rcases this with e | e | e | e <;> simp [h, e]
  · simp [h]

theorem foldl_putStrip {α : Type} (w : Fin 16 → Fin 4 → S32x128.Idx → α) (gs : List (Fin 16)) : ∀ (x : S512x512.Idx → α) (y : S512x512.Idx),
    gs.foldl (putStrip w) x y = if ∃ g ∈ gs, (y 0).val / 32 = g.val then glue w y else x y := by
  induction gs with
  | nil => intro x y; simp
  | cons g gs ih =>
    intro x y
    rw [List.foldl_cons, ih, putStrip_apply]
    by_cases h : (y 0).val / 32 = g.val
    · simp [h]
    · simp [h]

/-- All the strips put: nothing of what was there before is left. -/
theorem foldl_putStrip_all {α : Type} (w : Fin 16 → Fin 4 → S32x128.Idx → α) (x : S512x512.Idx → α) :
    [0, 1, 2, 3, 4, 5, 6, 7, 8, 9, 10, 11, 12, 13, 14, 15].foldl (putStrip w) x = glue w := by
  funext y
  have l0 : (y 0).val < 512 := (y 0).isLt
  rw [foldl_putStrip, if_pos]
  have hall : ∀ g : Fin 16, g ∈ [(0 : Fin 16), 1, 2, 3, 4, 5, 6, 7, 8, 9, 10, 11, 12, 13, 14, 15] := by decide
  exact ⟨⟨(y 0).val / 32, by omega⟩, hall _, rfl⟩

section Strips

variable (at_ : At) (mask : Fin 16 → Fin 4 → FVec F S32x128 .f32 → FVec F S32x128 .f32)
  (lse : Vec F S6144x128 .f32) (dlt : Vec F S1x6144x128 .f32) (s dp : Vec F S512x512 .f32)

def tileP (g : Fin 16) (c : Fin 4) : Vec F S32x128 .bf16 :=
  shapeCast S32x128 (quant (probs mask g c s (at_.statOf lse g))) shapeCasts_S32x128_S32x128

def tileD (g : Fin 16) (c : Fin 4) : Vec F S32x128 .bf16 :=
  shapeCast S32x128 (quant (grads mask g c s dp (at_.statOf lse g) (at_.deltaOf dlt g))) shapeCasts_S32x128_S32x128

def tileB (g : Fin 16) (c : Fin 4) : Vec F S32x128 .bf16 :=
  shapeCast S32x128 (truncf .bf16 (grads mask g c s dp (at_.statOf lse g) (at_.deltaOf dlt g)) bitsLt_bf16_f32) shapeCasts_S32x128_S32x128

theorem strips_eq (gs : List (Fin 16)) : ∀ T : Kept F, T.strips at_ mask lse dlt s dp gs
    = ⟨gs.foldl (putStrip (tileP at_ mask lse s)) T.p, gs.foldl (putStrip (tileD at_ mask lse dlt s dp)) T.d,
      gs.foldl (putStrip (tileB at_ mask lse dlt s dp)) T.b⟩ := by
  induction gs with
  | nil => intro T; rfl
  | cons g gs ih => intro T; exact (ih _)

/-- What the strips keep, whatever was there before. -/
theorem strips_all (T : Kept F) : T.strips at_ mask lse dlt s dp [0, 1, 2, 3, 4, 5, 6, 7, 8, 9, 10, 11, 12, 13, 14, 15]
    = ⟨glue (tileP at_ mask lse s), glue (tileD at_ mask lse dlt s dp), glue (tileB at_ mask lse dlt s dp)⟩ := by
  rw [strips_eq, foldl_putStrip_all, foldl_putStrip_all, foldl_putStrip_all]

end Strips

theorem kept_eq (I : Ins F) (S : State F) (at_ : At) (mask : Fin 16 → Fin 4 → FVec F S32x128 .f32 → FVec F S32x128 .f32) :
    S.kept I at_ mask = ⟨glue (tileP at_ mask S.lse (k0_pay1 (at_.rowsOf I.q) I.ka)),
      glue (tileD at_ mask S.lse I.dlt (k0_pay1 (at_.rowsOf I.q) I.ka) (k0_pay1 (at_.rowsOf I.d) I.va)),
      glue (tileB at_ mask S.lse I.dlt (k0_pay1 (at_.rowsOf I.q) I.ka) (k0_pay1 (at_.rowsOf I.d) I.va))⟩ := by
  unfold State.kept
  exact strips_all _ _ _ _ _ _ _

theorem trips1 : k0_t1_loop.trips = 48 := by decide +kernel

theorem spread_apply (i : grid0.Coords) (h : k0_cond1 i = 1#1) (x : Vec F S1x1x6144 .f32) (lse : Vec F S6144x128 .f32) (y : S6144x128.Idx)
    (q : Fin k0_t1_loop.trips) (r : Fin 128) (k : Fin 128) (hq : (y 0).val = 128 * q.val + r.val) (hk : (y 1).val = k.val) : ∀ n : ℕ,
    n ≤ k0_t1_loop.trips → spread i h x lse n y
      = if q.val < n then k0_pay1143 (window x (k0_off1 q) S1x1x128.size (k0_off1_inb i q h)) (ix2 r k) else lse y
  | 0, _ => by simp [spread]
  | n + 1, hn => by
    have hn' : n < k0_t1_loop.trips := hn
    rw [spread, dif_pos hn']
    by_cases e : q.val = n
    · have e' : q = ⟨n, hn'⟩ := Fin.ext e
      rw [if_pos (by omega), e']
      exact put2_in _ _ _ _ (k0_off2_eq _) _ y r k (by rw [hq, e]) (by omega)
    · refine (put2_out _ _ _ _ (k0_off2_eq _) _ y ?_).trans ?_
      · have := r.isLt
        show (y 0).val < 128 * n ∨ 128 * n + 128 ≤ (y 0).val ∨ _
        omega
      · rw [spread_apply i h x lse y q r k hq hk n (by omega)]
        by_cases hlt : q.val < n
        · rw [if_pos hlt, if_pos (by omega)]
        · rw [if_neg hlt, if_neg (by omega)]

/-- The row statistics spread out, at a row and a column. -/
theorem spread_all (i : grid0.Coords) (h : k0_cond1 i = 1#1) (x : Vec F S1x1x6144 .f32) (lse : Vec F S6144x128 .f32) (q : Fin k0_t1_loop.trips) (r k : Fin 128)
    (y : S6144x128.Idx) (hq : (y 0).val = 128 * q.val + r.val) (hk : (y 1).val = k.val) :
    spread i h x lse k0_t1_loop.trips y = k0_pay1143 (window x (k0_off1 q) S1x1x128.size (k0_off1_inb i q h)) (ix2 r k) := by
  rw [spread_apply i h x lse y q r k hq hk _ (Nat.le_refl _), if_pos q.isLt]

theorem exists_div_mod (n b N : ℕ) (hb : 0 < b) (h : n / b < N) : ∃ q : Fin N, ∃ r : Fin b, n = b * q.val + r.val :=
  ⟨⟨n / b, h⟩, ⟨n % b, Nat.mod_lt _ hb⟩, (Nat.div_add_mod _ _).symm⟩

theorem spread_indep (i : grid0.Coords) (h : k0_cond1 i = 1#1) (x : Vec F S1x1x6144 .f32) (lse lse' : Vec F S6144x128 .f32) :
    spread i h x lse k0_t1_loop.trips = spread i h x lse' k0_t1_loop.trips := by
  funext y
  have l0 : (y 0).val < 6144 := (y 0).isLt
  have l1 : (y 1).val < 128 := (y 1).isLt
  have hq : (y 0).val / 128 < k0_t1_loop.trips := by rw [trips1]; omega
  obtain ⟨q, r, e0⟩ := exists_div_mod (y 0).val 128 k0_t1_loop.trips (by decide) hq
  obtain ⟨k, e1⟩ : ∃ k : Fin 128, (y 1).val = k.val := ⟨⟨_, l1⟩, rfl⟩
  exact (spread_all i h x lse q r k y e0 e1).trans (spread_all i h x lse' q r k y e0 e1).symm

/-- A step depends on the row statistics and on the accumulators only. -/
theorem step_congr (I : Ins F) (S S' : State F) (at_ : At) (mask : Fin 16 → Fin 4 → FVec F S32x128 .f32 → FVec F S32x128 .f32)
    (hl : S.lse = S'.lse) (ha : S.acc = S'.acc) (hk : S.dk = S'.dk) (hv : S.dv = S'.dv) : S.step I at_ mask = S'.step I at_ mask := by
  unfold State.step
  rw [kept_eq, kept_eq, hl, ha, hk, hv]

/-- At a pair's first block what was held before does not matter. -/
theorem point_indep (x : Vec F S1x1x6144 .f32) (I : Ins F) (S S' : State F) (i : grid0.Coords) (h : k0_cond1 i = 1#1) :
    S.point x I i = S'.point x I i := by
  unfold State.point
  rw [dif_pos h, dif_pos h]
  unfold State.rest
  have hl : (S.opened i h x).cleared.lse = (S'.opened i h x).cleared.lse := by
    unfold State.cleared State.opened
    dsimp only
    exact spread_indep i h x S.lse S'.lse
  have ha : (S.opened i h x).cleared.acc = (S'.opened i h x).cleared.acc := by
    unfold State.cleared State.opened
    dsimp only
  have hk : (S.opened i h x).cleared.dk = (S'.opened i h x).cleared.dk := by
    unfold State.cleared State.opened
    dsimp only
  have hv : (S.opened i h x).cleared.dv = (S'.opened i h x).cleared.dv := by
    unfold State.cleared State.opened
    dsimp only
  rw [step_congr I (S.opened i h x).cleared (S'.opened i h x).cleared (at1 i) causal hl ha hk hv]

end Cert.KernelIdeal.Rolled
-- ==== Proof.KernelIdeal.Run.lean ====
/- The kernel's run: the proof data with the scratch buffers carried from point to point, the body's
   obligation, the run and the frame. -/
module

public import proofs.«01_k».proof.Proof.KernelIdeal.Glue
public import Idealize.ShloMosaic.Lib.Claim

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point reads. -/
def insAt (c : Dev nD) (t : Fin cfg0.N) : Ins F where
  q := iblk m c 1 t
  d := iblk m c 2 t
  dt := iblk m c 3 t
  qt := iblk m c 4 t
  dlt := iblk m c 5 t
  ka := iblk m c 6 t
  va := iblk m c 7 t
  k := iblk m c 8 t

/-- The row statistics a point reads. -/
def statAt (c : Dev nD) (t : Fin cfg0.N) : Vec F S1x1x6144 .f32 := iblk m c 0 t

/-- Anything: what the scratch buffers are taken to hold before the first point. -/
def State.start : State F where
  lse := broadcast S6144x128 (Scalar.ofBits .f32 0x00000000#32)
  s := broadcast S512x512 (Scalar.ofBits .f32 0x00000000#32)
  dp := broadcast S512x512 (Scalar.ofBits .f32 0x00000000#32)
  T := ⟨broadcast S512x512 (Scalar.ofBits .bf16 0#16), broadcast S512x512 (Scalar.ofBits .bf16 0#16), broadcast S512x512 (Scalar.ofBits .bf16 0#16)⟩
  acc := broadcast S6144x256 (Scalar.ofBits .f32 0x00000000#32)
  dk := broadcast S256x512 (Scalar.ofBits .f32 0x00000000#32)
  dv := broadcast S256x512 (Scalar.ofBits .f32 0x00000000#32)

/-- What the scratch buffers hold before point `n`. -/
def stateAt (c : Dev nD) : ℕ → State F
  | 0 => State.start
  | n + 1 => if h : n < cfg0.N then (stateAt c n).point (statAt m c ⟨n, h⟩) (insAt m c ⟨n, h⟩) (grid0.coords ⟨n, h⟩) else stateAt c n

/-- What they hold after point `t`. -/
def stateAfter (c : Dev nD) (t : Fin cfg0.N) : State F := (stateAt m c t.val).point (statAt m c t) (insAt m c t) (grid0.coords t)

theorem stateAt_succ (c : Dev nD) (t : Fin cfg0.N) : stateAt m c (t.val + 1) = stateAfter m c t := by
  unfold stateAfter
  rw [stateAt, dif_pos t.isLt]

/-- The scratch buffers, each whole. -/
def scratch (c : Dev nD) (S : State F) : sProp 𝕄 :=
  iprop(owns (c : Thread nD τ) (Memref.whole cc0_scratch0) fullShare S.lse ∗ owns (c : Thread nD τ) (Memref.whole cc0_scratch1) fullShare S.s
    ∗ owns (c : Thread nD τ) (Memref.whole cc0_scratch2) fullShare S.dp
    ∗ keeps c (Memref.whole cc0_scratch3) (Memref.whole cc0_scratch4) (Memref.whole cc0_scratch5) S.T
    ∗ owns (c : Thread nD τ) (Memref.whole cc0_scratch6) fullShare S.acc
    ∗ owns (c : Thread nD τ) (Memref.whole cc0_scratch7) fullShare S.dk ∗ owns (c : Thread nD τ) (Memref.whole cc0_scratch8) fullShare S.dv)

/-- What is carried from point to point. -/
def carried (c : Dev nD) (n : ℕ) : sProp 𝕄 :=
  iprop((∃ S : State F, ⌜n = 0 ∨ S = stateAt m c n⌝ ∗ scratch c S) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outQ (accOut (grid0.coords t) (stateAfter m c t).acc)
    | ⟨10, _⟩ => outK (stateAfter m c t).dk
    | ⟨11, _⟩ => outV (stateAfter m c t).dv
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outQ (accOut (grid0.coords t) (stateAfter m c t).acc) := by dsimp only [dats]
theorem after0_10 (c : Dev nD) (t : Fin cfg0.N) : (dats m 0 c).after 10 t = outK (stateAfter m c t).dk := by dsimp only [dats]
theorem after0_11 (c : Dev nD) (t : Fin cfg0.N) : (dats m 0 c).after 11 t = outV (stateAfter m c t).dv := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem first_opens : ∀ t : Fin cfg0.N, t.val = 0 → k0_cond1 (grid0.coords t) = 1#1 := by
  intro t h
  have e : t = ⟨0, by decide⟩ := Fin.ext h
  rw [e]
  decide +kernel

/-- The scratch buffers' part of what a point holds. -/
theorem point_wp (c : Dev nD) (t : Fin cfg0.N) (S : State F) (hS : t.val = 0 ∨ S = stateAt m c t.val) (o1 o2 o3 : Vec F S1x512x256 .bf16) :
    pointHeld c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (statAt m c t) (insAt m c t) S o1 o2 o3
      ⊢ wp frame (wpE (defs₀ (F := F)) Variants.none (c : Thread nD τ) none) Set.univ (bodyAt0 t)
        (fun _ => pointHeld c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (statAt m c t) (insAt m c t) (stateAfter m c t)
          (outQ (accOut (grid0.coords t) (stateAfter m c t).acc)) (outK (stateAfter m c t).dk) (outV (stateAfter m c t).dv)) := by
  have e : S.point (statAt m c t) (insAt m c t) (grid0.coords t) = stateAfter m c t := by
    rcases hS with h0 | h
    · exact point_indep _ _ _ _ _ (first_opens t h0)
    · rw [h]; rfl
  rw [← e]
  exact kernel_wp Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (statAt m c t) (insAt m c t) S o1 o2 o3

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5, after0_6, after0_7, after0_8, after0_9, after0_10, after0_11]
  unfold carried
  iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hw := point_wp m c t S hS ((dats m 0 c).before 9 t d9) ((dats m 0 c).before 10 t d10) ((dats m 0 c).before 11 t d11)
  unfold pointHeld held at hw
  unfold scratch
  icases HS with ⟨S0, S1, S2, S3, S6, S7, S8⟩
  iapply (wp_wand_r Idealize.ShloMosaic.frame (wpE (defs₀ (F := F)) Variants.none (c : Thread nD τ) none) Set.univ)
  isplitl [S0 S1 S2 S3 S6 S7 S8 H0 H1 H2 H3 H4 H5 H6 H7 H8 H9 H10 H11]
  · iapply hw
    isplitl [H0]; · iexact H0
    isplitl [H9]; · iexact H9
    isplitl [H10]; · iexact H10
    isplitl [H11]; · iexact H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S6]; · iexact S6
    isplitl [S7]; · iexact S7
    iexact S8
  iintro %_ ⟨H0, H9, H10, H11, H1, H2, H3, H4, H5, H6, H7, H8, S0, S1, S2, S3, S6, S7, S8⟩
  isplitl [S0 S1 S2 S3 S6 S7 S8 Hr]
  · isplitr [Hr]
    · iexists (stateAfter m c t)
      isplitr
      · ipureintro
        exact Or.inr (stateAt_succ m c t).symm
      isplitl [S0]; · iexact S0
      isplitl [S1]; · iexact S1
      isplitl [S2]; · iexact S2
      isplitl [S3]; · iexact S3
      isplitl [S6]; · iexact S6
      isplitl [S7]; · iexact S7
      iexact S8
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem carried_intro (c : Dev nD) : Pipeline.ΦA spec0 c ⊢ (carried m c 0 : sProp 𝕄) := by
  unfold Pipeline.ΦA carried scratch keeps
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩
  isplitr [Hr]
  · iexists (⟨f0, f1, f2, ⟨f3, f4, f5⟩, f6, f7, f8⟩ : State F)
    isplitr
    · ipureintro
      exact Or.inl rfl
    isplitl [H0]; · iapply (Entails.of_eq (owns_whole (c : Thread nD τ) cc0_scratch0 fullShare f0).symm) $$ H0
    isplitl [H1]; · iapply (Entails.of_eq (owns_whole (c : Thread nD τ) cc0_scratch1 fullShare f1).symm) $$ H1
    isplitl [H2]; · iapply (Entails.of_eq (owns_whole (c : Thread nD τ) cc0_scratch2 fullShare f2).symm) $$ H2
    isplitl [H3 H4 H5]
    · isplitl [H3]; · iapply (Entails.of_eq (owns_whole (c : Thread nD τ) cc0_scratch3 fullShare f3).symm) $$ H3
      isplitl [H4]; · iapply (Entails.of_eq (owns_whole (c : Thread nD τ) cc0_scratch4 fullShare f4).symm) $$ H4
      iapply (Entails.of_eq (owns_whole (c : Thread nD τ) cc0_scratch5 fullShare f5).symm) $$ H5
    isplitl [H6]; · iapply (Entails.of_eq (owns_whole (c : Thread nD τ) cc0_scratch6 fullShare f6).symm) $$ H6
    isplitl [H7]; · iapply (Entails.of_eq (owns_whole (c : Thread nD τ) cc0_scratch7 fullShare f7).symm) $$ H7
    iapply (Entails.of_eq (owns_whole (c : Thread nD τ) cc0_scratch8 fullShare f8).symm) $$ H8
  · iexact Hr

theorem carried_elim (c : Dev nD) (n : ℕ) : (carried m c n : sProp 𝕄) ⊢ Pipeline.ΦA spec0 c := by
  unfold Pipeline.ΦA carried scratch keeps
  rw [scopedRest0_eq]
  iintro ⟨⟨%S, -, H0, H1, H2, ⟨H3, H4, H5⟩, H6, H7, H8⟩, Hr⟩
  isplitr [Hr]
  · isplitl [H0]; · iexists S.lse; iapply (Entails.of_eq (owns_whole (c : Thread nD τ) cc0_scratch0 fullShare S.lse)) $$ H0
    isplitl [H1]; · iexists S.s; iapply (Entails.of_eq (owns_whole (c : Thread nD τ) cc0_scratch1 fullShare S.s)) $$ H1
    isplitl [H2]; · iexists S.dp; iapply (Entails.of_eq (owns_whole (c : Thread nD τ) cc0_scratch2 fullShare S.dp)) $$ H2
    isplitl [H3]; · iexists S.T.p; iapply (Entails.of_eq (owns_whole (c : Thread nD τ) cc0_scratch3 fullShare S.T.p)) $$ H3
    isplitl [H4]; · iexists S.T.d; iapply (Entails.of_eq (owns_whole (c : Thread nD τ) cc0_scratch4 fullShare S.T.d)) $$ H4
    isplitl [H5]; · iexists S.T.b; iapply (Entails.of_eq (owns_whole (c : Thread nD τ) cc0_scratch5 fullShare S.T.b)) $$ H5
    isplitl [H6]; · iexists S.acc; iapply (Entails.of_eq (owns_whole (c : Thread nD τ) cc0_scratch6 fullShare S.acc)) $$ H6
    isplitl [H7]; · iexists S.dk; iapply (Entails.of_eq (owns_whole (c : Thread nD τ) cc0_scratch7 fullShare S.dk)) $$ H7
    iexists S.dv; iapply (Entails.of_eq (owns_whole (c : Thread nD τ) cc0_scratch8 fullShare S.dv)) $$ H8
  · iexact Hr

set_option backward.isDefEq.respectTransparency.types false in
set_option maxHeartbeats 800000 in
/-- Every fair execution ends with the arrays at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_intro m c) (hout := fun c => carried_elim m c _)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Rolled
-- ==== Proof.Value.Scalar.lean ====
/- The quantiser on one number: what goes through the 8-bit codes and back under a power-of-two scale comes back
   whole, and what the kernel and the reference leave of numbers past the range of the scale. -/
module

public import Idealize.ShloMosaic.PureOps.Ideal
public import Idealize.ShloMosaic.PureOps.Ideal.Laws

@[expose] public section

noncomputable section

namespace Cert.MX

open Idealize.ShloMosaic

/-- The word whose exponent field is `n`. -/
def expWord (n : ℕ) : BitVec 32 := BitVec.ofNat 32 (n * 8388608)

/-- The number of a word with exponent field `n`. -/
def power (n : ℕ) : EReal := Ideal.ofBits .f32 (expWord n)

theorem expWord_fields (n : ℕ) (h : n < 256) :
    ((expWord n).extractLsb' 23 8).toNat = n ∧ ((expWord n).extractLsb' 0 23).toNat = 0 ∧ (expWord n).extractLsb' 31 1 = 0#1 := by
  have e : (expWord n).toNat = n * 8388608 := by
    unfold expWord
    rw [BitVec.toNat_ofNat, Nat.mod_eq_of_lt (by omega)]
  refine ⟨?_, ?_, ?_⟩
  · rw [BitVec.extractLsb'_toNat, e, Nat.shiftRight_eq_div_pow]
    omega
  · rw [BitVec.extractLsb'_toNat, e, Nat.shiftRight_eq_div_pow]
    omega
  · apply BitVec.eq_of_toNat_eq
    rw [BitVec.extractLsb'_toNat, e, Nat.shiftRight_eq_div_pow]
    simp only [BitVec.toNat_ofNat]
    omega

theorem power_normal (n : ℕ) (h1 : 1 ≤ n) (h2 : n ≤ 254) : power n = (((2 : ℝ) ^ ((n : ℤ) - 127) : ℝ) : EReal) := by
  obtain ⟨a, b, c⟩ := expWord_fields n (by omega)
  unfold power Ideal.ofBits Ideal.ieee
  simp only [a, b, c]
  rw [if_neg (by norm_num; omega), if_neg (by omega)]
  congr 1
  have h : ((0#1 == 1#1) = true) = False := by decide
  simp only [h, if_false, one_mul, add_zero]
  have e : (((2 ^ 23 : ℕ) : ℝ)) = (2 : ℝ) ^ (23 : ℤ) := by norm_num
  rw [e, ← zpow_add₀ (by norm_num)]
  congr 1
  push_cast
  ring

theorem power_zero : power 0 = 0 := by simp [power, expWord, Ideal.ofBits, Ideal.ieee]
theorem power_top : power 255 = ⊤ := by simp [power, expWord, Ideal.ofBits, Ideal.ieee]
theorem power_wrapped : power 256 = 0 := by simp [power, expWord, Ideal.ofBits, Ideal.ieee]

theorem power_mono {a b : ℕ} (h : a ≤ b) (hb : b ≤ 255) : power a ≤ power b := by
  rcases Nat.eq_or_lt_of_le hb with rfl | hb'
  · rw [power_top]; exact le_top
  rcases Nat.eq_zero_or_pos a with rfl | ha
  · rcases Nat.eq_zero_or_pos b with rfl | hb0
    · exact le_refl _
    · rw [power_zero, power_normal b hb0 (by omega)]
      exact_mod_cast (zpow_nonneg (by norm_num : (0 : ℝ) ≤ 2) _)
  · rw [power_normal a ha (by omega), power_normal b (by omega) (by omega)]
    exact EReal.coe_le_coe_iff.2 (zpow_le_zpow_right₀ (by norm_num : (1 : ℝ) ≤ 2) (by omega))

/-- The factor a column's largest magnitude is scaled down by. -/
def unit : EReal := Ideal.ofBits .f32 0x3B124925#32

theorem unit_eq : unit = (((9586981 : ℝ) * (2 : ℝ) ^ (-32 : ℤ) : ℝ) : EReal) := by
  unfold unit
  simp [Ideal.ofBits, Ideal.ieee, -EReal.coe_mul]

/-- The unit as a real number. -/
def unitR : ℝ := (9586981 : ℝ) * (2 : ℝ) ^ (-32 : ℤ)

theorem unitR_pos : 0 < unitR := by unfold unitR; positivity

theorem unitR_ge : 1 ≤ 448 * unitR := by unfold unitR; norm_num

theorem top_bits : Ideal.ofBits .f32 0x43E00000#32 = ((448 : ℝ) : EReal) := by
  simp [Ideal.ofBits, Ideal.ieee, -EReal.coe_mul]; norm_num
theorem bottom_bits : Ideal.ofBits .f32 0xC3E00000#32 = ((-448 : ℝ) : EReal) := by
  simp [Ideal.ofBits, Ideal.ieee, -EReal.coe_mul]; norm_num

/-- A number to its 8-bit code's range under the factor `u`, and back under the factor `t`. -/
def there (u t g : EReal) : EReal := min ((448 : ℝ) : EReal) (max ((-448 : ℝ) : EReal) (g * u)) * t

/-- A number whose magnitude is within the scale comes back whole. -/
theorem there_back (g a : EReal) (t : ℝ) (ht : 0 < t) (hg : g ≤ a) (hg' : -g ≤ a) (ha : a * unit ≤ (t : EReal)) :
    there ((t⁻¹ : ℝ) : EReal) (t : EReal) g = g := by
  have hu := unitR_pos
  rw [unit_eq] at ha
  change a * ((unitR : ℝ) : EReal) ≤ _ at ha
  have hatop : a ≠ ⊤ := by
    rintro rfl
    rw [EReal.top_mul_coe_of_pos hu] at ha
    exact absurd ha (not_le.2 (EReal.coe_lt_top t))
  have h1 : g ≠ ⊤ := fun h => hatop (top_le_iff.1 (h ▸ hg))
  have h2 : g ≠ ⊥ := fun h => by
    rw [h, EReal.neg_bot] at hg'
    exact hatop (top_le_iff.1 hg')
  lift g to ℝ using ⟨h1, h2⟩
  have hab : a ≠ ⊥ := fun h => by
    rw [h] at hg
    exact absurd (le_bot_iff.1 hg) (EReal.coe_ne_bot _)
  lift a to ℝ using ⟨hatop, hab⟩
  have hA : a * unitR ≤ t := by exact_mod_cast ha
  have hG : g ≤ a := by exact_mod_cast hg
  have hG' : -g ≤ a := by exact_mod_cast hg'
  have hge := unitR_ge
  have hb : a ≤ 448 * t := by
    by_cases h0 : a ≤ 0
    · nlinarith
    · nlinarith
  have e1 : g * t⁻¹ ≤ 448 := by rw [mul_inv_le_iff₀ ht]; linarith
  have e2 : -448 ≤ g * t⁻¹ := by
    rw [← div_eq_mul_inv, le_div_iff₀ ht]; linarith
  unfold there
  rw [← EReal.coe_mul, max_eq_right (by exact_mod_cast e2), min_eq_right (by exact_mod_cast e1), ← EReal.coe_mul]
  congr 1
  field_simp

/-- What is left of a number `g` of a column whose largest magnitude, in units, is `y`: itself below 2^126. -/
def kept (y g : EReal) : EReal :=
  if y < (((2 : ℝ) ^ (126 : ℤ) : ℝ) : EReal) then g
  else g * (if (((2 : ℝ) ^ (127 : ℤ) : ℝ) : EReal) ≤ y ∧ y < ⊤ then ⊥ else 0)

theorem kept_zero (y : EReal) : kept y 0 = 0 := by
  unfold kept
  split
  · rfl
  · rw [zero_mul]

theorem kept_low {y g : EReal} (h : y < (((2 : ℝ) ^ (126 : ℤ) : ℝ) : EReal)) : kept y g = g := if_pos h

/-! ## The kernel's side: the greatest table entry not above the column's magnitude -/

/-- The greatest of the table's words whose number is not above `x`. -/
def tableBits (x : EReal) : BitVec 32 :=
  Finset.univ.fold IntOp.maxsi 2147483648#32 fun n : Fin 256 => if x < power n then 0#32 else expWord n

theorem maxsi_cases (a b : BitVec 32) : (IntOp.maxsi a b = a ∨ IntOp.maxsi a b = b) ∧ a.toInt ≤ (IntOp.maxsi a b).toInt ∧ b.toInt ≤ (IntOp.maxsi a b).toInt := by
  simp only [IntOp.maxsi, BitVec.slt, decide_eq_true_eq]
  split_ifs <;> refine ⟨by simp, ?_, ?_⟩ <;> omega

theorem fold_maxsi {ι : Type} [DecidableEq ι] (w : ι → BitVec 32) (b : BitVec 32) (s : Finset ι) :
    (s.fold IntOp.maxsi b w = b ∨ ∃ n ∈ s, s.fold IntOp.maxsi b w = w n) ∧ ∀ n ∈ s, (w n).toInt ≤ (s.fold IntOp.maxsi b w).toInt := by
  induction s using Finset.induction_on with
  | empty => simp
  | insert i s hi ih =>
    rw [Finset.fold_insert hi]
    obtain ⟨h0, h1, h2⟩ := maxsi_cases (w i) (s.fold IntOp.maxsi b w)
    refine ⟨?_, fun n hn => ?_⟩
    · rcases h0 with h | h
      · exact Or.inr ⟨i, Finset.mem_insert_self _ _, h⟩
      · rcases ih.1 with h' | ⟨n, hn, h'⟩
        · exact Or.inl (h.trans h')
        · exact Or.inr ⟨n, Finset.mem_insert_of_mem hn, h.trans h'⟩
    · rcases Finset.mem_insert.1 hn with rfl | hn
      · exact h1
      · exact (ih.2 n hn).trans h2

theorem expWord_toInt (n : ℕ) (h : n ≤ 255) : (expWord n).toInt = n * 8388608 := by
  have e : (expWord n).toNat = n * 8388608 := by
    unfold expWord
    rw [BitVec.toNat_ofNat, Nat.mod_eq_of_lt (by omega)]
  rw [BitVec.toInt_eq_toNat_cond, e]
  split <;> omega

theorem tableBits_eq (x : EReal) (hx : 0 ≤ x) :
    ∃ N : ℕ, N ≤ 255 ∧ tableBits x = expWord N ∧ power N ≤ x ∧ ∀ n : ℕ, n ≤ 255 → N < n → x < power n := by
  have e : (fun n : Fin 256 => if x < power n then 0#32 else expWord n) = fun n : Fin 256 => expWord (if x < power n then 0 else n.val) := by
    funext n
    split <;> rfl
  obtain ⟨h1, h2⟩ := fold_maxsi (fun n : Fin 256 => expWord (if x < power n then 0 else n.val)) 2147483648#32 Finset.univ
  unfold tableBits
  rw [e]
  generalize Finset.univ.fold IntOp.maxsi 2147483648#32 (fun n : Fin 256 => expWord (if x < power n then 0 else n.val)) = r at h1 h2
  have le : ∀ n : Fin 256, (if x < power n then 0 else n.val) ≤ 255 := fun n => by split <;> omega
  have h0 : (0 : ℤ) ≤ r.toInt := by
    have := h2 0 (Finset.mem_univ _)
    rw [expWord_toInt _ (le 0)] at this
    omega
  rcases h1 with h | ⟨n, -, h⟩
  · rw [h] at h0
    exact absurd h0 (by decide)
  · refine ⟨_, le n, h, ?_, fun k hk hlt => ?_⟩
    · split
      · rw [power_zero]; exact hx
      · rename_i hn; exact not_lt.1 hn
    · by_contra hc
      have := h2 ⟨k, by omega⟩ (Finset.mem_univ _)
      have ek : (if x < power (⟨k, by omega⟩ : Fin 256).val then 0 else (⟨k, by omega⟩ : Fin 256).val) = k := if_neg hc
      rw [ek, h, expWord_toInt k hk, expWord_toInt _ (le n)] at this
      omega

/-- The exponent bits a scale is made from. -/
def chosenBits (x : EReal) : BitVec 32 := if tableBits x = 0#32 then 1056964608#32 else tableBits x

theorem expWord_eq_zero (n : ℕ) (h : n ≤ 255) : expWord n = 0#32 ↔ n = 0 := by
  constructor
  · intro e
    have := expWord_toInt n h
    rw [e] at this
    simp at this
    omega
  · rintro rfl; rfl

theorem expWord_succ (n : ℕ) (h : n ≤ 255) : expWord n + 8388608#32 = expWord (n + 1) := by
  have a : (8388608#32 : BitVec 32).toNat = 8388608 := by decide
  have b : (expWord n).toNat = n * 8388608 := by
    unfold expWord
    rw [BitVec.toNat_ofNat, Nat.mod_eq_of_lt (by omega)]
  have c : (expWord (n + 1)).toNat = (n + 1) * 8388608 := by
    unfold expWord
    rw [BitVec.toNat_ofNat, Nat.mod_eq_of_lt (by omega)]
  apply BitVec.eq_of_toNat_eq
  rw [BitVec.toNat_add, a, b, c]
  omega

theorem expWord_sub (n : ℕ) (h : n ≤ 253) : 2122317824#32 - expWord n = expWord (253 - n) := by
  have a : (2122317824#32 : BitVec 32).toNat = 2122317824 := by decide
  have b : (expWord n).toNat = n * 8388608 := by
    unfold expWord
    rw [BitVec.toNat_ofNat, Nat.mod_eq_of_lt (by omega)]
  have c : (expWord (253 - n)).toNat = (253 - n) * 8388608 := by
    unfold expWord
    rw [BitVec.toNat_ofNat, Nat.mod_eq_of_lt (by omega)]
  apply BitVec.eq_of_toNat_eq
  rw [BitVec.toNat_sub, a, b, c]
  omega

theorem there_zero (t g : EReal) : there 0 t g = 0 := by
  have e : min ((448 : ℝ) : EReal) (max ((-448 : ℝ) : EReal) 0) = 0 := by
    rw [max_eq_right (by exact_mod_cast (by norm_num : (-448 : ℝ) ≤ 0)), min_eq_right (by exact_mod_cast (by norm_num : (0 : ℝ) ≤ 448))]
  unfold there
  rw [mul_zero, e, zero_mul]

theorem there_infinite (g : EReal) : there ⊥ ⊤ g = g * ⊥ := by
  unfold there
  rcases lt_trichotomy g 0 with h | rfl | h
  · rw [EReal.mul_bot_of_neg h, max_eq_right le_top, min_eq_left le_top, EReal.coe_mul_top_of_pos (by norm_num)]
  · have := there_zero ⊤ 0
    unfold there at this
    rw [zero_mul] at this ⊢
    rw [this]
  · rw [EReal.mul_bot_of_pos h, max_eq_left bot_le,
      min_eq_right (EReal.coe_le_coe_iff.2 (by norm_num)), EReal.coe_mul_top_of_neg (by norm_num)]

theorem inf_bits : Ideal.ofBits .f32 (2122317824#32 - expWord 254) = ⊥ := by
  rw [show (2122317824#32 : BitVec 32) - expWord 254 = 0xFF800000#32 by decide]
  simp [Ideal.ofBits, Ideal.ieee]

/-- What the kernel's quantiser leaves of a number. -/
theorem kernel_kept (a g : EReal) (hg : g ≤ a) (hg' : -g ≤ a) :
    there (Ideal.ofBits .f32 (2122317824#32 - chosenBits (a * unit))) (Ideal.ofBits .f32 (chosenBits (a * unit) + 8388608#32)) g
      = kept (a * unit) g := by
  have ha : 0 ≤ a := by
    rcases le_total 0 g with h | h
    · exact h.trans hg
    · exact (EReal.neg_nonneg.2 h).trans hg'
  have hu : (0 : EReal) ≤ unit := by rw [unit_eq]; exact_mod_cast unitR_pos.le
  have hy : 0 ≤ a * unit := EReal.mul_nonneg ha hu
  obtain ⟨N, hN, hb, hle, hlt⟩ := tableBits_eq (a * unit) hy
  unfold chosenBits
  rw [hb]
  by_cases h0 : N = 0
  · subst h0
    rw [if_pos ((expWord_eq_zero 0 (by omega)).2 rfl), show (1056964608#32 : BitVec 32) = expWord 126 from rfl, expWord_sub 126 (by omega), expWord_succ 126 (by omega)]
    change there (power 127) (power 127) g = _
    have hy1 := hlt 1 (by omega) (by omega)
    rw [power_normal 1 (by omega) (by omega)] at hy1
    rw [kept_low (hy1.trans (EReal.coe_lt_coe_iff.2 (zpow_lt_zpow_right₀ (by norm_num) (by norm_num))))]
    have e : power 127 = ((1 : ℝ) : EReal) := by rw [power_normal 127 (by omega) (by omega)]; norm_num
    have := there_back g a 1 one_pos hg hg' (hy1.le.trans (EReal.coe_le_coe_iff.2 (by
      rw [show (1 : ℝ) = 2 ^ (0 : ℤ) by norm_num]
      exact zpow_le_zpow_right₀ (by norm_num) (by norm_num))))
    rw [e]
    simpa using this
  rw [if_neg (fun h => h0 ((expWord_eq_zero N hN).1 h)), expWord_succ N hN]
  change there _ (power (N + 1)) g = _
  by_cases h252 : N ≤ 252
  · rw [expWord_sub N (by omega)]
    change there (power (253 - N)) (power (N + 1)) g = _
    have hy1 := hlt (N + 1) (by omega) (by omega)
    rw [power_normal (N + 1) (by omega) (by omega)] at hy1 ⊢
    rw [power_normal (253 - N) (by omega) (by omega)]
    rw [kept_low (hy1.trans_le (EReal.coe_le_coe_iff.2 (zpow_le_zpow_right₀ (by norm_num) (by push_cast; omega))))]
    have := there_back g a ((2 : ℝ) ^ (((N + 1 : ℕ) : ℤ) - 127)) (by positivity) hg hg' hy1.le
    rw [← zpow_neg] at this
    rw [show (((253 - N : ℕ) : ℤ) - 127) = -(((N + 1 : ℕ) : ℤ) - 127) by omega]
    exact this
  have hge : (((2 : ℝ) ^ (126 : ℤ) : ℝ) : EReal) ≤ a * unit := by
    refine le_trans ?_ (le_trans (power_mono (show 253 ≤ N by omega) hN) hle)
    rw [power_normal 253 (by omega) (by omega)]
    norm_num
  unfold kept
  rw [if_neg (not_lt.2 hge)]
  rcases (by omega : N = 253 ∨ N = 254 ∨ N = 255) with rfl | rfl | rfl
  · rw [expWord_sub 253 (by omega)]
    change there (power 0) _ g = _
    have hy1 := hlt 254 (by omega) (by omega)
    rw [power_normal 254 (by omega) (by omega)] at hy1
    rw [show (((254 : ℕ) : ℤ) - 127) = 127 by norm_num] at hy1
    rw [power_zero, there_zero, if_neg, mul_zero]
    rintro ⟨h, -⟩
    exact absurd hy1 (not_lt.2 h)
  · rw [inf_bits, power_top, there_infinite, if_pos]
    refine ⟨le_trans (by rw [power_normal 254 (by omega) (by omega)]; norm_num) hle, ?_⟩
    have := hlt 255 (by omega) (by omega)
    rwa [power_top] at this
  · rw [power_top, top_le_iff] at hle
    rw [power_wrapped, hle, if_neg (fun h => lt_irrefl _ h.2), mul_zero]
    unfold there
    rw [mul_zero]

/-! ## The reference's side: the exponent by a logarithm -/

/-- The exponent of a column's scale. -/
def exponent (a : EReal) : EReal :=
  if a = 0 then 0 else Ideal.liftRound Int.floor (Ideal.div (Ideal.log (a * unit)) ((Real.log 2 : ℝ) : EReal)) + 1

theorem reference_kept (a g : EReal) (hg : g ≤ a) (hg' : -g ≤ a) (hy : a * unit < (((2 : ℝ) ^ (126 : ℤ) : ℝ) : EReal)) :
    there (Ideal.exp2 (0 - exponent a)) (Ideal.exp2 (exponent a)) g = g := by
  have ha : 0 ≤ a := by
    rcases le_total 0 g with h | h
    · exact h.trans hg
    · exact (EReal.neg_nonneg.2 h).trans hg'
  have key : ∃ n : ℝ, exponent a = (n : EReal) ∧ a * unit ≤ (((2 : ℝ) ^ n : ℝ) : EReal) := by
    unfold exponent
    by_cases h0 : a = 0
    · refine ⟨0, by rw [if_pos h0]; rfl, ?_⟩
      rw [h0, zero_mul]
      exact_mod_cast (by positivity : (0 : ℝ) ≤ (2 : ℝ) ^ (0 : ℝ))
    rw [if_neg h0]
    have hap : 0 < a := lt_of_le_of_ne ha (Ne.symm h0)
    have hat : a ≠ ⊤ := by
      rintro rfl
      rw [unit_eq] at hy
      change ⊤ * ((unitR : ℝ) : EReal) < _ at hy
      rw [EReal.top_mul_coe_of_pos unitR_pos] at hy
      exact absurd hy (not_lt.2 le_top)
    lift a to ℝ using ⟨hat, fun h => by rw [h] at hap; exact absurd hap (not_lt.2 bot_le)⟩
    have hr : 0 < a := by exact_mod_cast hap
    have eu : unit = ((unitR : ℝ) : EReal) := unit_eq
    rw [eu, ← EReal.coe_mul]
    have hp : 0 < a * unitR := mul_pos hr unitR_pos
    have hl2 : (0 : ℝ) < Real.log 2 := Real.log_pos (by norm_num)
    have e1 : Ideal.log ((a * unitR : ℝ) : EReal) = ((Real.log (a * unitR) : ℝ) : EReal) := by
      show (if a * unitR ≤ 0 then (⊥ : EReal) else _) = _
      rw [if_neg (not_le.2 hp)]
    have e2 : Ideal.div ((Real.log (a * unitR) : ℝ) : EReal) ((Real.log 2 : ℝ) : EReal) = ((Real.log (a * unitR) * (Real.log 2)⁻¹ : ℝ) : EReal) := by
      unfold Ideal.div
      rw [if_neg (by exact_mod_cast hl2.ne'), ← EReal.coe_inv, ← EReal.coe_mul]
    rw [e1, e2]
    refine ⟨(⌊Real.log (a * unitR) * (Real.log 2)⁻¹⌋ : ℝ) + 1, ?_, ?_⟩
    · show (((⌊Real.log (a * unitR) * (Real.log 2)⁻¹⌋ : ℤ) : ℝ) : EReal) + 1 = _
      rw [EReal.coe_add]
      rfl
    · refine EReal.coe_le_coe_iff.2 ?_
      have hf := (Int.lt_floor_add_one (Real.log (a * unitR) * (Real.log 2)⁻¹)).le
      rw [mul_inv_le_iff₀ hl2] at hf
      rw [Real.rpow_def_of_pos (by norm_num), mul_comm (Real.log 2)]
      exact (Real.exp_log hp).symm.le.trans (Real.exp_le_exp.2 hf)
  obtain ⟨n, en, hn⟩ := key
  rw [en, show (0 : EReal) - ((n : ℝ) : EReal) = ((-n : ℝ) : EReal) by rw [zero_sub]; rfl]
  show there (((2 : ℝ) ^ (-n) : ℝ) : EReal) (((2 : ℝ) ^ n : ℝ) : EReal) g = g
  rw [Real.rpow_neg (by norm_num)]
  exact there_back g a _ (by positivity) hg hg' hn

end Cert.MX
-- ==== Proof.Value.Spec.lean ====
/- What one pair's step computes, in plain sums over the whole sequence. -/
module

public import proofs.«01_k».proof.Proof.Value.Scalar

@[expose] public section

noncomputable section

namespace Cert.MX

open Idealize.ShloMosaic

/-- The largest magnitude of 32 numbers. -/
def absMax (f : Fin 32 → EReal) : EReal := Finset.univ.fold max ⊥ fun k => max (f k) (-(f k))

theorem le_absMax (f : Fin 32 → EReal) (r : Fin 32) : f r ≤ absMax f ∧ -(f r) ≤ absMax f := by
  unfold absMax
  exact ⟨(Finset.le_fold_max _).2 (.inr ⟨r, Finset.mem_univ _, le_max_left _ _⟩),
    (Finset.le_fold_max _).2 (.inr ⟨r, Finset.mem_univ _, le_max_right _ _⟩)⟩

/-- Row `r` of the block of 512 rows `b`. -/
def row (b : Fin 12) (r : Fin 512) : Fin 6144 := ⟨512 * b.val + r.val, by omega⟩

/-- Row `r` of the group of 32 rows that row `i` is in. -/
def mate (i : Fin 6144) (r : Fin 32) : Fin 6144 := ⟨32 * (i.val / 32) + r.val, by omega⟩

/-- One pair's operands: the scaled queries, the keys, the upstream gradients and the values as they enter the scores,
    the upstream gradients and the queries quantised along the sequence, the keys, the row statistics and corrections. -/
structure Pair where
  q : Fin 6144 → Fin 256 → EReal
  ka : Fin 6144 → Fin 256 → EReal
  d : Fin 6144 → Fin 256 → EReal
  va : Fin 6144 → Fin 256 → EReal
  dt : Fin 6144 → Fin 256 → EReal
  qt : Fin 6144 → Fin 256 → EReal
  k : Fin 6144 → Fin 256 → EReal
  lse : Fin 6144 → EReal
  dlt : Fin 6144 → EReal

/-- The causal probability of row `i` and column `j`. -/
def Pair.prob (P : Pair) (i j : Fin 6144) : EReal :=
  Ideal.exp (if j ≤ i then (∑ x : Fin 256, P.q i x * P.ka j x) - P.lse i else ⊥)

/-- The score gradient of row `i` and column `j`. -/
def Pair.grad (P : Pair) (i j : Fin 6144) : EReal := P.prob i j * ((∑ x : Fin 256, P.d i x * P.va j x) - P.dlt i)

/-- A matrix quantised along its rows, in groups of 32, and scaled back. -/
def mx (f : Fin 6144 → Fin 6144 → EReal) (i j : Fin 6144) : EReal := kept (absMax (fun r => f (mate i r) j) * unit) (f i j)

/-- The value gradient. -/
def Pair.dv (P : Pair) (j : Fin 6144) (x : Fin 256) : EReal := ∑ i : Fin 6144, P.dt i x * mx P.prob i j

/-- The key gradient, not yet scaled. -/
def Pair.dk (P : Pair) (j : Fin 6144) (x : Fin 256) : EReal := ∑ i : Fin 6144, P.qt i x * mx P.grad i j

/-- The query gradient, not yet scaled. -/
def Pair.dq (P : Pair) (i : Fin 6144) (x : Fin 256) : EReal := ∑ j : Fin 6144, P.grad i j * P.k j x

/-- Above the diagonal the probabilities are zero, -/
theorem Pair.prob_masked (P : Pair) {i j : Fin 6144} (h : i < j) : P.prob i j = 0 := by
  unfold Pair.prob
  rw [if_neg (not_le.2 h)]
  rfl

/-- and the score gradients are, -/
theorem Pair.grad_masked (P : Pair) {i j : Fin 6144} (h : i < j) : P.grad i j = 0 := by
  unfold Pair.grad
  rw [P.prob_masked h, zero_mul]

/-- and what is quantised of a zero is zero. -/
theorem mx_zero {f : Fin 6144 → Fin 6144 → EReal} {i j : Fin 6144} (h : f i j = 0) : mx f i j = 0 := by
  unfold mx
  rw [h, kept_zero]

/-- A sum over the sequence, block by block. -/
theorem sum_blocks {M : Type*} [AddCommMonoid M] (f : Fin 6144 → M) : ∑ i, f i = ∑ b : Fin 12, ∑ r : Fin 512, f (row b r) := by
  rw [← Fintype.sum_prod_type']
  refine (Fintype.sum_equiv (finProdFinEquiv (m := 12) (n := 512)) _ _ fun p => ?_).symm
  refine congrArg f (Fin.ext ?_)
  show 512 * p.1.val + p.2.val = p.2.val + 512 * p.1.val
  omega

/-- A sum over the blocks from `b` on is the sum over all blocks if the earlier ones add nothing. -/
theorem sum_from {M : Type*} [AddCommMonoid M] (f : Fin 12 → M) (b : Fin 12) (h : ∀ i, i < b → f i = 0) (g : ℕ → M) (n : ℕ) (hn : b.val + n = 11)
    (h0 : g 0 = f b) (hs : ∀ (t : ℕ) (ht : b.val + t + 1 < 12), g (t + 1) = g t + f ⟨b.val + t + 1, ht⟩) : g n = ∑ i, f i := by
  have key : ∀ t (ht : b.val + t < 12), g t = ∑ i ∈ Finset.univ.filter (fun i : Fin 12 => i.val ≤ b.val + t), f i := by
    intro t
    induction t with
    | zero =>
      intro ht
      rw [h0, Finset.sum_eq_single b]
      · intro i hi hne
        have := (Finset.mem_filter.1 hi).2
        exact h i (lt_of_le_of_ne this hne)
      · intro hb
        exact absurd (Finset.mem_filter.2 ⟨Finset.mem_univ b, Nat.le_refl b.val⟩) hb
    | succ t ih =>
      intro ht
      rw [hs t ht, ih (by omega)]
      have e : Finset.univ.filter (fun i : Fin 12 => i.val ≤ b.val + (t + 1))
          = insert (⟨b.val + t + 1, ht⟩ : Fin 12) (Finset.univ.filter (fun i : Fin 12 => i.val ≤ b.val + t)) := by
        ext i
        simp only [Finset.mem_filter, Finset.mem_univ, true_and, Finset.mem_insert, Fin.ext_iff]
        omega
      rw [e, Finset.sum_insert (by simp), add_comm]
  rw [key n (by omega)]
  refine Finset.sum_congr (Finset.filter_true_of_mem fun i _ => by omega) fun _ _ => rfl

end Cert.MX
-- ==== Proof.Value.Quant.lean ====
/- The kernel's quantiser of one tile, read at a row and a column. -/
module

public import proofs.«01_k».proof.Proof.KernelIdeal.Model
public import proofs.«01_k».proof.Proof.Value.Spec
public import Idealize.ShloMosaic.Lib.Pointwise

@[expose] public section

set_option maxRecDepth 16384

noncomputable section

namespace Cert.MX

theorem minus_inf : Idealize.ShloMosaic.Ideal.ofBits .f32 0xFF800000#32 = ⊥ := by
  simp [Idealize.ShloMosaic.Ideal.ofBits, Idealize.ShloMosaic.Ideal.ieee]

end Cert.MX

namespace Cert.KernelIdeal.Rolled

open Idealize.ShloMosaic Idealize.SL.Sem
open Cert.KernelIdeal.Gen Cert.MX

theorem columnMax_apply (y : FVec Ideal S32x128 .f32) (u : Fin 1) (c : Fin 128) :
    columnMax y (ix2 u c) = absMax (fun r => y (ix2 r c)) * unit := by
  unfold absMax
  rw [← minus_inf]
  pointwise [columnMax, unit]
  rfl

/-- The greatest entry of a table of 256 rows, column by column. -/
theorem tableMax_apply (kept : IVec S256x128 32) (h : (2147483648#32 : BitVec 32) = IKind.maxsi.neutral) (c : Fin 128) :
    multiReductionI .maxsi [0] S128 kept 2147483648#32 reduces_S256x128_S128 h (ix1 c)
      = Finset.univ.fold IntOp.maxsi 2147483648#32 fun n : Fin 256 => kept (ix2 n c) :=
  (multiReductionI_eq_fold .maxsi kept 2147483648#32 reduces_S256x128_S128 h (ix1 c)).trans
    (Shape.Reduces.fold_fiber_r2_a0 reduces_S256x128_S128 (ix1 c) IntOp.maxsi 2147483648#32 kept)

theorem row_apply {α : Type} (x : S128.Idx → α) (u : Fin 1) (c : Fin 128) :
    shapeCast S1x128 x shapeCasts_S128_S1x128 (ix2 u c) = x (ix1 c) := by
  pointwise

theorem muli_word (n : ℕ) : IntOp.muli (BitVec.ofNat 32 n) 8388608#32 = expWord n := by
  simp only [IntOp.muli, expWord, BitVec.ofNat_mul]

/-- One entry of a table of multiples of `k`, or `z` if its number is above `x`. -/
theorem entry_word (x : FVec Ideal S1x128 .f32) (k z : BitVec 32) (n : Fin 256) (c : Fin 128) :
    (select (cmpf .olt (broadcastTo S256x128 x broadcasts_S1x128_S256x128)
        (bitcastToFloat .f32 (muli (iota .tc S256x128 32 [0] iota_S256x128_d0_w32) (broadcast S256x128 k)) : FVec Ideal S256x128 .f32))
      (broadcast S256x128 z) (muli (iota .tc S256x128 32 [0] iota_S256x128_d0_w32) (broadcast S256x128 k)) : IVec S256x128 32) (ix2 n c)
      = if x (ix2 (0 : Fin 1) c) < Ideal.ofBits .f32 (IntOp.muli (BitVec.ofNat 32 n) k) then z else IntOp.muli (BitVec.ofNat 32 n) k := by
  pointwise

theorem entry_apply (x : FVec Ideal S1x128 .f32) (n : Fin 256) (c : Fin 128) :
    (select (cmpf .olt (broadcastTo S256x128 x broadcasts_S1x128_S256x128)
        (bitcastToFloat .f32 (muli (iota .tc S256x128 32 [0] iota_S256x128_d0_w32) (broadcast S256x128 8388608#32)) : FVec Ideal S256x128 .f32))
      (broadcast S256x128 0#32) (muli (iota .tc S256x128 32 [0] iota_S256x128_d0_w32) (broadcast S256x128 8388608#32)) : IVec S256x128 32) (ix2 n c)
      = if x (ix2 (0 : Fin 1) c) < power n then 0#32 else expWord n := by
  rw [entry_word, muli_word, power]

theorem exponentBits_apply (x : FVec Ideal S1x128 .f32) (u : Fin 1) (c : Fin 128) :
    exponentBits x (ix2 u c) = tableBits (x (ix2 u c)) := by
  obtain rfl : u = 0 := Subsingleton.elim _ _
  unfold exponentBits tableBits
  refine (row_apply _ _ _).trans ((tableMax_apply _ _ _).trans ?_)
  exact congrArg (fun f => Finset.univ.fold IntOp.maxsi 2147483648#32 f) (funext fun n => entry_apply x n c)

theorem scaleBits_apply (y : FVec Ideal S32x128 .f32) (u : Fin 1) (c : Fin 128) :
    scaleBits y (ix2 u c) = chosenBits (columnMax y (ix2 u c)) := by
  unfold scaleBits chosenBits
  rw [← exponentBits_apply]
  generalize exponentBits (columnMax y) = b
  pointwise
  by_cases h : b (ix2 u c) = 0#32
  · rw [if_pos h, h]; rfl
  · rw [if_neg h]
    have e : IntOp.cmpi .eq (b (ix2 u c)) 0#32 = 0#1 := by
      have h' : (b (ix2 u c) == 0#32) = false := beq_false_of_ne h
      show BitVec.ofBool (b (ix2 u c) == 0#32) = 0#1
      rw [h']
      rfl
    rw [e]
    rfl

theorem quant_apply (y : FVec Ideal S32x128 .f32) (r : Fin 32) (c : Fin 128) :
    quant y (ix2 r c) = kept (absMax (fun r => y (ix2 r c)) * unit) (y (ix2 r c)) := by
  obtain ⟨h1, h2⟩ := le_absMax (fun r => y (ix2 r c)) r
  rw [← kernel_kept _ _ h1 h2, ← columnMax_apply y 0 c, ← scaleBits_apply]
  unfold quant there
  generalize scaleBits y = b
  rw [← top_bits, ← bottom_bits]
  pointwise
  rfl

end Cert.KernelIdeal.Rolled
-- ==== Proof.Value.Tiles.lean ====
/- What the tiles of a step keep, at a row and a column of the block. -/
module

public import proofs.«01_k».proof.Proof.KernelIdeal.Glue
public import proofs.«01_k».proof.Proof.Value.Quant

@[expose] public section

set_option maxRecDepth 16384

noncomputable section

namespace Cert.KernelIdeal.Rolled

open Idealize.ShloMosaic Idealize.SL.Sem
open Cert.KernelIdeal.Gen Cert.MX
open Idealize.ShloMosaic.VecWindow (window put)

theorem window2_apply {α : Type} {m n a b : ℕ} (x : (⟨2, ![m, n]⟩ : Shape).Idx → α) {off : Fin 2 → ℕ} {o0 o1 : ℕ} (ho : off = ![o0, o1])
    (inb : ∀ i : Fin 2, off i + (![a, b] : Fin 2 → ℕ) i ≤ (![m, n] : Fin 2 → ℕ) i) (r : Fin a) (k : Fin b) (r' : Fin m) (k' : Fin n)
    (h0 : r'.val = o0 + r.val) (h1 : k'.val = o1 + k.val) :
    window (s := ⟨2, ![m, n]⟩) x off (![a, b] : Fin 2 → ℕ) inb (ix2 r k) = x (ix2 r' k') := by
  subst ho
  refine congrArg x (funext fun i => Fin.ext ?_)
  match i with
  | ⟨0, _⟩ => show o0 + 1 * r.val = r'.val; omega
  | ⟨1, _⟩ => show o1 + 1 * k.val = k'.val; omega

theorem window3_apply {α : Type} {l m n a b e : ℕ} (x : (⟨3, ![l, m, n]⟩ : Shape).Idx → α) {off : Fin 3 → ℕ} {o0 o1 o2 : ℕ} (ho : off = ![o0, o1, o2])
    (inb : ∀ i : Fin 3, off i + (![a, b, e] : Fin 3 → ℕ) i ≤ (![l, m, n] : Fin 3 → ℕ) i) (u : Fin a) (r : Fin b) (k : Fin e)
    (u' : Fin l) (r' : Fin m) (k' : Fin n) (hu : u'.val = o0 + u.val) (h0 : r'.val = o1 + r.val) (h1 : k'.val = o2 + k.val) :
    window (s := ⟨3, ![l, m, n]⟩) x off (![a, b, e] : Fin 3 → ℕ) inb (ix3 u r k) = x (ix3 u' r' k') := by
  subst ho
  refine congrArg x (funext fun i => Fin.ext ?_)
  match i with
  | ⟨0, _⟩ => show o0 + 1 * u.val = u'.val; omega
  | ⟨1, _⟩ => show o1 + 1 * r.val = r'.val; omega
  | ⟨2, _⟩ => show o2 + 1 * k.val = k'.val; omega

/-- The row of the block that row `r` of strip `g` is. -/
def tileRow (g : Fin 16) (r : Fin 32) : Fin 512 := ⟨32 * g.val + r.val, by omega⟩

/-- The column of the block that column `k` of chunk `c` is. -/
def tileCol (c : Fin 4) (k : Fin 128) : Fin 512 := ⟨128 * c.val + k.val, by omega⟩

/-- A tile's place: a function of tiles read as a function of the block. -/
theorem glue_apply {α : Type} (w : Fin 16 → Fin 4 → S32x128.Idx → α) (g : Fin 16) (r : Fin 32) (c : Fin 4) (k : Fin 128) :
    glue w (ix2 (tileRow g r) (tileCol c k)) = w g c (ix2 r k) := by
  have hg : (⟨(tileRow g r).val / 32, by have := (tileRow g r).isLt; omega⟩ : Fin 16) = g := Fin.ext (by show (32 * g.val + r.val) / 32 = g.val; omega)
  have hr : (⟨(tileRow g r).val % 32, Nat.mod_lt _ (by decide)⟩ : Fin 32) = r := Fin.ext (by show (32 * g.val + r.val) % 32 = r.val; omega)
  have hc : (⟨(tileCol c k).val / 128, by have := (tileCol c k).isLt; omega⟩ : Fin 4) = c := Fin.ext (by show (128 * c.val + k.val) / 128 = c.val; omega)
  have hk : (⟨(tileCol c k).val % 128, Nat.mod_lt _ (by decide)⟩ : Fin 128) = k := Fin.ext (by show (128 * c.val + k.val) % 128 = k.val; omega)
  show w ⟨(tileRow g r).val / 32, _⟩ ⟨(tileCol c k).val / 128, _⟩ (ValueIdx.ix2 (⟨(tileRow g r).val % 32, _⟩ : Fin 32) (⟨(tileCol c k).val % 128, _⟩ : Fin 128)) = _
  rw [hg, hr, hc, hk, ix2_eq_valueIdx]

theorem exists_tileRow (r : Fin 512) : ∃ g r', r = tileRow g r' :=
  ⟨⟨r.val / 32, by omega⟩, ⟨r.val % 32, Nat.mod_lt _ (by decide)⟩, Fin.ext (by show r.val = 32 * (r.val / 32) + r.val % 32; omega)⟩

theorem exists_tileCol (c : Fin 512) : ∃ g k, c = tileCol g k :=
  ⟨⟨c.val / 128, by omega⟩, ⟨c.val % 128, Nat.mod_lt _ (by decide)⟩, Fin.ext (by show c.val = 128 * (c.val / 128) + c.val % 128; omega)⟩

/-- The mask of a step in block row `bi` and block column `bj`. -/
def Masks (mask : Fin 16 → Fin 4 → FVec Ideal S32x128 .f32 → FVec Ideal S32x128 .f32) (bi bj : Fin 12) : Prop :=
  ∀ g c x r k, mask g c x (ix2 r k) = if row bj (tileCol c k) ≤ row bi (tileRow g r) then x (ix2 r k) else ⊥

theorem masks_unmasked (bi bj : Fin 12) (h : bj < bi) : Masks unmasked bi bj := by
  intro g c x r k
  rw [if_pos]
  · rfl
  · show 512 * bj.val + (tileCol c k).val ≤ 512 * bi.val + (tileRow g r).val
    have := (tileCol c k).isLt
    have : bj.val < bi.val := h
    omega

theorem word_toInt (n : ℕ) (h : n < 65536) : (BitVec.ofNat 32 n).toInt = n := by
  have e : (BitVec.ofNat 32 n).toNat = n := by
    rw [BitVec.toNat_ofNat, Nat.mod_eq_of_lt (by omega)]
  rw [BitVec.toInt_eq_toNat_of_lt (by rw [e]; omega), e]

theorem select_le {α : Type} (m n m' n' : ℕ) (hm : m + n < 65536) (hm' : m' + n' < 65536) (x y : α) :
    Scalar.select (IntOp.cmpi .sle (IntOp.addi (BitVec.ofNat 32 m) (BitVec.ofNat 32 n)) (IntOp.addi (BitVec.ofNat 32 m') (BitVec.ofNat 32 n'))) x y
      = if m + n ≤ m' + n' then x else y := by
  have e : IntOp.cmpi .sle (IntOp.addi (BitVec.ofNat 32 m) (BitVec.ofNat 32 n)) (IntOp.addi (BitVec.ofNat 32 m') (BitVec.ofNat 32 n'))
      = BitVec.ofBool (decide (m + n ≤ m' + n')) := by
    simp only [IntOp.cmpi, IntOp.addi, ← BitVec.ofNat_add, BitVec.sle, word_toInt _ hm, word_toInt _ hm', Nat.cast_le]
  rw [e]
  by_cases h : m + n ≤ m' + n'
  · rw [if_pos h, decide_eq_true h]; rfl
  · rw [if_neg h, decide_eq_false h]; rfl

theorem masks_causal (b : Fin 12) : Masks causal b b := by
  intro g c x r k
  unfold causal
  generalize ha : BitVec.ofNat 32 (128 * c.val) = a
  generalize hb : BitVec.ofNat 32 (32 * g.val) = b'
  pointwise
  rw [minus_inf, ← ha, ← hb, select_le _ _ _ _ (by omega) (by omega)]
  refine if_congr ?_ rfl rfl
  show k.val + 128 * c.val ≤ r.val + 32 * g.val ↔ 512 * b.val + (128 * c.val + k.val) ≤ 512 * b.val + (32 * g.val + r.val)
  omega

/-- Where a step of block row `bi` reads. -/
structure At.Block (at_ : At) (bi : Fin 12) : Prop where
  rows : at_.rows = ![0, 512 * bi.val, 0]
  stat : ∀ g, at_.stat g = ![512 * bi.val + 32 * g.val, 0]
  delta : ∀ g, at_.delta g = ![0, 512 * bi.val + 32 * g.val, 0]
  cols : at_.cols = ![0, 0, 512 * bi.val]
  acc : at_.acc = ![512 * bi.val, 0]

/-- The blocks of block column `bj` of a pair. -/
structure Ins.Of (I : Ins Ideal) (P : Pair) (bj : Fin 12) : Prop where
  q : ∀ i x, I.q (ix3 0 i x) = P.q i x
  d : ∀ i x, I.d (ix3 0 i x) = P.d i x
  dt : ∀ i x, I.dt (ix3 0 x i) = P.dt i x
  qt : ∀ i x, I.qt (ix3 0 x i) = P.qt i x
  dlt : ∀ i l, I.dlt (ix3 0 i l) = P.dlt i
  ka : ∀ c x, I.ka (ix3 0 c x) = P.ka (row bj c) x
  va : ∀ c x, I.va (ix3 0 c x) = P.va (row bj c) x
  k : ∀ c x, I.k (ix3 0 c x) = P.k (row bj c) x

theorem pay1_apply (q k : Vec Ideal S1x512x256 .bf16) (r c : Fin 512) :
    k0_pay1 q k (ix2 r c) = ∑ x : Fin 256, q (ix3 0 r x) * k (ix3 0 c x) := by
  pointwise [k0_pay1]

section
variable {I : Ins Ideal} {P : Pair} {bi bj : Fin 12} {at_ : At} {lse : Vec Ideal S6144x128 .f32}
  {mask : Fin 16 → Fin 4 → FVec Ideal S32x128 .f32 → FVec Ideal S32x128 .f32}
  (hA : at_.Block bi) (hI : I.Of P bj) (hL : ∀ i l, lse (ix2 i l) = P.lse i) (hM : Masks mask bi bj)

include hA hI in
theorem scores_apply (r c : Fin 512) : k0_pay1 (at_.rowsOf I.q) I.ka (ix2 r c) = ∑ x : Fin 256, P.q (row bi r) x * P.ka (row bj c) x := by
  rw [pay1_apply]
  refine Finset.sum_congr rfl fun x _ => ?_
  rw [hI.ka, ← hI.q]
  refine congrArg (· * _) ?_
  exact window3_apply I.q hA.rows _ _ _ _ _ _ _ (by rfl) (by rfl) (by simp)

include hA hI in
theorem upstream_apply (r c : Fin 512) : k0_pay1 (at_.rowsOf I.d) I.va (ix2 r c) = ∑ x : Fin 256, P.d (row bi r) x * P.va (row bj c) x := by
  rw [pay1_apply]
  refine Finset.sum_congr rfl fun x _ => ?_
  rw [hI.va, ← hI.d]
  refine congrArg (· * _) ?_
  exact window3_apply I.d hA.rows _ _ _ _ _ _ _ (by rfl) (by rfl) (by simp)

include hA hL in
theorem statOf_apply (g : Fin 16) (r : Fin 32) (k : Fin 128) : at_.statOf lse g (ix2 r k) = P.lse (row bi (tileRow g r)) := by
  rw [← hL _ k]
  refine window2_apply lse (hA.stat g) _ _ _ _ _ ?_ (by simp)
  show 512 * bi.val + (32 * g.val + r.val) = 512 * bi.val + 32 * g.val + r.val
  omega

theorem drop_lead {α : Type} (x : S1x32x128.Idx → α) (r : Fin 32) (k : Fin 128) :
    shapeCast S32x128 x shapeCasts_S1x32x128_S32x128 (ix2 r k) = x (ix3 0 r k) := by
  pointwise

include hA hI in
theorem deltaOf_apply (g : Fin 16) (r : Fin 32) (k : Fin 128) : at_.deltaOf I.dlt g (ix2 r k) = P.dlt (row bi (tileRow g r)) := by
  rw [← hI.dlt _ k]
  unfold At.deltaOf
  rw [drop_lead]
  refine window3_apply I.dlt (hA.delta g) _ _ _ _ _ _ _ (by rfl) ?_ (by simp)
  show 512 * bi.val + (32 * g.val + r.val) = 512 * bi.val + 32 * g.val + r.val
  omega

include hA hI hL hM in
theorem probs_apply (g : Fin 16) (c : Fin 4) (r : Fin 32) (k : Fin 128) :
    probs mask g c (k0_pay1 (at_.rowsOf I.q) I.ka) (at_.statOf lse g) (ix2 r k) = P.prob (row bi (tileRow g r)) (row bj (tileCol c k)) := by
  have e : (subf (window (k0_pay1 (at_.rowsOf I.q) I.ka) ![32 * g.val, 128 * c.val] S32x128.size (tile_inb g c)) (at_.statOf lse g) : FVec Ideal S32x128 .f32) (ix2 r k)
      = (∑ x : Fin 256, P.q (row bi (tileRow g r)) x * P.ka (row bj (tileCol c k)) x) - P.lse (row bi (tileRow g r)) := by
    show window (k0_pay1 (at_.rowsOf I.q) I.ka) _ _ (tile_inb g c) (ix2 r k) - at_.statOf lse g (ix2 r k) = _
    rw [window2_apply (k0_pay1 (at_.rowsOf I.q) I.ka) rfl (tile_inb g c) r k (tileRow g r) (tileCol c k) rfl rfl, scores_apply hA hI,
      statOf_apply hA hL]
  show Ideal.exp (mask g c _ (ix2 r k)) = _
  rw [hM, e]
  rfl

include hA hI hL hM in
theorem grads_apply (g : Fin 16) (c : Fin 4) (r : Fin 32) (k : Fin 128) :
    grads mask g c (k0_pay1 (at_.rowsOf I.q) I.ka) (k0_pay1 (at_.rowsOf I.d) I.va) (at_.statOf lse g) (at_.deltaOf I.dlt g) (ix2 r k)
      = P.grad (row bi (tileRow g r)) (row bj (tileCol c k)) := by
  show probs mask g c _ _ (ix2 r k) * (window (k0_pay1 (at_.rowsOf I.d) I.va) _ _ (tile_inb g c) (ix2 r k) - at_.deltaOf I.dlt g (ix2 r k)) = _
  rw [probs_apply hA hI hL hM, deltaOf_apply hA hI,
    window2_apply (k0_pay1 (at_.rowsOf I.d) I.va) rfl (tile_inb g c) r k (tileRow g r) (tileCol c k) rfl rfl, upstream_apply hA hI]
  rfl

/-- The rows of a strip are one group. -/
theorem mate_row (bi : Fin 12) (g : Fin 16) (r r' : Fin 32) : mate (row bi (tileRow g r)) r' = row bi (tileRow g r') := by
  refine Fin.ext ?_
  show 32 * ((512 * bi.val + (32 * g.val + r.val)) / 32) + r'.val = 512 * bi.val + (32 * g.val + r'.val)
  omega

theorem cast_same {α : Type} (x : S32x128.Idx → α) (r : Fin 32) (k : Fin 128) :
    shapeCast S32x128 x shapeCasts_S32x128_S32x128 (ix2 r k) = x (ix2 r k) := by
  pointwise

include hA hI hL hM in
theorem tileP_apply (r c : Fin 512) :
    glue (tileP at_ mask lse (k0_pay1 (at_.rowsOf I.q) I.ka)) (ix2 r c) = mx P.prob (row bi r) (row bj c) := by
  obtain ⟨g, r, rfl⟩ := exists_tileRow r
  obtain ⟨c, k, rfl⟩ := exists_tileCol c
  rw [glue_apply]
  unfold tileP mx
  rw [cast_same, quant_apply]
  simp only [probs_apply hA hI hL hM, mate_row]

include hA hI hL hM in
theorem tileD_apply (r c : Fin 512) :
    glue (tileD at_ mask lse I.dlt (k0_pay1 (at_.rowsOf I.q) I.ka) (k0_pay1 (at_.rowsOf I.d) I.va)) (ix2 r c) = mx P.grad (row bi r) (row bj c) := by
  obtain ⟨g, r, rfl⟩ := exists_tileRow r
  obtain ⟨c, k, rfl⟩ := exists_tileCol c
  rw [glue_apply]
  unfold tileD mx
  rw [cast_same, quant_apply]
  simp only [grads_apply hA hI hL hM, mate_row]

include hA hI hL hM in
theorem tileB_apply (r c : Fin 512) :
    glue (tileB at_ mask lse I.dlt (k0_pay1 (at_.rowsOf I.q) I.ka) (k0_pay1 (at_.rowsOf I.d) I.va)) (ix2 r c) = P.grad (row bi r) (row bj c) := by
  obtain ⟨g, r, rfl⟩ := exists_tileRow r
  obtain ⟨c, k, rfl⟩ := exists_tileCol c
  rw [glue_apply]
  unfold tileB
  rw [cast_same]
  exact grads_apply hA hI hL hM g c r k

end

end Cert.KernelIdeal.Rolled
-- ==== Proof.Value.Steps.lean ====
/- What the steps of one grid point leave in the accumulators. -/
module

public import proofs.«01_k».proof.Proof.Value.Tiles

@[expose] public section

set_option maxRecDepth 16384

noncomputable section

namespace Cert.MX

/-- What block row `bi` adds to the value gradient, -/
def Pair.dvPart (P : Pair) (bi : Fin 12) (j : Fin 6144) (x : Fin 256) : EReal := ∑ r : Fin 512, P.dt (row bi r) x * mx P.prob (row bi r) j

/-- to the key gradient, -/
def Pair.dkPart (P : Pair) (bi : Fin 12) (j : Fin 6144) (x : Fin 256) : EReal := ∑ r : Fin 512, P.qt (row bi r) x * mx P.grad (row bi r) j

/-- and what block column `bj` adds to the query gradient. -/
def Pair.dqPart (P : Pair) (bj : Fin 12) (i : Fin 6144) (x : Fin 256) : EReal := ∑ c : Fin 512, P.grad i (row bj c) * P.k (row bj c) x

theorem Pair.dv_eq (P : Pair) (j : Fin 6144) (x : Fin 256) : P.dv j x = ∑ b, P.dvPart b j x := sum_blocks _
theorem Pair.dk_eq (P : Pair) (j : Fin 6144) (x : Fin 256) : P.dk j x = ∑ b, P.dkPart b j x := sum_blocks _
theorem Pair.dq_eq (P : Pair) (i : Fin 6144) (x : Fin 256) : P.dq i x = ∑ b, P.dqPart b i x := sum_blocks _

theorem row_lt {b b' : Fin 12} (h : b < b') (r r' : Fin 512) : row b r < row b' r' := by
  show 512 * b.val + r.val < 512 * b'.val + r'.val
  have : b.val < b'.val := h
  omega

theorem Pair.dvPart_masked (P : Pair) {bi bj : Fin 12} (h : bi < bj) (c : Fin 512) (x : Fin 256) : P.dvPart bi (row bj c) x = 0 :=
  Finset.sum_eq_zero fun r _ => by rw [mx_zero (P.prob_masked (row_lt h r c)), mul_zero]

theorem Pair.dkPart_masked (P : Pair) {bi bj : Fin 12} (h : bi < bj) (c : Fin 512) (x : Fin 256) : P.dkPart bi (row bj c) x = 0 :=
  Finset.sum_eq_zero fun r _ => by rw [mx_zero (P.grad_masked (row_lt h r c)), mul_zero]

theorem Pair.dqPart_masked (P : Pair) {bj : Fin 12} {i : Fin 6144} (h : i.val / 512 < bj.val) (x : Fin 256) : P.dqPart bj i x = 0 :=
  Finset.sum_eq_zero fun c _ => by
    have : i < row bj c := by
      show i.val < 512 * bj.val + c.val
      omega
    rw [P.grad_masked this, zero_mul]

end Cert.MX

namespace Cert.KernelIdeal.Rolled

open Idealize.ShloMosaic Idealize.SL.Sem
open Cert.KernelIdeal.Gen Cert.MX
open Idealize.ShloMosaic.VecWindow (window put)

theorem accumulated_apply (old : Vec Ideal S256x512 .f32) (x : Vec Ideal S1x256x512 .bf16) (p : Vec Ideal S512x512 .bf16) (u : Fin 256) (c : Fin 512) :
    accumulated old x p (ix2 u c) = old (ix2 u c) + ∑ r : Fin 512, x (ix3 0 u r) * p (ix2 r c) := by
  pointwise [accumulated]

theorem accumulatedQ_apply (old : Vec Ideal S512x256 .f32) (ds : Vec Ideal S512x512 .bf16) (k : Vec Ideal S1x512x256 .bf16) (r : Fin 512) (u : Fin 256) :
    accumulatedQ old ds k (ix2 r u) = old (ix2 r u) + ∑ c : Fin 512, ds (ix2 r c) * k (ix3 0 c u) := by
  pointwise [accumulatedQ]

section
variable {I : Ins Ideal} {P : Pair} {bi bj : Fin 12} {at_ : At} {S : State Ideal}
  {mask : Fin 16 → Fin 4 → FVec Ideal S32x128 .f32 → FVec Ideal S32x128 .f32}
  (hA : at_.Block bi) (hI : I.Of P bj) (hL : ∀ i l, S.lse (ix2 i l) = P.lse i) (hM : Masks mask bi bj)

include hA hI hL hM in
theorem step_dv (u : Fin 256) (c : Fin 512) : (S.step I at_ mask).dv (ix2 u c) = S.dv (ix2 u c) + P.dvPart bi (row bj c) u := by
  show accumulated S.dv (at_.colsOf I.dt) (S.kept I at_ mask).p (ix2 u c) = _
  rw [accumulated_apply, kept_eq]
  refine congrArg (S.dv (ix2 u c) + ·) (Finset.sum_congr rfl fun r _ => ?_)
  dsimp only
  rw [tileP_apply hA hI hL hM, ← hI.dt]
  refine congrArg (· * _) ?_
  exact window3_apply I.dt hA.cols _ _ _ _ _ _ _ (by rfl) (by simp) (by rfl)

include hA hI hL hM in
theorem step_dk (u : Fin 256) (c : Fin 512) : (S.step I at_ mask).dk (ix2 u c) = S.dk (ix2 u c) + P.dkPart bi (row bj c) u := by
  show accumulated S.dk (at_.colsOf I.qt) (S.kept I at_ mask).d (ix2 u c) = _
  rw [accumulated_apply, kept_eq]
  refine congrArg (S.dk (ix2 u c) + ·) (Finset.sum_congr rfl fun r _ => ?_)
  dsimp only
  rw [tileD_apply hA hI hL hM, ← hI.qt]
  refine congrArg (· * _) ?_
  exact window3_apply I.qt hA.cols _ _ _ _ _ _ _ (by rfl) (by simp) (by rfl)

include hA hI hL hM in
theorem step_acc (i : Fin 6144) (u : Fin 256) : (S.step I at_ mask).acc (ix2 i u)
    = S.acc (ix2 i u) + if i.val / 512 = bi.val then P.dqPart bj i u else 0 := by
  show put S.acc at_.acc S512x256.size (accumulatedQ (at_.accOf S.acc) (S.kept I at_ mask).b I.k) (ix2 i u) = _
  by_cases h : i.val / 512 = bi.val
  · rw [if_pos h]
    obtain ⟨r, rfl⟩ : ∃ r : Fin 512, i = row bi r :=
      ⟨⟨i.val % 512, Nat.mod_lt _ (by decide)⟩, Fin.ext (by show i.val = 512 * bi.val + i.val % 512; omega)⟩
    refine (put2_in S.acc _ _ _ hA.acc _ (ix2 (row bi r) u) r u rfl (by simp [ix2])).trans ?_
    rw [← ix2_eq_valueIdx, accumulatedQ_apply, kept_eq]
    have e : at_.accOf S.acc (ix2 r u) = S.acc (ix2 (row bi r) u) := window2_apply S.acc hA.acc _ _ _ _ _ (by rfl) (by simp)
    rw [e]
    refine congrArg (S.acc _ + ·) (Finset.sum_congr rfl fun c _ => ?_)
    dsimp only
    rw [tileB_apply hA hI hL hM, hI.k]
  · rw [if_neg h, add_zero]
    refine put2_out S.acc _ _ _ hA.acc _ (ix2 i u) ?_
    show i.val < 512 * bi.val ∨ 512 * bi.val + 512 ≤ i.val ∨ _
    omega

end

/-! ## The steps of one point -/

theorem at1_block (i : grid0.Coords) (bj : Fin 12) (h : (i 1).val = bj.val) : (at1 i).Block bj where
  rows := by rw [← h]; exact k0_off3_eq i
  stat g := by rw [← h]; exact k0_off4_eq i g
  delta g := by rw [← h]; exact k0_off5_eq i g
  cols := by rw [← h]; exact k0_off6_eq i
  acc := by rw [← h]; exact k0_off7_eq i

theorem at2_block (i : grid0.Coords) (bi : Fin 12) (t : Fin (k0_t2_loop i).trips) (h : (i 1).val + t.val + 1 = bi.val) : (at2 i t).Block bi where
  rows := (k0_off8_eq i t).trans (by rw [← h]; congr 2; ring)
  stat g := (k0_off9_eq i t g).trans (by rw [← h]; congr 1; ring)
  delta g := (k0_off10_eq i t g).trans (by rw [← h]; congr 2; ring)
  cols := (k0_off11_eq i t).trans (by rw [← h]; congr 3; ring)
  acc := (k0_off12_eq i t).trans (by rw [← h]; congr 1; ring)

theorem trips2 : ∀ i : grid0.Coords, (k0_t2_loop i).trips = 11 - (i 1).val := by decide +kernel

theorem step_lse (I : Ins Ideal) (S : State Ideal) (at_ : At) (mask : Fin 16 → Fin 4 → FVec Ideal S32x128 .f32 → FVec Ideal S32x128 .f32) :
    (S.step I at_ mask).lse = S.lse := rfl

theorem trips_lse (I : Ins Ideal) (S : State Ideal) (i : grid0.Coords) : ∀ n, (State.trips I S i n).lse = S.lse
  | 0 => rfl
  | n + 1 => by
    rw [State.trips]
    split
    · rw [step_lse, trips_lse]
    · rw [trips_lse]

section
variable {I : Ins Ideal} {P : Pair} {bj : Fin 12} {S : State Ideal} {i : grid0.Coords}
  (hi : (i 1).val = bj.val) (hI : I.Of P bj) (hL : ∀ i l, S.lse (ix2 i l) = P.lse i)

/-- After the step on the diagonal and `n` trips. -/
local notation "T" => State.trips I (S.cleared.step I (at1 i) causal) i

include hL in
theorem trips_stat (n : ℕ) (k : Fin 6144) (l : Fin 128) : (T n).lse (ix2 k l) = P.lse k := by
  rw [trips_lse]
  exact hL k l

include hi in
theorem trips_succ (t : ℕ) (ht : bj.val + t + 1 < 12) : ∃ ht' : t < (k0_t2_loop i).trips,
    T (t + 1) = (T t).step I (at2 i ⟨t, ht'⟩) unmasked ∧ (at2 i ⟨t, ht'⟩).Block ⟨bj.val + t + 1, ht⟩ := by
  have ht' : t < (k0_t2_loop i).trips := by rw [trips2, hi]; omega
  exact ⟨ht', by rw [State.trips, dif_pos ht'], at2_block i _ _ (by rw [hi])⟩

theorem below (t : ℕ) (ht : bj.val + t + 1 < 12) : bj < (⟨bj.val + t + 1, ht⟩ : Fin 12) := by
  show bj.val < bj.val + t + 1
  omega

theorem cleared_dv (u : Fin 256) (c : Fin 512) : S.cleared.dv (ix2 u c) = 0 := by
  show (shapeCast S256x512 (broadcast S256x512 (Scalar.ofBits .f32 0x00000000#32)) shapeCasts_S256x512_S256x512 : FVec Ideal S256x512 .f32) (ix2 u c) = 0
  pointwise

theorem cleared_dk (u : Fin 256) (c : Fin 512) : S.cleared.dk (ix2 u c) = 0 := cleared_dv (S := S) u c

include hi hI hL in
theorem rest_dv (u : Fin 256) (c : Fin 512) : (S.rest I i).dv (ix2 u c) = P.dv (row bj c) u := by
  rw [P.dv_eq]
  refine sum_from (fun b => P.dvPart b (row bj c) u) bj (fun b hb => P.dvPart_masked hb c u) (fun n => (T n).dv (ix2 u c)) _
    (by rw [trips2, hi]; omega) ?_ ?_
  · exact (step_dv (S := S.cleared) (at1_block i bj hi) hI hL (masks_causal bj) u c).trans (by rw [cleared_dv, zero_add])
  · intro t ht
    obtain ⟨ht', e, hb⟩ := trips_succ (I := I) (S := S) hi t ht
    rw [e]
    exact step_dv hb hI (trips_stat hL t) (masks_unmasked _ _ (below t ht)) u c

include hi hI hL in
theorem rest_dk (u : Fin 256) (c : Fin 512) : (S.rest I i).dk (ix2 u c) = P.dk (row bj c) u := by
  rw [P.dk_eq]
  refine sum_from (fun b => P.dkPart b (row bj c) u) bj (fun b hb => P.dkPart_masked hb c u) (fun n => (T n).dk (ix2 u c)) _
    (by rw [trips2, hi]; omega) ?_ ?_
  · exact (step_dk (S := S.cleared) (at1_block i bj hi) hI hL (masks_causal bj) u c).trans (by rw [cleared_dk, zero_add])
  · intro t ht
    obtain ⟨ht', e, hb⟩ := trips_succ (I := I) (S := S) hi t ht
    rw [e]
    exact step_dk hb hI (trips_stat hL t) (masks_unmasked _ _ (below t ht)) u c

include hi hI hL in
theorem trips_acc (k : Fin 6144) (u : Fin 256) : ∀ t, bj.val + t < 12 → (T t).acc (ix2 k u)
    = S.acc (ix2 k u) + if bj.val ≤ k.val / 512 ∧ k.val / 512 ≤ bj.val + t then P.dqPart bj k u else 0
  | 0, _ => by
    refine (step_acc (S := S.cleared) (at1_block i bj hi) hI hL (masks_causal bj) k u).trans ?_
    refine congrArg (S.acc (ix2 k u) + ·) (if_congr ?_ rfl rfl)
    omega
  | t + 1, ht => by
    obtain ⟨ht', e, hb⟩ := trips_succ (I := I) (S := S) hi t ht
    rw [e, step_acc hb hI (trips_stat hL t) (masks_unmasked _ _ (below t ht)) k u, trips_acc k u t (by omega), add_assoc]
    refine congrArg (S.acc (ix2 k u) + ·) ?_
    dsimp only
    by_cases h : k.val / 512 = bj.val + t + 1
    · rw [if_pos h, if_neg (by omega), if_pos (by omega), zero_add]
    · rw [if_neg h, add_zero]
      exact if_congr (by omega) rfl rfl

include hi hI hL in
/-- A point adds its block column's part to every row of the query accumulator. -/
theorem rest_acc (k : Fin 6144) (u : Fin 256) : (S.rest I i).acc (ix2 k u) = S.acc (ix2 k u) + P.dqPart bj k u := by
  refine (trips_acc hi hI hL k u _ (by rw [trips2, hi]; omega)).trans (congrArg (S.acc (ix2 k u) + ·) ?_)
  rw [trips2, hi]
  by_cases h : bj.val ≤ k.val / 512
  · rw [if_pos (by omega)]
  · rw [if_neg (by omega), P.dqPart_masked (by omega)]

include hL in
theorem rest_stat (k : Fin 6144) (l : Fin 128) : (S.rest I i).lse (ix2 k l) = P.lse k := trips_stat hL _ k l

end

/-! ## One point -/

theorem spread_stat (i : grid0.Coords) (h : k0_cond1 i = 1#1) (x : Vec Ideal S1x1x6144 .f32) (lse : Vec Ideal S6144x128 .f32) (k : Fin 6144) (l : Fin 128) :
    spread i h x lse k0_t1_loop.trips (ix2 k l) = x (ix3 0 0 k) := by
  have hq : k.val / 128 < k0_t1_loop.trips := by rw [trips1]; omega
  obtain ⟨q, r, e⟩ := exists_div_mod k.val 128 k0_t1_loop.trips (by decide) hq
  rw [spread_all i h x lse q r l (ix2 k l) e rfl, ← ix2_eq_valueIdx]
  have hw : window x (k0_off1 q) S1x1x128.size (k0_off1_inb i q h) (ix3 0 0 r) = x (ix3 0 0 k) :=
    window3_apply x (k0_off1_eq q) _ _ _ _ _ _ _ (by rfl) (by rfl) e
  rw [← hw]
  generalize window x (k0_off1 q) S1x1x128.size (k0_off1_inb i q h) = w
  pointwise [k0_pay1143]

theorem opened_acc (S : State Ideal) (i : grid0.Coords) (h : k0_cond1 i = 1#1) (x : Vec Ideal S1x1x6144 .f32) (k : Fin 6144) (u : Fin 256) :
    (S.opened i h x).acc (ix2 k u) = 0 := by
  show (shapeCast S6144x256 (broadcast S6144x256 (Scalar.ofBits .f32 0x00000000#32)) shapeCasts_S6144x256_S6144x256 : FVec Ideal S6144x256 .f32) (ix2 k u) = 0
  pointwise

theorem cond1 : ∀ i : grid0.Coords, k0_cond1 i = 1#1 ↔ (i 1).val = 0 := by decide +kernel

/-- What a point leaves, if it finds the query accumulator at the parts of the block columns before it. -/
structure State.After (S : State Ideal) (P : Pair) (bj : Fin 12) : Prop where
  stat : ∀ k l, S.lse (ix2 k l) = P.lse k
  acc : ∀ k u, S.acc (ix2 k u) = ∑ b ∈ Finset.univ.filter (· ≤ bj), P.dqPart b k u
  dk : ∀ u c, S.dk (ix2 u c) = P.dk (row bj c) u
  dv : ∀ u c, S.dv (ix2 u c) = P.dv (row bj c) u

theorem point_first {x : Vec Ideal S1x1x6144 .f32} {I : Ins Ideal} {P : Pair} {bj : Fin 12} {S : State Ideal} {i : grid0.Coords}
    (hi : (i 1).val = bj.val) (hI : I.Of P bj) (hx : ∀ k, x (ix3 0 0 k) = P.lse k) (h0 : bj.val = 0) : (S.point x I i).After P bj := by
  have h : k0_cond1 i = 1#1 := (cond1 i).2 (hi.trans h0)
  have hL : ∀ k l, (S.opened i h x).lse (ix2 k l) = P.lse k := fun k l => (spread_stat i h x S.lse k l).trans (hx k)
  have e : S.point x I i = (S.opened i h x).rest I i := dif_pos h
  rw [e]
  refine ⟨rest_stat hL, fun k u => ?_, rest_dk hi hI hL, rest_dv hi hI hL⟩
  rw [rest_acc hi hI hL, opened_acc, zero_add]
  have ef : Finset.univ.filter (· ≤ bj) = {bj} := by
    ext b
    simp only [Finset.mem_filter, Finset.mem_univ, true_and, Finset.mem_singleton, Fin.ext_iff, Fin.le_def]
    omega
  rw [ef, Finset.sum_singleton]

theorem point_next {x : Vec Ideal S1x1x6144 .f32} {I : Ins Ideal} {P : Pair} {bj bj' : Fin 12} {S : State Ideal} {i : grid0.Coords}
    (hi : (i 1).val = bj.val) (hI : I.Of P bj) (h0 : bj.val = bj'.val + 1) (hS : S.After P bj') : (S.point x I i).After P bj := by
  have h : ¬ k0_cond1 i = 1#1 := fun h => by have := (cond1 i).1 h; omega
  have e : S.point x I i = S.rest I i := dif_neg h
  rw [e]
  refine ⟨rest_stat hS.stat, fun k u => ?_, rest_dk hi hI hS.stat, rest_dv hi hI hS.stat⟩
  rw [rest_acc hi hI hS.stat, hS.acc]
  have ef : Finset.univ.filter (· ≤ bj) = insert bj (Finset.univ.filter (· ≤ bj')) := by
    ext b
    simp only [Finset.mem_filter, Finset.mem_univ, true_and, Finset.mem_insert, Fin.ext_iff, Fin.le_def]
    omega
  rw [ef, Finset.sum_insert (by simp only [Finset.mem_filter, Finset.mem_univ, true_and, Fin.le_def]; omega), add_comm]

/-- The rows a point hands out have met all the block columns that add to them. -/
theorem After.acc_row {S : State Ideal} {P : Pair} {bj : Fin 12} (hS : S.After P bj) (r : Fin 512) (u : Fin 256) :
    S.acc (ix2 (row bj r) u) = P.dq (row bj r) u := by
  rw [hS.acc, P.dq_eq]
  refine Finset.sum_subset (Finset.filter_subset _ _) fun b _ hb => P.dqPart_masked ?_ u
  have : ¬ b.val ≤ bj.val := fun h => hb (Finset.mem_filter.2 ⟨Finset.mem_univ _, h⟩)
  show (512 * bj.val + r.val) / 512 < b.val
  omega

end Cert.KernelIdeal.Rolled
-- ==== Proof.Value.Args.lean ====
/- The pairs of the launch, made of the argument arrays, and the three results as functions of them. -/
module

public import proofs.«01_k».proof.Proof.Value.Spec

@[expose] public section

noncomputable section

namespace Cert.MX

open Idealize.ShloMosaic

/-- The attention scale. -/
def scale : EReal := Ideal.ofBits .f32 0x3D800000#32

theorem scale_eq : scale = ((1 / 16 : ℝ) : EReal) := by
  unfold scale
  simp [Ideal.ofBits, Ideal.ieee, -EReal.coe_mul]
  norm_num [-EReal.coe_mul]

/-- The same number in the narrower format. -/
theorem scale_narrow : Ideal.ofBits .bf16 0x3D80#16 = scale := by
  rw [scale_eq]
  simp [Ideal.ofBits, Ideal.ieee, -EReal.coe_mul]
  norm_num [-EReal.coe_mul]

/-- Pair `n` of the launch. -/
def Pair.of (qa ka da va dt qt k : Fin 20 → Fin 6144 → Fin 256 → EReal) (lse dlt : Fin 20 → Fin 6144 → EReal) (n : Fin 20) : Pair where
  q i x := qa n i x * scale
  ka := ka n
  d := da n
  va := va n
  dt := dt n
  qt := qt n
  k := k n
  lse := lse n
  dlt := dlt n

/-- Scaling every query is scaling the scores. -/
theorem scale_sum (f g : Fin 256 → EReal) : ∑ x, f x * scale * g x = scale * ∑ x, f x * g x := by
  rw [scale_eq]
  have h : ∀ s : Finset (Fin 256), ∑ x ∈ s, f x * ((1 / 16 : ℝ) : EReal) * g x = ((1 / 16 : ℝ) : EReal) * ∑ x ∈ s, f x * g x := by
    intro s
    induction s using Finset.induction_on with
    | empty => simp
    | insert a s ha ih =>
      rw [Finset.sum_insert ha, Finset.sum_insert ha, ih, EReal.left_distrib_of_nonneg_of_ne_top (by exact_mod_cast (by norm_num : (0 : ℝ) ≤ 1 / 16)) (EReal.coe_ne_top _)]
      congr 1
      rw [mul_comm (f a), mul_assoc]
  exact h Finset.univ

end Cert.MX
-- ==== Proof.Value.Grid.lean ====
/- The grid's points in order, and the three arrays the kernel leaves. -/
module

public import proofs.«01_k».proof.Proof.Value.Steps
public import proofs.«01_k».proof.Proof.Value.Args
public import proofs.«01_k».proof.Proof.KernelIdeal.Run
public import Idealize.ShloMosaic.Lib.StableHlo.RunRead

@[expose] public section

set_option maxRecDepth 16384

noncomputable section

namespace Cert.KernelIdeal.Rolled

open Idealize.ShloMosaic Idealize.ShloMosaic.TcCoe Idealize.SL.Sem
open Cert.KernelIdeal.Gen Cert.MX

variable (m : (ℓ : Loc nD τ sig) → Buf (Elt Ideal) ℓ) (c : Dev nD)

/-! ## What the windows' arrays hold when the points begin -/

def arg0 : FVec Ideal S20x6144x256 .bf16 := m ((c : Thread nD τ).loc main_arg0)
def arg1 : FVec Ideal S20x6144x256 .bf16 := m ((c : Thread nD τ).loc main_arg1)
def arg2 : FVec Ideal S20x6144x256 .bf16 := m ((c : Thread nD τ).loc main_arg2)
def arg3 : FVec Ideal S20x6144x256 .bf16 := m ((c : Thread nD τ).loc main_arg3)
def arg4 : FVec Ideal S20x6144x256 .bf16 := m ((c : Thread nD τ).loc main_arg4)
def arg5 : FVec Ideal S20x6144x256 .bf16 := m ((c : Thread nD τ).loc main_arg5)
def arg6 : FVec Ideal S20x6144x256 .bf16 := m ((c : Thread nD τ).loc main_arg6)
def arg7 : FVec Ideal S20x6144 .f32 := m ((c : Thread nD τ).loc main_arg7)
def arg8 : FVec Ideal S20x6144 .f32 := m ((c : Thread nD τ).loc main_arg8)

/-- The pairs of the launch. -/
def pairs : Fin 20 → Pair :=
  Pair.of (fun n i x => arg0 m c (ix3 n i x)) (fun n i x => arg1 m c (ix3 n i x)) (fun n i x => arg2 m c (ix3 n i x))
    (fun n i x => arg3 m c (ix3 n i x)) (fun n i x => arg4 m c (ix3 n i x)) (fun n i x => arg5 m c (ix3 n i x))
    (fun n i x => arg6 m c (ix3 n i x)) (fun n i => arg7 m c (ix2 n i)) (fun n i => arg8 m c (ix2 n i))

theorem V_v0 : V m c main_v0 = shapeCast S20x1x6144 (arg7 m c) shapeCasts_S20x6144_S20x1x6144 := by
  show StableHlo.after hostOps0 _ (Proc.devRef .tc main_v0) = _
  after_reads_simp
  rfl

theorem V_v2 : V m c main_v2 = mulf (arg0 m c) (broadcastInDim S20x6144x256 ![] bcast_S_S20x6144x256 (constant (F := Ideal) S_ .bf16 0x3D80#16)) := by
  show StableHlo.after hostOps0 _ (Proc.devRef .tc main_v2) = _
  after_reads_simp
  rfl

theorem V_v3 : V m c main_v3 = transpose S20x256x6144 [0, 2, 1] (arg4 m c) transposes_S20x6144x256_S20x256x6144_0_2_1 := by
  show StableHlo.after hostOps0 _ (Proc.devRef .tc main_v3) = _
  after_reads_simp
  rfl

theorem V_v4 : V m c main_v4 = transpose S20x256x6144 [0, 2, 1] (arg5 m c) transposes_S20x6144x256_S20x256x6144_0_2_1 := by
  show StableHlo.after hostOps0 _ (Proc.devRef .tc main_v4) = _
  after_reads_simp
  rfl

theorem V_v6 : V m c main_v6 = broadcastInDim S20x6144x128 ![0, 1, 2] bcast_S20x6144x1_S20x6144x128_0_1_2
    (broadcastInDim S20x6144x1 ![0, 1] bcast_S20x6144_S20x6144x1_0_1 (arg8 m c)) := by
  show StableHlo.after hostOps0 _ (Proc.devRef .tc main_v6) = _
  after_reads_simp
  rfl

theorem v0_apply (x : FVec Ideal S20x6144 .f32) (n : Fin 20) (k : Fin 6144) :
    shapeCast S20x1x6144 x shapeCasts_S20x6144_S20x1x6144 (ix3 n 0 k) = x (ix2 n k) := by
  pointwise

theorem v2_apply (x : FVec Ideal S20x6144x256 .bf16) (n : Fin 20) (k : Fin 6144) (u : Fin 256) :
    mulf x (broadcastInDim S20x6144x256 ![] bcast_S_S20x6144x256 (constant (F := Ideal) S_ .bf16 0x3D80#16)) (ix3 n k u) = x (ix3 n k u) * scale := by
  rw [← scale_narrow]
  pointwise

theorem v3_apply (x : FVec Ideal S20x6144x256 .bf16) (n : Fin 20) (k : Fin 6144) (u : Fin 256) :
    transpose S20x256x6144 [0, 2, 1] x transposes_S20x6144x256_S20x256x6144_0_2_1 (ix3 n u k) = x (ix3 n k u) := by
  pointwise

theorem v6_apply (x : FVec Ideal S20x6144 .f32) (n : Fin 20) (k : Fin 6144) (l : Fin 128) :
    broadcastInDim S20x6144x128 ![0, 1, 2] bcast_S20x6144x1_S20x6144x128_0_1_2
      (broadcastInDim S20x6144x1 ![0, 1] bcast_S20x6144_S20x6144x1_0_1 x) (ix3 n k l) = x (ix2 n k) := by
  pointwise

/-! ## Points and their blocks -/

/-- The pair a point works on, -/
def pairOf (t : Fin cfg0.N) : Fin 20 := ⟨t.val / 12, by have h := t.isLt; have hN : cfg0.N = 240 := N_0; omega⟩
theorem pairOf_val (t : Fin cfg0.N) : (pairOf t).val = t.val / 12 := rfl

/-- and its block of columns. -/
def blockOf (t : Fin cfg0.N) : Fin 12 := ⟨t.val % 12, Nat.mod_lt _ (by decide)⟩

theorem coord1 : ∀ t : Fin cfg0.N, (grid0.coords t 1).val = t.val % 12 :=
  (by decide +kernel : ∀ t : Fin grid0.N, (grid0.coords t 1).val = t.val % 12)

theorem index0 : ∀ t : Fin cfg0.N, win0_0.index t (0 : Fin 3) = t.val / 12 ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val / 12 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 12 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 12 ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val / 12 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val / 12 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val / 12 ∧ win0_6.index t (1 : Fin 3) = t.val % 12 ∧ win0_6.index t (2 : Fin 3) = 0 :=
  (by decide +kernel : ∀ t : Fin grid0.N, _)
theorem index7 : ∀ t : Fin cfg0.N, win0_7.index t (0 : Fin 3) = t.val / 12 ∧ win0_7.index t (1 : Fin 3) = t.val % 12 ∧ win0_7.index t (2 : Fin 3) = 0 :=
  (by decide +kernel : ∀ t : Fin grid0.N, _)
theorem index8 : ∀ t : Fin cfg0.N, win0_8.index t (0 : Fin 3) = t.val / 12 ∧ win0_8.index t (1 : Fin 3) = t.val % 12 ∧ win0_8.index t (2 : Fin 3) = 0 :=
  (by decide +kernel : ∀ t : Fin grid0.N, _)
theorem index9 : ∀ t : Fin cfg0.N, win0_9.index t (0 : Fin 3) = t.val / 12 ∧ win0_9.index t (1 : Fin 3) = t.val % 12 ∧ win0_9.index t (2 : Fin 3) = 0 :=
  (by decide +kernel : ∀ t : Fin grid0.N, _)
theorem index10 : ∀ t : Fin cfg0.N, win0_10.index t (0 : Fin 3) = t.val / 12 ∧ win0_10.index t (1 : Fin 3) = t.val % 12 ∧ win0_10.index t (2 : Fin 3) = 0 :=
  (by decide +kernel : ∀ t : Fin grid0.N, _)
theorem index11 : ∀ t : Fin cfg0.N, win0_11.index t (0 : Fin 3) = t.val / 12 ∧ win0_11.index t (1 : Fin 3) = t.val % 12 ∧ win0_11.index t (2 : Fin 3) = 0 :=
  (by decide +kernel : ∀ t : Fin grid0.N, _)

theorem emb0 (t : Fin cfg0.N) (k : Fin 6144) : ((cfg0.win 0).blk t).view.emb (ix3 0 0 k) = ix3 (pairOf t) 0 k := by
  obtain ⟨e0, e1, e2⟩ := index0 t
  funext a; apply Fin.ext
  match a with
  | ⟨0, _⟩ => show win0_0.index t (0 : Fin 3) * 1 + 1 * 0 = (pairOf t).val; rw [e0, pairOf_val]; omega
  | ⟨1, _⟩ => show win0_0.index t (1 : Fin 3) * 1 + 1 * 0 = 0; omega
  | ⟨2, _⟩ => show win0_0.index t (2 : Fin 3) * 6144 + 1 * k.val = k.val; omega
theorem emb1 (t : Fin cfg0.N) (k : Fin 6144) (u : Fin 256) : ((cfg0.win 1).blk t).view.emb (ix3 0 k u) = ix3 (pairOf t) k u := by
  obtain ⟨e0, e1, e2⟩ := index1 t
  funext a; apply Fin.ext
  match a with
  | ⟨0, _⟩ => show win0_1.index t (0 : Fin 3) * 1 + 1 * 0 = (pairOf t).val; rw [e0, pairOf_val]; omega
  | ⟨1, _⟩ => show win0_1.index t (1 : Fin 3) * 6144 + 1 * k.val = k.val; omega
  | ⟨2, _⟩ => show win0_1.index t (2 : Fin 3) * 256 + 1 * u.val = u.val; omega
theorem emb2 (t : Fin cfg0.N) (k : Fin 6144) (u : Fin 256) : ((cfg0.win 2).blk t).view.emb (ix3 0 k u) = ix3 (pairOf t) k u := by
  obtain ⟨e0, e1, e2⟩ := index2 t
  funext a; apply Fin.ext
  match a with
  | ⟨0, _⟩ => show win0_2.index t (0 : Fin 3) * 1 + 1 * 0 = (pairOf t).val; rw [e0, pairOf_val]; omega
  | ⟨1, _⟩ => show win0_2.index t (1 : Fin 3) * 6144 + 1 * k.val = k.val; omega
  | ⟨2, _⟩ => show win0_2.index t (2 : Fin 3) * 256 + 1 * u.val = u.val; omega
theorem emb3 (t : Fin cfg0.N) (u : Fin 256) (k : Fin 6144) : ((cfg0.win 3).blk t).view.emb (ix3 0 u k) = ix3 (pairOf t) u k := by
  obtain ⟨e0, e1, e2⟩ := index3 t
  funext a; apply Fin.ext
  match a with
  | ⟨0, _⟩ => show win0_3.index t (0 : Fin 3) * 1 + 1 * 0 = (pairOf t).val; rw [e0, pairOf_val]; omega
  | ⟨1, _⟩ => show win0_3.index t (1 : Fin 3) * 256 + 1 * u.val = u.val; omega
  | ⟨2, _⟩ => show win0_3.index t (2 : Fin 3) * 6144 + 1 * k.val = k.val; omega
theorem emb4 (t : Fin cfg0.N) (u : Fin 256) (k : Fin 6144) : ((cfg0.win 4).blk t).view.emb (ix3 0 u k) = ix3 (pairOf t) u k := by
  obtain ⟨e0, e1, e2⟩ := index4 t
  funext a; apply Fin.ext
  match a with
  | ⟨0, _⟩ => show win0_4.index t (0 : Fin 3) * 1 + 1 * 0 = (pairOf t).val; rw [e0, pairOf_val]; omega
  | ⟨1, _⟩ => show win0_4.index t (1 : Fin 3) * 256 + 1 * u.val = u.val; omega
  | ⟨2, _⟩ => show win0_4.index t (2 : Fin 3) * 6144 + 1 * k.val = k.val; omega
theorem emb5 (t : Fin cfg0.N) (k : Fin 6144) (l : Fin 128) : ((cfg0.win 5).blk t).view.emb (ix3 0 k l) = ix3 (pairOf t) k l := by
  obtain ⟨e0, e1, e2⟩ := index5 t
  funext a; apply Fin.ext
  match a with
  | ⟨0, _⟩ => show win0_5.index t (0 : Fin 3) * 1 + 1 * 0 = (pairOf t).val; rw [e0, pairOf_val]; omega
  | ⟨1, _⟩ => show win0_5.index t (1 : Fin 3) * 6144 + 1 * k.val = k.val; omega
  | ⟨2, _⟩ => show win0_5.index t (2 : Fin 3) * 128 + 1 * l.val = l.val; omega
theorem emb6 (t : Fin cfg0.N) (r : Fin 512) (u : Fin 256) : ((cfg0.win 6).blk t).view.emb (ix3 0 r u) = ix3 (pairOf t) (row (blockOf t) r) u := by
  obtain ⟨e0, e1, e2⟩ := index6 t
  funext a; apply Fin.ext
  match a with
  | ⟨0, _⟩ => show win0_6.index t (0 : Fin 3) * 1 + 1 * 0 = (pairOf t).val; rw [e0, pairOf_val]; omega
  | ⟨1, _⟩ => show win0_6.index t (1 : Fin 3) * 512 + 1 * r.val = 512 * (t.val % 12) + r.val; omega
  | ⟨2, _⟩ => show win0_6.index t (2 : Fin 3) * 256 + 1 * u.val = u.val; omega
theorem emb7 (t : Fin cfg0.N) (r : Fin 512) (u : Fin 256) : ((cfg0.win 7).blk t).view.emb (ix3 0 r u) = ix3 (pairOf t) (row (blockOf t) r) u := by
  obtain ⟨e0, e1, e2⟩ := index7 t
  funext a; apply Fin.ext
  match a with
  | ⟨0, _⟩ => show win0_7.index t (0 : Fin 3) * 1 + 1 * 0 = (pairOf t).val; rw [e0, pairOf_val]; omega
  | ⟨1, _⟩ => show win0_7.index t (1 : Fin 3) * 512 + 1 * r.val = 512 * (t.val % 12) + r.val; omega
  | ⟨2, _⟩ => show win0_7.index t (2 : Fin 3) * 256 + 1 * u.val = u.val; omega
theorem emb8 (t : Fin cfg0.N) (r : Fin 512) (u : Fin 256) : ((cfg0.win 8).blk t).view.emb (ix3 0 r u) = ix3 (pairOf t) (row (blockOf t) r) u := by
  obtain ⟨e0, e1, e2⟩ := index8 t
  funext a; apply Fin.ext
  match a with
  | ⟨0, _⟩ => show win0_8.index t (0 : Fin 3) * 1 + 1 * 0 = (pairOf t).val; rw [e0, pairOf_val]; omega
  | ⟨1, _⟩ => show win0_8.index t (1 : Fin 3) * 512 + 1 * r.val = 512 * (t.val % 12) + r.val; omega
  | ⟨2, _⟩ => show win0_8.index t (2 : Fin 3) * 256 + 1 * u.val = u.val; omega
theorem emb9 (t : Fin cfg0.N) (r : Fin 512) (u : Fin 256) : ((cfg0.win 9).blk t).view.emb (ix3 0 r u) = ix3 (pairOf t) (row (blockOf t) r) u := by
  obtain ⟨e0, e1, e2⟩ := index9 t
  funext a; apply Fin.ext
  match a with
  | ⟨0, _⟩ => show win0_9.index t (0 : Fin 3) * 1 + 1 * 0 = (pairOf t).val; rw [e0, pairOf_val]; omega
  | ⟨1, _⟩ => show win0_9.index t (1 : Fin 3) * 512 + 1 * r.val = 512 * (t.val % 12) + r.val; omega
  | ⟨2, _⟩ => show win0_9.index t (2 : Fin 3) * 256 + 1 * u.val = u.val; omega
theorem emb10 (t : Fin cfg0.N) (r : Fin 512) (u : Fin 256) : ((cfg0.win 10).blk t).view.emb (ix3 0 r u) = ix3 (pairOf t) (row (blockOf t) r) u := by
  obtain ⟨e0, e1, e2⟩ := index10 t
  funext a; apply Fin.ext
  match a with
  | ⟨0, _⟩ => show win0_10.index t (0 : Fin 3) * 1 + 1 * 0 = (pairOf t).val; rw [e0, pairOf_val]; omega
  | ⟨1, _⟩ => show win0_10.index t (1 : Fin 3) * 512 + 1 * r.val = 512 * (t.val % 12) + r.val; omega
  | ⟨2, _⟩ => show win0_10.index t (2 : Fin 3) * 256 + 1 * u.val = u.val; omega
theorem emb11 (t : Fin cfg0.N) (r : Fin 512) (u : Fin 256) : ((cfg0.win 11).blk t).view.emb (ix3 0 r u) = ix3 (pairOf t) (row (blockOf t) r) u := by
  obtain ⟨e0, e1, e2⟩ := index11 t
  funext a; apply Fin.ext
  match a with
  | ⟨0, _⟩ => show win0_11.index t (0 : Fin 3) * 1 + 1 * 0 = (pairOf t).val; rw [e0, pairOf_val]; omega
  | ⟨1, _⟩ => show win0_11.index t (1 : Fin 3) * 512 + 1 * r.val = 512 * (t.val % 12) + r.val; omega
  | ⟨2, _⟩ => show win0_11.index t (2 : Fin 3) * 256 + 1 * u.val = u.val; omega

/-- What a point reads of its pair. -/
theorem insAt_of (t : Fin cfg0.N) : (insAt m c t).Of (pairs m c (pairOf t)) (blockOf t) where
  q i x := by
    show V m c main_v2 (((cfg0.win 1).blk t).view.emb (ix3 0 i x)) = _
    rw [emb1, V_v2, v2_apply]; rfl
  d i x := by
    show V m c main_arg2 (((cfg0.win 2).blk t).view.emb (ix3 0 i x)) = _
    rw [emb2, V_main_arg2]; rfl
  dt i x := by
    show V m c main_v3 (((cfg0.win 3).blk t).view.emb (ix3 0 x i)) = _
    rw [emb3, V_v3, v3_apply]; rfl
  qt i x := by
    show V m c main_v4 (((cfg0.win 4).blk t).view.emb (ix3 0 x i)) = _
    rw [emb4, V_v4, v3_apply]; rfl
  dlt i l := by
    show V m c main_v6 (((cfg0.win 5).blk t).view.emb (ix3 0 i l)) = _
    rw [emb5, V_v6, v6_apply]; rfl
  ka r x := by
    show V m c main_arg1 (((cfg0.win 6).blk t).view.emb (ix3 0 r x)) = _
    rw [emb6, V_main_arg1]; rfl
  va r x := by
    show V m c main_arg3 (((cfg0.win 7).blk t).view.emb (ix3 0 r x)) = _
    rw [emb7, V_main_arg3]; rfl
  k r x := by
    show V m c main_arg6 (((cfg0.win 8).blk t).view.emb (ix3 0 r x)) = _
    rw [emb8, V_main_arg6]; rfl

theorem statAt_of (t : Fin cfg0.N) (k : Fin 6144) : statAt m c t (ix3 0 0 k) = (pairs m c (pairOf t)).lse k := by
  show V m c main_v0 (((cfg0.win 0).blk t).view.emb (ix3 0 0 k)) = _
  rw [emb0, V_v0, v0_apply]; rfl

/-- After every point the buffers hold what they should. -/
theorem stateAfter_of : ∀ n (h : n < cfg0.N), (stateAfter m c ⟨n, h⟩).After (pairs m c (pairOf ⟨n, h⟩)) (blockOf ⟨n, h⟩) := by
  intro n
  induction n with
  | zero => exact fun h => point_first (coord1 _) (insAt_of m c _) (statAt_of m c _) rfl
  | succ n ih =>
    intro h
    by_cases h0 : (n + 1) % 12 = 0
    · exact point_first (coord1 _) (insAt_of m c _) (statAt_of m c _) h0
    · have hn : n < cfg0.N := Nat.lt_of_succ_lt h
      have e : stateAfter m c ⟨n + 1, h⟩ = (stateAfter m c ⟨n, hn⟩).point (statAt m c ⟨n + 1, h⟩) (insAt m c ⟨n + 1, h⟩) (grid0.coords ⟨n + 1, h⟩) := by
        exact congrArg (fun S : State Ideal => S.point (statAt m c ⟨n + 1, h⟩) (insAt m c ⟨n + 1, h⟩) (grid0.coords ⟨n + 1, h⟩)) (stateAt_succ m c ⟨n, hn⟩)
      have ep : pairOf ⟨n, hn⟩ = pairOf ⟨n + 1, h⟩ := Fin.ext (by rw [pairOf_val, pairOf_val]; dsimp only; omega)
      have hs := ih hn
      rw [ep] at hs
      rw [e]
      exact point_next (bj' := blockOf ⟨n, hn⟩) (coord1 _) (insAt_of m c _) (by show (n + 1) % 12 = n % 12 + 1; omega) hs

/-! ## The three arrays -/

theorem outQ_apply (v : Vec Ideal S512x256 .f32) (r : Fin 512) (u : Fin 256) : outQ v (ix3 0 r u) = scale * v (ix2 r u) := by
  pointwise [outQ, scale]

theorem outK_apply (v : Vec Ideal S256x512 .f32) (r : Fin 512) (u : Fin 256) : outK v (ix3 0 r u) = scale * v (ix2 u r) := by
  pointwise [outK, scale]

theorem outV_apply (v : Vec Ideal S256x512 .f32) (r : Fin 512) (u : Fin 256) : outV v (ix3 0 r u) = v (ix2 u r) := by
  pointwise [outV]

theorem accOut_apply (t : Fin cfg0.N) (acc : Vec Ideal S6144x256 .f32) (r : Fin 512) (u : Fin 256) :
    accOut (grid0.coords t) acc (ix2 r u) = acc (ix2 (row (blockOf t) r) u) :=
  window2_apply acc (k0_off7_eq (grid0.coords t)) _ _ _ _ _ (by rw [coord1]; rfl) (by simp)

/-- The query gradients, -/
def resultQ (P : Fin 20 → Pair) : FVec Ideal S20x6144x256 .bf16 := fun y => scale * (P (y 0)).dq (y 1) (y 2)
/-- the key gradients, -/
def resultK (P : Fin 20 → Pair) : FVec Ideal S20x6144x256 .bf16 := fun y => scale * (P (y 0)).dk (y 1) (y 2)
/-- and the value gradients of the launch. -/
def resultV (P : Fin 20 → Pair) : FVec Ideal S20x6144x256 .bf16 := fun y => (P (y 0)).dv (y 1) (y 2)

theorem exists_block (j : S1x512x256.Idx) : ∃ r u, j = ix3 0 r u :=
  ⟨j 1, j 2, funext fun a => Fin.ext (by
    match a with
    | ⟨0, _⟩ => have : (j 0).val < 1 := (j 0).isLt; show (j 0).val = 0; omega
    | ⟨1, _⟩ => rfl
    | ⟨2, _⟩ => rfl)⟩

theorem flushed9 (t : Fin cfg0.N) : (dats m 0 c).flushed 9 t = ((cfg0.win 9).blk t).view.read (Elt Ideal) (resultQ (pairs m c)) := by
  show (cfg0.win 9).cut (grid0.coords t) ((dats m 0 c).after 9 t) = _
  rw [after0_9]
  funext j
  obtain ⟨r, u, rfl⟩ := exists_block j
  show outQ (accOut (grid0.coords t) (stateAfter m c t).acc) (ix3 0 r u) = resultQ (pairs m c) (((cfg0.win 9).blk t).view.emb (ix3 0 r u))
  rw [emb9, outQ_apply, accOut_apply, After.acc_row (stateAfter_of m c t.val t.isLt)]
  rfl

theorem flushed10 (t : Fin cfg0.N) : (dats m 0 c).flushed 10 t = ((cfg0.win 10).blk t).view.read (Elt Ideal) (resultK (pairs m c)) := by
  show (cfg0.win 10).cut (grid0.coords t) ((dats m 0 c).after 10 t) = _
  rw [after0_10]
  funext j
  obtain ⟨r, u, rfl⟩ := exists_block j
  show outK (stateAfter m c t).dk (ix3 0 r u) = resultK (pairs m c) (((cfg0.win 10).blk t).view.emb (ix3 0 r u))
  rw [emb10, outK_apply, (stateAfter_of m c t.val t.isLt).dk]
  rfl

theorem flushed11 (t : Fin cfg0.N) : (dats m 0 c).flushed 11 t = ((cfg0.win 11).blk t).view.read (Elt Ideal) (resultV (pairs m c)) := by
  show (cfg0.win 11).cut (grid0.coords t) ((dats m 0 c).after 11 t) = _
  rw [after0_11]
  funext j
  obtain ⟨r, u, rfl⟩ := exists_block j
  show outV (stateAfter m c t).dv (ix3 0 r u) = resultV (pairs m c) (((cfg0.win 11).blk t).view.emb (ix3 0 r u))
  rw [emb11, outV_apply, (stateAfter_of m c t.val t.isLt).dv]
  rfl

/-- The point whose block holds an index. -/
theorem exists_point (y : S20x6144x256.Idx) : ∃ (t : Fin cfg0.N) (r : Fin 512) (u : Fin 256), y = ix3 (pairOf t) (row (blockOf t) r) u := by
  have h0 : (y 0).val < 20 := (y 0).isLt
  have h1 : (y 1).val < 6144 := (y 1).isLt
  have hN : cfg0.N = 240 := N_0
  refine ⟨⟨12 * (y 0).val + (y 1).val / 512, by rw [hN]; omega⟩, ⟨(y 1).val % 512, Nat.mod_lt _ (by decide)⟩, y 2, funext fun a => Fin.ext ?_⟩
  match a with
  | ⟨0, _⟩ => show (y 0).val = (pairOf ⟨12 * (y 0).val + (y 1).val / 512, _⟩).val; rw [pairOf_val]; dsimp only; omega
  | ⟨1, _⟩ => show (y 1).val = 512 * ((12 * (y 0).val + (y 1).val / 512) % 12) + (y 1).val % 512; omega
  | ⟨2, _⟩ => rfl

theorem final9 : (dats m 0 c).arrAt 9 cfg0.N = resultQ (pairs m c) :=
  (dats m 0 c).arrAt_eq_of_cover 9 _ (fun t _ => flushed9 m c t) fun y => by
    obtain ⟨t, r, u, rfl⟩ := exists_point y
    exact ⟨t, flush0_9 t, by rw [← emb9]; exact ((cfg0.win 9).blk t).view.emb_mem_set _⟩

theorem final10 : (dats m 0 c).arrAt 10 cfg0.N = resultK (pairs m c) :=
  (dats m 0 c).arrAt_eq_of_cover 10 _ (fun t _ => flushed10 m c t) fun y => by
    obtain ⟨t, r, u, rfl⟩ := exists_point y
    exact ⟨t, flush0_10 t, by rw [← emb10]; exact ((cfg0.win 10).blk t).view.emb_mem_set _⟩

theorem final11 : (dats m 0 c).arrAt 11 cfg0.N = resultV (pairs m c) :=
  (dats m 0 c).arrAt_eq_of_cover 11 _ (fun t _ => flushed11 m c t) fun y => by
    obtain ⟨t, r, u, rfl⟩ := exists_point y
    exact ⟨t, flush0_11 t, by rw [← emb11]; exact ((cfg0.win 11).blk t).view.emb_mem_set _⟩

variable (ρ : Dev nD → PrngReg)

/-- The kernel's run: the three results, and the arguments as they were. -/
theorem run_value : θ_run defs (onTc (τ := τ) (main (F := Ideal))) ⟨m, fun _ => 0, ρ⟩ fun r => ∀ c : Dev nD,
    (r.2.mem ((c.tc : Thread nD τ).loc main_v7_0) = resultQ (pairs m c)
      ∧ r.2.mem ((c.tc : Thread nD τ).loc main_v7_1) = resultK (pairs m c)
      ∧ r.2.mem ((c.tc : Thread nD τ).loc main_v7_2) = resultV (pairs m c))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨⟨((h.1 c).1 9).trans (final9 m c), ((h.1 c).1 10).trans (final10 m c), ((h.1 c).1 11).trans (final11 m c)⟩, h.2 c⟩)
    (θ_run_and (run_main m ρ) (unchanged m ρ))

end Cert.KernelIdeal.Rolled
-- ==== Proof.Value.Ref.lean ====
/- The reference's three results, index by index, as functions of the pairs. -/
module

public import proofs.«01_k».proof.Proof.Value.Args
public import proofs.«01_k».proof.Proof.Gen.ReferenceIdeal.Value
public import Idealize.ShloMosaic.Lib.Pointwise

@[expose] public section

set_option maxRecDepth 16384

noncomputable section

namespace Cert.ReferenceIdeal.Plain

open Idealize.ShloMosaic Idealize.SL.Sem
open Cert.ReferenceIdeal.Gen Cert.MX

/-- The greatest magnitude of every 32 rows of a column. -/
def groupMax (y : FVec Ideal S20x192x32x6144 .f32) : FVec Ideal S20x192x1x6144 .f32 :=
  shapeCast S20x192x1x6144 (multiReduction .maximumf [2] S20x192x6144 (absf y) 0xFF800000#32 reduces_S20x192x32x6144_S20x192x6144 (.inl rfl) rfl) shapeCasts_S20x192x6144_S20x192x1x6144

theorem minus_inf : Ideal.ofBits .f32 0xFF800000#32 = ⊥ := by
  simp [Ideal.ofBits, Ideal.ieee]

theorem groupMax_apply (y : FVec Ideal S20x192x32x6144 .f32) (n : Fin 20) (g : Fin 192) (u : Fin 1) (j : Fin 6144) :
    groupMax y (ix4 n g u j) = absMax (fun r => y (ix4 n g r j)) := by
  unfold absMax
  rw [← minus_inf]
  pointwise [groupMax]
  rfl

/-- Every number brought to the narrow format and back at its group's scale, from the groups' greatest magnitudes. -/
def scaled (y : FVec Ideal S20x192x32x6144 .f32) (m : FVec Ideal S20x192x1x6144 .f32) : FVec Ideal S20x192x32x6144 .bf16 :=
  have cst_43 : Ideal .f32 := Scalar.ofBits .f32 0x3B124925#32
  have v79 : FVec Ideal S20x192x1x6144 .f32 := broadcast S20x192x1x6144 cst_43
  have v80 : FVec Ideal S20x192x1x6144 .f32 := mulf m v79
  have cst_44 : Ideal .f32 := Scalar.ofBits .f32 0x00000000#32
  have v81 : FVec Ideal S20x192x1x6144 .f32 := broadcast S20x192x1x6144 cst_44
  have v82 : IVec S20x192x1x6144 1 := cmpf .oeq m v81
  have v83 : FVec Ideal S20x192x1x6144 .f32 := log v80
  have cst_45 : Ideal .f32 := Named.named κ "ln2" 0x3F317218#32
  have v84 : FVec Ideal S20x192x1x6144 .f32 := broadcast S20x192x1x6144 cst_45
  have v85 : FVec Ideal S20x192x1x6144 .f32 := divf v83 v84
  have v86 : FVec Ideal S20x192x1x6144 .f32 := floor v85
  have cst_46 : Ideal .f32 := Scalar.ofBits .f32 0x3F800000#32
  have v87 : FVec Ideal S20x192x1x6144 .f32 := broadcast S20x192x1x6144 cst_46
  have v88 : FVec Ideal S20x192x1x6144 .f32 := addf v86 v87
  have cst_47 : Ideal .f32 := Scalar.ofBits .f32 0x00000000#32
  have v89 : FVec Ideal S20x192x1x6144 .f32 := broadcast S20x192x1x6144 cst_47
  have v90 : FVec Ideal S20x192x1x6144 .f32 := select v82 v89 v88
  have cst_48 : Ideal .f32 := Scalar.ofBits .f32 0x00000000#32
  have v91 : FVec Ideal S20x192x1x6144 .f32 := broadcast S20x192x1x6144 cst_48
  have v92 : FVec Ideal S20x192x1x6144 .f32 := subf v91 v90
  have v93 : FVec Ideal S20x192x1x6144 .f32 := exp2 v92
  have v94 : FVec Ideal S20x192x32x6144 .f32 := broadcastTo S20x192x32x6144 v93 broadcasts_S20x192x1x6144_S20x192x32x6144
  have v95 : FVec Ideal S20x192x32x6144 .f32 := mulf y v94
  have cst_49 : Ideal .f32 := Scalar.ofBits .f32 0xC3E00000#32
  have cst_50 : Ideal .f32 := Scalar.ofBits .f32 0x43E00000#32
  have v96 : FVec Ideal S20x192x32x6144 .f32 := broadcast S20x192x32x6144 cst_49
  have v97 : FVec Ideal S20x192x32x6144 .f32 := maximumf v96 v95
  have v98 : FVec Ideal S20x192x32x6144 .f32 := broadcast S20x192x32x6144 cst_50
  have v99 : FVec Ideal S20x192x32x6144 .f32 := minimumf v98 v97
  have v100 : FVec Ideal S20x192x32x6144 .fp8e4m3 := truncf .fp8e4m3 v99 bitsLt_fp8e4m3_f32
  have v101 : FVec Ideal S20x192x32x6144 .bf16 := extf .bf16 v100 bitsLt_fp8e4m3_bf16
  have v102 : FVec Ideal S20x192x1x6144 .f32 := exp2 v90
  have v103 : FVec Ideal S20x192x1x6144 .bf16 := truncf .bf16 v102 bitsLt_bf16_f32
  have v104 : FVec Ideal S20x192x32x6144 .bf16 := broadcastTo S20x192x32x6144 v103 broadcasts_S20x192x1x6144_S20x192x32x6144
  have v105 : FVec Ideal S20x192x32x6144 .bf16 := mulf v101 v104
  have cst_51 : Ideal .f32 := Scalar.ofBits .f32 0x7F000000#32
  have v106 : FVec Ideal S20x192x1x6144 .f32 := broadcast S20x192x1x6144 cst_51
  have v107 : IVec S20x192x1x6144 1 := cmpf .oge v80 v106
  have cst_52 : Ideal .f32 := Scalar.ofBits .f32 0x7F800000#32
  have v108 : FVec Ideal S20x192x1x6144 .f32 := broadcast S20x192x1x6144 cst_52
  have v109 : IVec S20x192x1x6144 1 := cmpf .olt v80 v108
  have v110 : IVec S20x192x1x6144 1 := andi v107 v109
  have cst_53 : Ideal .f32 := Scalar.ofBits .f32 0xFF800000#32
  have cst_54 : Ideal .f32 := Scalar.ofBits .f32 0x00000000#32
  have v111 : FVec Ideal S20x192x1x6144 .f32 := broadcast S20x192x1x6144 cst_53
  have v112 : FVec Ideal S20x192x1x6144 .f32 := broadcast S20x192x1x6144 cst_54
  have v113 : FVec Ideal S20x192x1x6144 .f32 := select v110 v111 v112
  have v114 : FVec Ideal S20x192x32x6144 .f32 := broadcastTo S20x192x32x6144 v113 broadcasts_S20x192x1x6144_S20x192x32x6144
  have v115 : FVec Ideal S20x192x32x6144 .f32 := mulf y v114
  have v116 : FVec Ideal S20x192x32x6144 .bf16 := truncf .bf16 v115 bitsLt_bf16_f32
  have cst_55 : Ideal .f32 := Scalar.ofBits .f32 0x7E800000#32
  have v117 : FVec Ideal S20x192x1x6144 .f32 := broadcast S20x192x1x6144 cst_55
  have v118 : IVec S20x192x1x6144 1 := cmpf .olt v80 v117
  have v119 : IVec S20x192x1x6144 1 := shapeCast S20x192x1x6144 v118 shapeCasts_S20x192x1x6144_S20x192x1x6144
  have v120 : IVec S20x192x32x6144 1 := broadcastTo S20x192x32x6144 v119 broadcasts_S20x192x1x6144_S20x192x32x6144
  have v121 : FVec Ideal S20x192x32x6144 .bf16 := select v120 v105 v116
  v121

theorem pay10_eq (y : FVec Ideal S20x192x32x6144 .f32) : k0_pay10 y = scaled y (groupMax y) := rfl

theorem cut_bits : Ideal.ofBits .f32 0x7E800000#32 = (((2 : ℝ) ^ (126 : ℤ) : ℝ) : EReal) := by
  simp [Ideal.ofBits, Ideal.ieee, -EReal.coe_mul, -EReal.coe_pow]
  norm_num [-EReal.coe_mul, -EReal.coe_pow]

theorem lost_bits : Ideal.ofBits .f32 0x7F000000#32 = (((2 : ℝ) ^ (127 : ℤ) : ℝ) : EReal) := by
  simp [Ideal.ofBits, Ideal.ieee, -EReal.coe_mul, -EReal.coe_pow]
  norm_num [-EReal.coe_mul, -EReal.coe_pow]

theorem inf_bits : Ideal.ofBits .f32 0x7F800000#32 = ⊤ := by
  simp [Ideal.ofBits, Ideal.ieee]

theorem ln2_eq : (Named.named κ "ln2" 0x3F317218#32 : Ideal .f32) = ((Real.log 2 : ℝ) : EReal) := rfl

/-- Under the cut the number comes back whole; above it the two largest powers lose it. -/
theorem scaled_apply (y : FVec Ideal S20x192x32x6144 .f32) (m : FVec Ideal S20x192x1x6144 .f32) (n : Fin 20) (g : Fin 192) (r : Fin 32) (j : Fin 6144)
    (h1 : y (ix4 n g r j) ≤ m (ix4 n g 0 j)) (h2 : -y (ix4 n g r j) ≤ m (ix4 n g 0 j)) :
    scaled y m (ix4 n g r j) = kept (m (ix4 n g 0 j) * unit) (y (ix4 n g r j)) := by
  pointwise [scaled]
  rw [cut_bits, lost_bits, inf_bits, minus_inf, ln2_eq, top_bits, bottom_bits]
  have back := reference_kept _ _ h1 h2
  unfold there exponent at back
  unfold unit at back ⊢
  generalize m (ix4 n g 0 j) = a at *
  generalize y (ix4 n g r j) = b at *
  generalize a * Ideal.ofBits .f32 0x3B124925#32 = c at *
  by_cases h : c < (((2 : ℝ) ^ (126 : ℤ) : ℝ) : EReal)
  · rw [if_pos h, kept_low h]
    exact back h
  · rw [if_neg h, kept, if_neg h]
    by_cases u : (((2 : ℝ) ^ (127 : ℤ) : ℝ) : EReal) ≤ c
    · by_cases v : c < ⊤
      · rw [if_pos ⟨u, v⟩, decide_eq_true u, decide_eq_true v]; rfl
      · rw [if_neg (fun h => v h.2), decide_eq_true u, decide_eq_false v, mul_zero]; rfl
    · rw [if_neg (fun h => u h.1), decide_eq_false u, mul_zero]
      by_cases v : c < ⊤
      · rw [decide_eq_true v]; rfl
      · rw [decide_eq_false v]; rfl

theorem pay10_apply (y : FVec Ideal S20x192x32x6144 .f32) (n : Fin 20) (g : Fin 192) (r : Fin 32) (j : Fin 6144) :
    k0_pay10 y (ix4 n g r j) = kept (absMax (fun r => y (ix4 n g r j)) * unit) (y (ix4 n g r j)) := by
  obtain ⟨h1, h2⟩ := le_absMax (fun r => y (ix4 n g r j)) r
  rw [← groupMax_apply y n g 0 j] at h1 h2 ⊢
  rw [pay10_eq]
  exact scaled_apply y _ n g r j h1 h2

theorem word_toInt (n : ℕ) (h : n < 65536) : (BitVec.ofNat 32 n).toInt = n := by
  have e : (BitVec.ofNat 32 n).toNat = n := by
    rw [BitVec.toNat_ofNat, Nat.mod_eq_of_lt (by omega)]
  rw [BitVec.toInt_eq_toNat_of_lt (by rw [e]; omega), e]

theorem select_le {α : Type} (i j : Fin 6144) (x y : α) :
    Scalar.select (IntOp.cmpi .sle (BitVec.ofNat 32 j.val) (BitVec.ofNat 32 i.val)) x y = if j ≤ i then x else y := by
  have e : IntOp.cmpi .sle (BitVec.ofNat 32 j.val) (BitVec.ofNat 32 i.val) = BitVec.ofBool (decide (j.val ≤ i.val)) := by
    simp only [IntOp.cmpi, BitVec.sle, word_toInt _ (by omega : j.val < 65536), word_toInt _ (by omega : i.val < 65536), Nat.cast_le]
  rw [e]
  by_cases h : j ≤ i
  · rw [if_pos h, decide_eq_true (show j.val ≤ i.val from h)]; rfl
  · rw [if_neg h, decide_eq_false (show ¬ j.val ≤ i.val from h)]; rfl

theorem pay4_apply (v0 v1 : FVec Ideal S20x6144x256 .bf16) (v7 : FVec Ideal S20x6144 .f32) (n : Fin 20) (i j : Fin 6144) :
    k0_pay4 (F := Ideal) v0 v1 v7 (ix3 n i j) = Ideal.exp (if j ≤ i then scale * (∑ x, v0 (ix3 n i x) * v1 (ix3 n j x)) - v7 (ix2 n i) else ⊥) := by
  pointwise [k0_pay4, scale]
  rw [select_le, minus_inf]

theorem pay5_apply (v0 v1 v2 v3 : FVec Ideal S20x6144x256 .bf16) (v7 v8 : FVec Ideal S20x6144 .f32) (n : Fin 20) (i j : Fin 6144) :
    k0_pay5 (F := Ideal) v0 v1 v2 v3 v7 v8 (ix3 n i j) = k0_pay4 (F := Ideal) v0 v1 v7 (ix3 n i j) * ((∑ x, v2 (ix3 n i x) * v3 (ix3 n j x)) - v8 (ix2 n i)) := by
  unfold k0_pay5
  generalize k0_pay4 (F := Ideal) v0 v1 v7 = p
  pointwise

theorem split_apply (y : FVec Ideal S20x6144x6144 .f32) (n : Fin 20) (g : Fin 192) (r : Fin 32) (j : Fin 6144) (i : Fin 6144) (h : i.val = 32 * g.val + r.val) :
    shapeCast S20x192x32x6144 y shapeCasts_S20x6144x6144_S20x192x32x6144 (ix4 n g r j) = y (ix3 n i j) := by
  pointwise
  refine congrArg y (congrArg (fun k => ix3 n k j) (Fin.ext ?_))
  show g.val * 32 + r.val = i.val
  omega

theorem pay2_apply (v5 : FVec Ideal S20x6144x256 .bf16) (y : FVec Ideal S20x192x32x6144 .bf16) (n : Fin 20) (j : Fin 6144) (x : Fin 256) :
    k0_pay2 v5 y (ix3 n j x) = scale * ∑ i : Fin 6144, y (ix4 n ⟨i.val / 32, by omega⟩ ⟨i.val % 32, Nat.mod_lt _ (by decide)⟩ j) * v5 (ix3 n i x) := by
  pointwise [k0_pay2, scale]

theorem pay1_apply (v6 : FVec Ideal S20x6144x256 .bf16) (y : FVec Ideal S20x6144x6144 .f32) (n : Fin 20) (i : Fin 6144) (x : Fin 256) :
    k0_pay1 v6 y (ix3 n i x) = scale * ∑ j : Fin 6144, y (ix3 n i j) * v6 (ix3 n j x) := by
  pointwise [k0_pay1, scale]

/-- The value gradient: the key gradient's sum before it is scaled. -/
def gathered (v4 : FVec Ideal S20x6144x256 .bf16) (y : FVec Ideal S20x192x32x6144 .bf16) : FVec Ideal S20x6144x256 .f32 :=
  matmul dot_S20x6144x6144_S20x6144x256_S20x6144x256_1_1_2_2_0_0 none (shapeCast S20x6144x6144 y shapeCasts_S20x192x32x6144_S20x6144x6144) v4 (constant S20x6144x256 .f32 0x00000000#32)

theorem pay8_eq (v4 : FVec Ideal S20x6144x256 .bf16) (y : FVec Ideal S20x192x32x6144 .f32) : k0_pay8 v4 y (groupMax y) = gathered v4 (k0_pay10 y) := rfl

theorem pay7_eq (v0 v1 : FVec Ideal S20x6144x256 .bf16) (v7 : FVec Ideal S20x6144 .f32) : k0_pay7 v0 v1 v7 = groupMax (k0_pay6 v0 v1 v7) := rfl

theorem gathered_apply (v4 : FVec Ideal S20x6144x256 .bf16) (y : FVec Ideal S20x192x32x6144 .bf16) (n : Fin 20) (j : Fin 6144) (x : Fin 256) :
    gathered v4 y (ix3 n j x) = ∑ i : Fin 6144, y (ix4 n ⟨i.val / 32, by omega⟩ ⟨i.val % 32, Nat.mod_lt _ (by decide)⟩ j) * v4 (ix3 n i x) := by
  pointwise [gathered]

/-! ## The results -/

section
variable (a0 a1 a2 a3 a4 a5 a6 : FVec Ideal S20x6144x256 .bf16) (a7 a8 : FVec Ideal S20x6144 .f32)

/-- The pairs of the launch. -/
def pairs : Fin 20 → Pair :=
  Pair.of (fun n i x => a0 (ix3 n i x)) (fun n i x => a1 (ix3 n i x)) (fun n i x => a2 (ix3 n i x)) (fun n i x => a3 (ix3 n i x))
    (fun n i x => a4 (ix3 n i x)) (fun n i x => a5 (ix3 n i x)) (fun n i x => a6 (ix3 n i x)) (fun n i => a7 (ix2 n i)) (fun n i => a8 (ix2 n i))

local notation "P" => pairs a0 a1 a2 a3 a4 a5 a6 a7 a8

theorem prob_eq (n : Fin 20) (i j : Fin 6144) : k0_pay4 (F := Ideal) a0 a1 a7 (ix3 n i j) = (P n).prob i j := by
  rw [pay4_apply, ← scale_sum]
  rfl

theorem ld_whole (a : Vec Ideal S20x6144x256 .bf16) : View.ld a r0_0 = a := View.ld_unit_zero (S := S20x6144x256) Value.hz0 _ a
theorem ld_rows (a : Vec Ideal S20x6144 .f32) : View.ld a r0_1 = a := View.ld_unit_zero (S := S20x6144) Value.hz7 _ a

theorem grad_eq (n : Fin 20) (i j : Fin 6144) : k0_pay11 (F := Ideal) a0 a1 a2 a3 a4 a5 a6 a7 a8 (ix3 n i j) = (P n).grad i j := by
  have e : k0_pay11 (F := Ideal) a0 a1 a2 a3 a4 a5 a6 a7 a8 = k0_pay5 a0 a1 a2 a3 a7 a8 := by
    unfold k0_pay11
    rw [ld_whole, ld_whole, ld_whole, ld_whole, ld_rows, ld_rows]
  rw [e, pay5_apply, prob_eq a0 a1 a2 a3 a4 a5 a6 a7 a8]
  rfl

/-- Row `i` of a column is row `i % 32` of group `i / 32`, and the group's rows are its mates. -/
theorem mx_eq (f : Fin 6144 → Fin 6144 → EReal) (y : FVec Ideal S20x6144x6144 .f32) (n : Fin 20) (h : ∀ i j, y (ix3 n i j) = f i j) (i j : Fin 6144) :
    k0_pay10 (shapeCast S20x192x32x6144 y shapeCasts_S20x6144x6144_S20x192x32x6144)
      (ix4 n (⟨i.val / 32, by omega⟩ : Fin 192) (⟨i.val % 32, Nat.mod_lt _ (by decide)⟩ : Fin 32) j) = mx f i j := by
  rw [pay10_apply, split_apply y n _ _ j i (by show i.val = 32 * (i.val / 32) + i.val % 32; omega), h]
  refine congrArg (fun q => kept (absMax q * unit) (f i j)) (funext fun r => ?_)
  rw [split_apply y n _ r j (mate i r) (by rfl), h]

theorem G9_eq : Value.G9 (F := Ideal) a0 a1 a2 a3 a4 a5 a6 a7 a8 = fun y => scale * (P (y 0)).dq (y 1) (y 2) := by
  funext y
  obtain ⟨n, i, x, rfl⟩ : ∃ n i x, y = ix3 n i x := ⟨y 0, y 1, y 2, eq_ix3 y⟩
  refine (pay1_apply a6 _ n i x).trans (congrArg (scale * ·) (Finset.sum_congr rfl fun j _ => ?_))
  rw [grad_eq]
  rfl

theorem G10_eq : Value.G10 (F := Ideal) a0 a1 a2 a3 a4 a5 a6 a7 a8 = fun y => scale * (P (y 0)).dk (y 1) (y 2) := by
  funext y
  obtain ⟨n, j, x, rfl⟩ : ∃ n i x, y = ix3 n i x := ⟨y 0, y 1, y 2, eq_ix3 y⟩
  refine (pay2_apply a5 _ n j x).trans (congrArg (scale * ·) (Finset.sum_congr rfl fun i _ => ?_))
  rw [mul_comm]
  exact congrArg (a5 (ix3 n i x) * ·) (mx_eq _ _ n (grad_eq a0 a1 a2 a3 a4 a5 a6 a7 a8 n) i j)

theorem G11_eq : Value.G11 (F := Ideal) a0 a1 a2 a3 a4 a5 a6 a7 a8 = fun y => (P (y 0)).dv (y 1) (y 2) := by
  funext y
  obtain ⟨n, j, x, rfl⟩ : ∃ n i x, y = ix3 n i x := ⟨y 0, y 1, y 2, eq_ix3 y⟩
  refine (gathered_apply a4 _ n j x).trans (Finset.sum_congr rfl fun i _ => ?_)
  rw [mul_comm]
  exact congrArg (a4 (ix3 n i x) * ·) (mx_eq _ _ n (prob_eq a0 a1 a2 a3 a4 a5 a6 a7 a8 n) i j)

end

end Cert.ReferenceIdeal.Plain
-- ==== Proof.Value.Equation.lean ====
/- The kernel and the reference leave the same three arrays. -/
module

public import proofs.«01_k».proof.Defs
public import proofs.«01_k».proof.Proof.Value.Grid
public import proofs.«01_k».proof.Proof.Value.Ref

@[expose] public section

noncomputable section

namespace Cert.Proof

open Idealize.ShloMosaic Idealize.SL.Sem

/-- The kernel's pairs are the reference's, of the same arguments. -/
theorem pairs_eq (m : (ℓ : Loc Cert.KernelIdeal.nD Cert.KernelIdeal.τ Cert.KernelIdeal.sig) → Buf (Elt Ideal) ℓ) (c : Dev Cert.KernelIdeal.nD)
    {a0 a1 a2 a3 a4 a5 a6 : FVec Ideal Cert.ReferenceIdeal.S20x6144x256 .bf16} {a7 a8 : FVec Ideal Cert.ReferenceIdeal.S20x6144 .f32}
    (h0 : a0 = Cert.KernelIdeal.Rolled.arg0 m c) (h1 : a1 = Cert.KernelIdeal.Rolled.arg1 m c) (h2 : a2 = Cert.KernelIdeal.Rolled.arg2 m c)
    (h3 : a3 = Cert.KernelIdeal.Rolled.arg3 m c) (h4 : a4 = Cert.KernelIdeal.Rolled.arg4 m c) (h5 : a5 = Cert.KernelIdeal.Rolled.arg5 m c)
    (h6 : a6 = Cert.KernelIdeal.Rolled.arg6 m c) (h7 : a7 = Cert.KernelIdeal.Rolled.arg7 m c) (h8 : a8 = Cert.KernelIdeal.Rolled.arg8 m c) :
    Cert.ReferenceIdeal.Plain.pairs a0 a1 a2 a3 a4 a5 a6 a7 a8 = Cert.KernelIdeal.Rolled.pairs m c := by
  rw [h0, h1, h2, h3, h4, h5, h6, h7, h8]
  rfl

theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Rolled.resultQ (Cert.KernelIdeal.Rolled.pairs m c), fun c => Cert.KernelIdeal.Rolled.resultK (Cert.KernelIdeal.Rolled.pairs m c),
    fun c => Cert.KernelIdeal.Rolled.resultV (Cert.KernelIdeal.Rolled.pairs m c),
    (θ_run _ _ _).mono (fun r hr c => ⟨(hr c).1.1, (hr c).1.2.1, (hr c).1.2.2, (hr c).2⟩) (Cert.KernelIdeal.Rolled.run_value m g),
    (θ_run _ _ _).mono (fun r hr c => ?_) (Cert.ReferenceIdeal.Value.run m' g')⟩
  obtain ⟨e0, e1, e2, rest⟩ := hr c
  obtain ⟨b0, b1, b2, b3, b4, b5, b6, b7, b8⟩ := h c
  have hp := pairs_eq m c b0 b1 b2 b3 b4 b5 b6 b7 b8
  refine ⟨e0.trans ((Cert.ReferenceIdeal.Plain.G9_eq _ _ _ _ _ _ _ _ _).trans ?_), e1.trans ((Cert.ReferenceIdeal.Plain.G10_eq _ _ _ _ _ _ _ _ _).trans ?_),
    e2.trans ((Cert.ReferenceIdeal.Plain.G11_eq _ _ _ _ _ _ _ _ _).trans ?_), rest⟩
  · rw [hp]; rfl
  · rw [hp]; rfl
  · rw [hp]; rfl

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Value.Equation

@[expose] public section

noncomputable section

namespace Cert.Proof

theorem claim : Cert.Claim := ⟨Cert.Kernel.Gen.facts, Cert.KernelIdeal.Gen.facts, Cert.ReferenceIdeal.Gen.facts,
  fun m ρ _ => Cert.Kernel.Rolled.frame m ρ, fun m ρ _ => Cert.KernelIdeal.Rolled.frame m ρ,
  fun m ρ _ => Cert.ReferenceIdeal.Gen.frame m ρ, trivial, algebraic⟩

end Cert.Proof

end
